-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![64, 16384]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![16384, 4096]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 2048]⟩ ⟨2, ![4096, 16384]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![16384, 4096]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![4096, 16384]⟩ 1 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 4096]⟩ ⟨2, ![16384, 4096]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![4096, 16384]⟩ 1 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![64, 16384]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S2x2048x512 : Shape := ⟨3, ![2, 2048, 512]⟩
abbrev S2x512x2048 : Shape := ⟨3, ![2, 512, 2048]⟩
abbrev S64x512 : Shape := ⟨2, ![64, 512]⟩
abbrev S3x8x64x512 : Shape := ⟨4, ![3, 8, 64, 512]⟩
abbrev S2 : Shape := ⟨1, ![2]⟩
abbrev S3x8 : Shape := ⟨2, ![3, 8]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩
abbrev S1x1x64x512 : Shape := ⟨4, ![1, 1, 64, 512]⟩
abbrev S1x1 : Shape := ⟨2, ![1, 1]⟩
abbrev S1x512x2048 : Shape := ⟨3, ![1, 512, 2048]⟩
abbrev S512x2048 : Shape := ⟨2, ![512, 2048]⟩

abbrev nBuf : Space → Nat
  | .hbm => 8
  | .vmem => 11
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S4096x2048, .f32⟩
  | .hbm, ⟨3, _⟩ => ⟨S2048x4096, .f32⟩
  | .hbm, ⟨4, _⟩ => ⟨S4096x2048, .f32⟩
  | .hbm, ⟨5, _⟩ => ⟨S2048x4096, .f32⟩
  | .hbm, ⟨6, _⟩ => ⟨S4096x2048, .f32⟩
  | .hbm, ⟨7, _⟩ => ⟨S64x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .bf16⟩
  | .local _ .vmem, ⟨3, _⟩ => ⟨S2x2048x512, .f32⟩
  | .local _ .vmem, ⟨4, _⟩ => ⟨S2x512x2048, .f32⟩
  | .local _ .vmem, ⟨5, _⟩ => ⟨S64x512, .f32⟩
  | .local _ .vmem, ⟨6, _⟩ => ⟨S64x2048, .f32⟩
  | .local _ .vmem, ⟨7, _⟩ => ⟨S64x512, .bf16⟩
  | .local _ .vmem, ⟨8, _⟩ => ⟨S3x8x64x512, .bf16⟩
  | .local _ .vmem, ⟨9, _⟩ => ⟨S3x8x64x512, .bf16⟩
  | .local _ .vmem, ⟨10, _⟩ => ⟨S3x8x64x512, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 1 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  let v33 : BitVec 1 := Scalar.cmpi .ne v2 c0_i32_37
  let v34 : BitVec 32 := Scalar.extui v33
  let c0_i32_38 : BitVec 32 := 0#32
  let v35 : BitVec 1 := Scalar.cmpi .ne v34 c0_i32_38
  v35

def k0_off1 (d0 : Dev nD) : Fin 2 → Nat :=
  let c0_i32_1394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off2 (d0 : Dev nD) : Fin 4 → Nat :=
  let c0_i32_1393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![0, v2.toNat, 0, 0]
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_57 : BitVec 32 := 1#32
  let v54 : BitVec 1 := Scalar.cmpi .ne v2 c1_i32_57
  let v55 : BitVec 32 := Scalar.extui v54
  let c0_i32_58 : BitVec 32 := 0#32
  let v56 : BitVec 1 := Scalar.cmpi .ne v55 c0_i32_58
  v56

def k0_off3 (d0 : Dev nD) : Fin 2 → Nat :=
  let c0_i32_1394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off4 (d0 : Dev nD) : Fin 4 → Nat :=
  let c0_i32_1393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![0, v2.toNat, 0, 0]
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_78 : BitVec 32 := 2#32
  let v75 : BitVec 1 := Scalar.cmpi .ne v2 c2_i32_78
  let v76 : BitVec 32 := Scalar.extui v75
  let c0_i32_79 : BitVec 32 := 0#32
  let v77 : BitVec 1 := Scalar.cmpi .ne v76 c0_i32_79
  v77

def k0_off5 (d0 : Dev nD) : Fin 2 → Nat :=
  let c0_i32_1394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off6 (d0 : Dev nD) : Fin 4 → Nat :=
  let c0_i32_1393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![0, v2.toNat, 0, 0]
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_99 : BitVec 32 := 3#32
  let v96 : BitVec 1 := Scalar.cmpi .ne v2 c3_i32_99
  let v97 : BitVec 32 := Scalar.extui v96
  let c0_i32_100 : BitVec 32 := 0#32
  let v98 : BitVec 1 := Scalar.cmpi .ne v97 c0_i32_100
  v98

def k0_off7 (d0 : Dev nD) : Fin 2 → Nat :=
  let c0_i32_1394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off8 (d0 : Dev nD) : Fin 4 → Nat :=
  let c0_i32_1393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![0, v2.toNat, 0, 0]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v117 : BitVec 1 := Scalar.cmpi .ne v2 c4_i32_120
  let v118 : BitVec 32 := Scalar.extui v117
  let c0_i32_121 : BitVec 32 := 0#32
  let v119 : BitVec 1 := Scalar.cmpi .ne v118 c0_i32_121
  v119

def k0_off9 (d0 : Dev nD) : Fin 2 → Nat :=
  let c0_i32_1394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off10 (d0 : Dev nD) : Fin 4 → Nat :=
  let c0_i32_1393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![0, v2.toNat, 0, 0]
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_141 : BitVec 32 := 5#32
  let v138 : BitVec 1 := Scalar.cmpi .ne v2 c5_i32_141
  let v139 : BitVec 32 := Scalar.extui v138
  let c0_i32_142 : BitVec 32 := 0#32
  let v140 : BitVec 1 := Scalar.cmpi .ne v139 c0_i32_142
  v140

def k0_off11 (d0 : Dev nD) : Fin 2 → Nat :=
  let c0_i32_1394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off12 (d0 : Dev nD) : Fin 4 → Nat :=
  let c0_i32_1393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![0, v2.toNat, 0, 0]
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_162 : BitVec 32 := 6#32
  let v159 : BitVec 1 := Scalar.cmpi .ne v2 c6_i32_162
  let v160 : BitVec 32 := Scalar.extui v159
  let c0_i32_163 : BitVec 32 := 0#32
  let v161 : BitVec 1 := Scalar.cmpi .ne v160 c0_i32_163
  v161

def k0_off13 (d0 : Dev nD) : Fin 2 → Nat :=
  let c0_i32_1394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off14 (d0 : Dev nD) : Fin 4 → Nat :=
  let c0_i32_1393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![0, v2.toNat, 0, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_184 : BitVec 32 := 7#32
  let v180 : BitVec 1 := Scalar.cmpi .ne v2 c7_i32_184
  let v181 : BitVec 32 := Scalar.extui v180
  let c0_i32_185 : BitVec 32 := 0#32
  let v182 : BitVec 1 := Scalar.cmpi .ne v181 c0_i32_185
  v182

def k0_off15 (d0 : Dev nD) : Fin 2 → Nat :=
  let c0_i32_1394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off16 (d0 : Dev nD) : Fin 4 → Nat :=
  let c0_i32_1393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![0, v2.toNat, 0, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_207 : BitVec 32 := 0#32
  let v214 : BitVec 1 := Scalar.cmpi .ne v2 c0_i32_207
  let v215 : BitVec 32 := Scalar.extui v214
  let c0_i32_208 : BitVec 32 := 0#32
  let v216 : BitVec 1 := Scalar.cmpi .ne v215 c0_i32_208
  v216

def k0_off17 (d0 : Dev nD) : Fin 2 → Nat :=
  let c0_i32_1388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off18 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![0, v2.toNat, 0, 0]
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_209 : BitVec 32 := 1#32
  let v217 : BitVec 1 := Scalar.cmpi .ne v2 c1_i32_209
  let v218 : BitVec 32 := Scalar.extui v217
  let c0_i32_210 : BitVec 32 := 0#32
  let v219 : BitVec 1 := Scalar.cmpi .ne v218 c0_i32_210
  v219

def k0_off19 (d0 : Dev nD) : Fin 2 → Nat :=
  let c0_i32_1388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off20 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![0, v2.toNat, 0, 0]
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_211 : BitVec 32 := 2#32
  let v220 : BitVec 1 := Scalar.cmpi .ne v2 c2_i32_211
  let v221 : BitVec 32 := Scalar.extui v220
  let c0_i32_212 : BitVec 32 := 0#32
  let v222 : BitVec 1 := Scalar.cmpi .ne v221 c0_i32_212
  v222

def k0_off21 (d0 : Dev nD) : Fin 2 → Nat :=
  let c0_i32_1388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off22 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![0, v2.toNat, 0, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_213 : BitVec 32 := 3#32
  let v223 : BitVec 1 := Scalar.cmpi .ne v2 c3_i32_213
  let v224 : BitVec 32 := Scalar.extui v223
  let c0_i32_214 : BitVec 32 := 0#32
  let v225 : BitVec 1 := Scalar.cmpi .ne v224 c0_i32_214
  v225

def k0_off23 (d0 : Dev nD) : Fin 2 → Nat :=
  let c0_i32_1388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off24 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![0, v2.toNat, 0, 0]
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_215 : BitVec 32 := 4#32
  let v226 : BitVec 1 := Scalar.cmpi .ne v2 c4_i32_215
  let v227 : BitVec 32 := Scalar.extui v226
  let c0_i32_216 : BitVec 32 := 0#32
  let v228 : BitVec 1 := Scalar.cmpi .ne v227 c0_i32_216
  v228

def k0_off25 (d0 : Dev nD) : Fin 2 → Nat :=
  let c0_i32_1388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off26 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![0, v2.toNat, 0, 0]
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_217 : BitVec 32 := 5#32
  let v229 : BitVec 1 := Scalar.cmpi .ne v2 c5_i32_217
  let v230 : BitVec 32 := Scalar.extui v229
  let c0_i32_218 : BitVec 32 := 0#32
  let v231 : BitVec 1 := Scalar.cmpi .ne v230 c0_i32_218
  v231

def k0_off27 (d0 : Dev nD) : Fin 2 → Nat :=
  let c0_i32_1388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off28 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![0, v2.toNat, 0, 0]
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_219 : BitVec 32 := 6#32
  let v232 : BitVec 1 := Scalar.cmpi .ne v2 c6_i32_219
  let v233 : BitVec 32 := Scalar.extui v232
  let c0_i32_220 : BitVec 32 := 0#32
  let v234 : BitVec 1 := Scalar.cmpi .ne v233 c0_i32_220
  v234

def k0_off29 (d0 : Dev nD) : Fin 2 → Nat :=
  let c0_i32_1388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off30 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![0, v2.toNat, 0, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_221 : BitVec 32 := 7#32
  let v235 : BitVec 1 := Scalar.cmpi .ne v2 c7_i32_221
  let v236 : BitVec 32 := Scalar.extui v235
  let c0_i32_222 : BitVec 32 := 0#32
  let v237 : BitVec 1 := Scalar.cmpi .ne v236 c0_i32_222
  v237

def k0_off31 (d0 : Dev nD) : Fin 2 → Nat :=
  let c0_i32_1388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off32 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![0, v2.toNat, 0, 0]
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_451 : BitVec 32 := 0#32
  let v457 : BitVec 1 := Scalar.cmpi .ne v2 c0_i32_451
  let v458 : BitVec 32 := Scalar.extui v457
  let c0_i32_452 : BitVec 32 := 0#32
  let v459 : BitVec 1 := Scalar.cmpi .ne v458 c0_i32_452
  v459

def k0_off33 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![0, v2.toNat, 0, 0]
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_453 : BitVec 32 := 1#32
  let v460 : BitVec 1 := Scalar.cmpi .ne v2 c1_i32_453
  let v461 : BitVec 32 := Scalar.extui v460
  let c0_i32_454 : BitVec 32 := 0#32
  let v462 : BitVec 1 := Scalar.cmpi .ne v461 c0_i32_454
  v462

def k0_off34 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![0, v2.toNat, 0, 0]
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_455 : BitVec 32 := 2#32
  let v463 : BitVec 1 := Scalar.cmpi .ne v2 c2_i32_455
  let v464 : BitVec 32 := Scalar.extui v463
  let c0_i32_456 : BitVec 32 := 0#32
  let v465 : BitVec 1 := Scalar.cmpi .ne v464 c0_i32_456
  v465

def k0_off35 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![0, v2.toNat, 0, 0]
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_457 : BitVec 32 := 3#32
  let v466 : BitVec 1 := Scalar.cmpi .ne v2 c3_i32_457
  let v467 : BitVec 32 := Scalar.extui v466
  let c0_i32_458 : BitVec 32 := 0#32
  let v468 : BitVec 1 := Scalar.cmpi .ne v467 c0_i32_458
  v468

def k0_off36 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![0, v2.toNat, 0, 0]
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_459 : BitVec 32 := 4#32
  let v469 : BitVec 1 := Scalar.cmpi .ne v2 c4_i32_459
  let v470 : BitVec 32 := Scalar.extui v469
  let c0_i32_460 : BitVec 32 := 0#32
  let v471 : BitVec 1 := Scalar.cmpi .ne v470 c0_i32_460
  v471

def k0_off37 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![0, v2.toNat, 0, 0]
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_461 : BitVec 32 := 5#32
  let v472 : BitVec 1 := Scalar.cmpi .ne v2 c5_i32_461
  let v473 : BitVec 32 := Scalar.extui v472
  let c0_i32_462 : BitVec 32 := 0#32
  let v474 : BitVec 1 := Scalar.cmpi .ne v473 c0_i32_462
  v474

def k0_off38 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![0, v2.toNat, 0, 0]
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_463 : BitVec 32 := 6#32
  let v475 : BitVec 1 := Scalar.cmpi .ne v2 c6_i32_463
  let v476 : BitVec 32 := Scalar.extui v475
  let c0_i32_464 : BitVec 32 := 0#32
  let v477 : BitVec 1 := Scalar.cmpi .ne v476 c0_i32_464
  v477

def k0_off39 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![0, v2.toNat, 0, 0]
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_465 : BitVec 32 := 7#32
  let v478 : BitVec 1 := Scalar.cmpi .ne v2 c7_i32_465
  let v479 : BitVec 32 := Scalar.extui v478
  let c0_i32_466 : BitVec 32 := 0#32
  let v480 : BitVec 1 := Scalar.cmpi .ne v479 c0_i32_466
  v480

def k0_off40 (d0 : Dev nD) : Fin 4 → Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![0, v2.toNat, 0, 0]
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_487 : BitVec 32 := 0#32
  let v499 : BitVec 1 := Scalar.cmpi .ne v2 c0_i32_487
  let v500 : BitVec 32 := Scalar.extui v499
  let c0_i32_488 : BitVec 32 := 0#32
  let v501 : BitVec 1 := Scalar.cmpi .ne v500 c0_i32_488
  v501

def k0_off41 (d0 : Dev nD) : Fin 2 → Nat :=
  let c1_i32_1394 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off42 (d0 : Dev nD) : Fin 4 → Nat :=
  let c1_i32_1393 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![1, v2.toNat, 0, 0]
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_509 : BitVec 32 := 1#32
  let v520 : BitVec 1 := Scalar.cmpi .ne v2 c1_i32_509
  let v521 : BitVec 32 := Scalar.extui v520
  let c0_i32_510 : BitVec 32 := 0#32
  let v522 : BitVec 1 := Scalar.cmpi .ne v521 c0_i32_510
  v522

def k0_off43 (d0 : Dev nD) : Fin 2 → Nat :=
  let c1_i32_1394 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off44 (d0 : Dev nD) : Fin 4 → Nat :=
  let c1_i32_1393 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![1, v2.toNat, 0, 0]
def k0_cond54 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_531 : BitVec 32 := 2#32
  let v541 : BitVec 1 := Scalar.cmpi .ne v2 c2_i32_531
  let v542 : BitVec 32 := Scalar.extui v541
  let c0_i32_532 : BitVec 32 := 0#32
  let v543 : BitVec 1 := Scalar.cmpi .ne v542 c0_i32_532
  v543

def k0_off45 (d0 : Dev nD) : Fin 2 → Nat :=
  let c1_i32_1394 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off46 (d0 : Dev nD) : Fin 4 → Nat :=
  let c1_i32_1393 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![1, v2.toNat, 0, 0]
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_553 : BitVec 32 := 3#32
  let v562 : BitVec 1 := Scalar.cmpi .ne v2 c3_i32_553
  let v563 : BitVec 32 := Scalar.extui v562
  let c0_i32_554 : BitVec 32 := 0#32
  let v564 : BitVec 1 := Scalar.cmpi .ne v563 c0_i32_554
  v564

def k0_off47 (d0 : Dev nD) : Fin 2 → Nat :=
  let c1_i32_1394 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off48 (d0 : Dev nD) : Fin 4 → Nat :=
  let c1_i32_1393 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![1, v2.toNat, 0, 0]
def k0_cond58 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_575 : BitVec 32 := 4#32
  let v583 : BitVec 1 := Scalar.cmpi .ne v2 c4_i32_575
  let v584 : BitVec 32 := Scalar.extui v583
  let c0_i32_576 : BitVec 32 := 0#32
  let v585 : BitVec 1 := Scalar.cmpi .ne v584 c0_i32_576
  v585

def k0_off49 (d0 : Dev nD) : Fin 2 → Nat :=
  let c1_i32_1394 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off50 (d0 : Dev nD) : Fin 4 → Nat :=
  let c1_i32_1393 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![1, v2.toNat, 0, 0]
def k0_cond60 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_597 : BitVec 32 := 5#32
  let v604 : BitVec 1 := Scalar.cmpi .ne v2 c5_i32_597
  let v605 : BitVec 32 := Scalar.extui v604
  let c0_i32_598 : BitVec 32 := 0#32
  let v606 : BitVec 1 := Scalar.cmpi .ne v605 c0_i32_598
  v606

def k0_off51 (d0 : Dev nD) : Fin 2 → Nat :=
  let c1_i32_1394 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off52 (d0 : Dev nD) : Fin 4 → Nat :=
  let c1_i32_1393 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![1, v2.toNat, 0, 0]
def k0_cond62 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_619 : BitVec 32 := 6#32
  let v625 : BitVec 1 := Scalar.cmpi .ne v2 c6_i32_619
  let v626 : BitVec 32 := Scalar.extui v625
  let c0_i32_620 : BitVec 32 := 0#32
  let v627 : BitVec 1 := Scalar.cmpi .ne v626 c0_i32_620
  v627

def k0_off53 (d0 : Dev nD) : Fin 2 → Nat :=
  let c1_i32_1394 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off54 (d0 : Dev nD) : Fin 4 → Nat :=
  let c1_i32_1393 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![1, v2.toNat, 0, 0]
def k0_cond64 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_641 : BitVec 32 := 7#32
  let v646 : BitVec 1 := Scalar.cmpi .ne v2 c7_i32_641
  let v647 : BitVec 32 := Scalar.extui v646
  let c0_i32_642 : BitVec 32 := 0#32
  let v648 : BitVec 1 := Scalar.cmpi .ne v647 c0_i32_642
  v648

def k0_off55 (d0 : Dev nD) : Fin 2 → Nat :=
  let c1_i32_1394 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off56 (d0 : Dev nD) : Fin 4 → Nat :=
  let c1_i32_1393 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![1, v2.toNat, 0, 0]
def k0_cond73 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_664 : BitVec 32 := 0#32
  let v680 : BitVec 1 := Scalar.cmpi .ne v2 c0_i32_664
  let v681 : BitVec 32 := Scalar.extui v680
  let c0_i32_665 : BitVec 32 := 0#32
  let v682 : BitVec 1 := Scalar.cmpi .ne v681 c0_i32_665
  v682

def k0_off57 (d0 : Dev nD) : Fin 2 → Nat :=
  let c1_i32_1388 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off58 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![1, v2.toNat, 0, 0]
def k0_cond74 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_666 : BitVec 32 := 1#32
  let v683 : BitVec 1 := Scalar.cmpi .ne v2 c1_i32_666
  let v684 : BitVec 32 := Scalar.extui v683
  let c0_i32_667 : BitVec 32 := 0#32
  let v685 : BitVec 1 := Scalar.cmpi .ne v684 c0_i32_667
  v685

def k0_off59 (d0 : Dev nD) : Fin 2 → Nat :=
  let c1_i32_1388 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off60 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![1, v2.toNat, 0, 0]
def k0_cond75 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_668 : BitVec 32 := 2#32
  let v686 : BitVec 1 := Scalar.cmpi .ne v2 c2_i32_668
  let v687 : BitVec 32 := Scalar.extui v686
  let c0_i32_669 : BitVec 32 := 0#32
  let v688 : BitVec 1 := Scalar.cmpi .ne v687 c0_i32_669
  v688

def k0_off61 (d0 : Dev nD) : Fin 2 → Nat :=
  let c1_i32_1388 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off62 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![1, v2.toNat, 0, 0]
def k0_cond76 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_670 : BitVec 32 := 3#32
  let v689 : BitVec 1 := Scalar.cmpi .ne v2 c3_i32_670
  let v690 : BitVec 32 := Scalar.extui v689
  let c0_i32_671 : BitVec 32 := 0#32
  let v691 : BitVec 1 := Scalar.cmpi .ne v690 c0_i32_671
  v691

def k0_off63 (d0 : Dev nD) : Fin 2 → Nat :=
  let c1_i32_1388 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off64 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![1, v2.toNat, 0, 0]
def k0_cond77 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_672 : BitVec 32 := 4#32
  let v692 : BitVec 1 := Scalar.cmpi .ne v2 c4_i32_672
  let v693 : BitVec 32 := Scalar.extui v692
  let c0_i32_673 : BitVec 32 := 0#32
  let v694 : BitVec 1 := Scalar.cmpi .ne v693 c0_i32_673
  v694

def k0_off65 (d0 : Dev nD) : Fin 2 → Nat :=
  let c1_i32_1388 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off66 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![1, v2.toNat, 0, 0]
def k0_cond78 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_674 : BitVec 32 := 5#32
  let v695 : BitVec 1 := Scalar.cmpi .ne v2 c5_i32_674
  let v696 : BitVec 32 := Scalar.extui v695
  let c0_i32_675 : BitVec 32 := 0#32
  let v697 : BitVec 1 := Scalar.cmpi .ne v696 c0_i32_675
  v697

def k0_off67 (d0 : Dev nD) : Fin 2 → Nat :=
  let c1_i32_1388 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off68 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![1, v2.toNat, 0, 0]
def k0_cond79 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_676 : BitVec 32 := 6#32
  let v698 : BitVec 1 := Scalar.cmpi .ne v2 c6_i32_676
  let v699 : BitVec 32 := Scalar.extui v698
  let c0_i32_677 : BitVec 32 := 0#32
  let v700 : BitVec 1 := Scalar.cmpi .ne v699 c0_i32_677
  v700

def k0_off69 (d0 : Dev nD) : Fin 2 → Nat :=
  let c1_i32_1388 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off70 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![1, v2.toNat, 0, 0]
def k0_cond80 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_678 : BitVec 32 := 7#32
  let v701 : BitVec 1 := Scalar.cmpi .ne v2 c7_i32_678
  let v702 : BitVec 32 := Scalar.extui v701
  let c0_i32_679 : BitVec 32 := 0#32
  let v703 : BitVec 1 := Scalar.cmpi .ne v702 c0_i32_679
  v703

def k0_off71 (d0 : Dev nD) : Fin 2 → Nat :=
  let c1_i32_1388 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off72 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![1, v2.toNat, 0, 0]
def k0_cond89 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_914 : BitVec 32 := 0#32
  let v923 : BitVec 1 := Scalar.cmpi .ne v2 c0_i32_914
  let v924 : BitVec 32 := Scalar.extui v923
  let c0_i32_915 : BitVec 32 := 0#32
  let v925 : BitVec 1 := Scalar.cmpi .ne v924 c0_i32_915
  v925

def k0_off73 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![1, v2.toNat, 0, 0]
def k0_cond90 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_916 : BitVec 32 := 1#32
  let v926 : BitVec 1 := Scalar.cmpi .ne v2 c1_i32_916
  let v927 : BitVec 32 := Scalar.extui v926
  let c0_i32_917 : BitVec 32 := 0#32
  let v928 : BitVec 1 := Scalar.cmpi .ne v927 c0_i32_917
  v928

def k0_off74 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![1, v2.toNat, 0, 0]
def k0_cond91 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_918 : BitVec 32 := 2#32
  let v929 : BitVec 1 := Scalar.cmpi .ne v2 c2_i32_918
  let v930 : BitVec 32 := Scalar.extui v929
  let c0_i32_919 : BitVec 32 := 0#32
  let v931 : BitVec 1 := Scalar.cmpi .ne v930 c0_i32_919
  v931

def k0_off75 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![1, v2.toNat, 0, 0]
def k0_cond92 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_920 : BitVec 32 := 3#32
  let v932 : BitVec 1 := Scalar.cmpi .ne v2 c3_i32_920
  let v933 : BitVec 32 := Scalar.extui v932
  let c0_i32_921 : BitVec 32 := 0#32
  let v934 : BitVec 1 := Scalar.cmpi .ne v933 c0_i32_921
  v934

def k0_off76 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![1, v2.toNat, 0, 0]
def k0_cond93 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_922 : BitVec 32 := 4#32
  let v935 : BitVec 1 := Scalar.cmpi .ne v2 c4_i32_922
  let v936 : BitVec 32 := Scalar.extui v935
  let c0_i32_923 : BitVec 32 := 0#32
  let v937 : BitVec 1 := Scalar.cmpi .ne v936 c0_i32_923
  v937

def k0_off77 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![1, v2.toNat, 0, 0]
def k0_cond94 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_924 : BitVec 32 := 5#32
  let v938 : BitVec 1 := Scalar.cmpi .ne v2 c5_i32_924
  let v939 : BitVec 32 := Scalar.extui v938
  let c0_i32_925 : BitVec 32 := 0#32
  let v940 : BitVec 1 := Scalar.cmpi .ne v939 c0_i32_925
  v940

def k0_off78 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![1, v2.toNat, 0, 0]
def k0_cond95 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_926 : BitVec 32 := 6#32
  let v941 : BitVec 1 := Scalar.cmpi .ne v2 c6_i32_926
  let v942 : BitVec 32 := Scalar.extui v941
  let c0_i32_927 : BitVec 32 := 0#32
  let v943 : BitVec 1 := Scalar.cmpi .ne v942 c0_i32_927
  v943

def k0_off79 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![1, v2.toNat, 0, 0]
def k0_cond96 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_928 : BitVec 32 := 7#32
  let v944 : BitVec 1 := Scalar.cmpi .ne v2 c7_i32_928
  let v945 : BitVec 32 := Scalar.extui v944
  let c0_i32_929 : BitVec 32 := 0#32
  let v946 : BitVec 1 := Scalar.cmpi .ne v945 c0_i32_929
  v946

def k0_off80 (d0 : Dev nD) : Fin 4 → Nat :=
  let c1_i32_1387 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![1, v2.toNat, 0, 0]
def k0_cond98 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_950 : BitVec 32 := 0#32
  let v965 : BitVec 1 := Scalar.cmpi .ne v2 c0_i32_950
  let v966 : BitVec 32 := Scalar.extui v965
  let c0_i32_951 : BitVec 32 := 0#32
  let v967 : BitVec 1 := Scalar.cmpi .ne v966 c0_i32_951
  v967

def k0_off81 (d0 : Dev nD) : Fin 2 → Nat :=
  let c2_i32_1394 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off82 (d0 : Dev nD) : Fin 4 → Nat :=
  let c2_i32_1393 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![2, v2.toNat, 0, 0]
def k0_cond100 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_972 : BitVec 32 := 1#32
  let v986 : BitVec 1 := Scalar.cmpi .ne v2 c1_i32_972
  let v987 : BitVec 32 := Scalar.extui v986
  let c0_i32_973 : BitVec 32 := 0#32
  let v988 : BitVec 1 := Scalar.cmpi .ne v987 c0_i32_973
  v988

def k0_off83 (d0 : Dev nD) : Fin 2 → Nat :=
  let c2_i32_1394 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off84 (d0 : Dev nD) : Fin 4 → Nat :=
  let c2_i32_1393 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![2, v2.toNat, 0, 0]
def k0_cond102 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_994 : BitVec 32 := 2#32
  let v1007 : BitVec 1 := Scalar.cmpi .ne v2 c2_i32_994
  let v1008 : BitVec 32 := Scalar.extui v1007
  let c0_i32_995 : BitVec 32 := 0#32
  let v1009 : BitVec 1 := Scalar.cmpi .ne v1008 c0_i32_995
  v1009

def k0_off85 (d0 : Dev nD) : Fin 2 → Nat :=
  let c2_i32_1394 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off86 (d0 : Dev nD) : Fin 4 → Nat :=
  let c2_i32_1393 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![2, v2.toNat, 0, 0]
def k0_cond104 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1016 : BitVec 32 := 3#32
  let v1028 : BitVec 1 := Scalar.cmpi .ne v2 c3_i32_1016
  let v1029 : BitVec 32 := Scalar.extui v1028
  let c0_i32_1017 : BitVec 32 := 0#32
  let v1030 : BitVec 1 := Scalar.cmpi .ne v1029 c0_i32_1017
  v1030

def k0_off87 (d0 : Dev nD) : Fin 2 → Nat :=
  let c2_i32_1394 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off88 (d0 : Dev nD) : Fin 4 → Nat :=
  let c2_i32_1393 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![2, v2.toNat, 0, 0]
def k0_cond106 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1038 : BitVec 32 := 4#32
  let v1049 : BitVec 1 := Scalar.cmpi .ne v2 c4_i32_1038
  let v1050 : BitVec 32 := Scalar.extui v1049
  let c0_i32_1039 : BitVec 32 := 0#32
  let v1051 : BitVec 1 := Scalar.cmpi .ne v1050 c0_i32_1039
  v1051

def k0_off89 (d0 : Dev nD) : Fin 2 → Nat :=
  let c2_i32_1394 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off90 (d0 : Dev nD) : Fin 4 → Nat :=
  let c2_i32_1393 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![2, v2.toNat, 0, 0]
def k0_cond108 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1060 : BitVec 32 := 5#32
  let v1070 : BitVec 1 := Scalar.cmpi .ne v2 c5_i32_1060
  let v1071 : BitVec 32 := Scalar.extui v1070
  let c0_i32_1061 : BitVec 32 := 0#32
  let v1072 : BitVec 1 := Scalar.cmpi .ne v1071 c0_i32_1061
  v1072

def k0_off91 (d0 : Dev nD) : Fin 2 → Nat :=
  let c2_i32_1394 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off92 (d0 : Dev nD) : Fin 4 → Nat :=
  let c2_i32_1393 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![2, v2.toNat, 0, 0]
def k0_cond110 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1082 : BitVec 32 := 6#32
  let v1091 : BitVec 1 := Scalar.cmpi .ne v2 c6_i32_1082
  let v1092 : BitVec 32 := Scalar.extui v1091
  let c0_i32_1083 : BitVec 32 := 0#32
  let v1093 : BitVec 1 := Scalar.cmpi .ne v1092 c0_i32_1083
  v1093

def k0_off93 (d0 : Dev nD) : Fin 2 → Nat :=
  let c2_i32_1394 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off94 (d0 : Dev nD) : Fin 4 → Nat :=
  let c2_i32_1393 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![2, v2.toNat, 0, 0]
def k0_cond112 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1104 : BitVec 32 := 7#32
  let v1112 : BitVec 1 := Scalar.cmpi .ne v2 c7_i32_1104
  let v1113 : BitVec 32 := Scalar.extui v1112
  let c0_i32_1105 : BitVec 32 := 0#32
  let v1114 : BitVec 1 := Scalar.cmpi .ne v1113 c0_i32_1105
  v1114

def k0_off95 (d0 : Dev nD) : Fin 2 → Nat :=
  let c2_i32_1394 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off96 (d0 : Dev nD) : Fin 4 → Nat :=
  let c2_i32_1393 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1398 : BitVec 32 := 0#32
  let c0_i32_1399 : BitVec 32 := 0#32
  ![2, v2.toNat, 0, 0]
def k0_cond121 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1127 : BitVec 32 := 0#32
  let v1146 : BitVec 1 := Scalar.cmpi .ne v2 c0_i32_1127
  let v1147 : BitVec 32 := Scalar.extui v1146
  let c0_i32_1128 : BitVec 32 := 0#32
  let v1148 : BitVec 1 := Scalar.cmpi .ne v1147 c0_i32_1128
  v1148

def k0_off97 (d0 : Dev nD) : Fin 2 → Nat :=
  let c2_i32_1388 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off98 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![2, v2.toNat, 0, 0]
def k0_cond122 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1129 : BitVec 32 := 1#32
  let v1149 : BitVec 1 := Scalar.cmpi .ne v2 c1_i32_1129
  let v1150 : BitVec 32 := Scalar.extui v1149
  let c0_i32_1130 : BitVec 32 := 0#32
  let v1151 : BitVec 1 := Scalar.cmpi .ne v1150 c0_i32_1130
  v1151

def k0_off99 (d0 : Dev nD) : Fin 2 → Nat :=
  let c2_i32_1388 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off100 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![2, v2.toNat, 0, 0]
def k0_cond123 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1131 : BitVec 32 := 2#32
  let v1152 : BitVec 1 := Scalar.cmpi .ne v2 c2_i32_1131
  let v1153 : BitVec 32 := Scalar.extui v1152
  let c0_i32_1132 : BitVec 32 := 0#32
  let v1154 : BitVec 1 := Scalar.cmpi .ne v1153 c0_i32_1132
  v1154

def k0_off101 (d0 : Dev nD) : Fin 2 → Nat :=
  let c2_i32_1388 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off102 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![2, v2.toNat, 0, 0]
def k0_cond124 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1133 : BitVec 32 := 3#32
  let v1155 : BitVec 1 := Scalar.cmpi .ne v2 c3_i32_1133
  let v1156 : BitVec 32 := Scalar.extui v1155
  let c0_i32_1134 : BitVec 32 := 0#32
  let v1157 : BitVec 1 := Scalar.cmpi .ne v1156 c0_i32_1134
  v1157

def k0_off103 (d0 : Dev nD) : Fin 2 → Nat :=
  let c2_i32_1388 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off104 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![2, v2.toNat, 0, 0]
def k0_cond125 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1135 : BitVec 32 := 4#32
  let v1158 : BitVec 1 := Scalar.cmpi .ne v2 c4_i32_1135
  let v1159 : BitVec 32 := Scalar.extui v1158
  let c0_i32_1136 : BitVec 32 := 0#32
  let v1160 : BitVec 1 := Scalar.cmpi .ne v1159 c0_i32_1136
  v1160

def k0_off105 (d0 : Dev nD) : Fin 2 → Nat :=
  let c2_i32_1388 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off106 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![2, v2.toNat, 0, 0]
def k0_cond126 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1137 : BitVec 32 := 5#32
  let v1161 : BitVec 1 := Scalar.cmpi .ne v2 c5_i32_1137
  let v1162 : BitVec 32 := Scalar.extui v1161
  let c0_i32_1138 : BitVec 32 := 0#32
  let v1163 : BitVec 1 := Scalar.cmpi .ne v1162 c0_i32_1138
  v1163

def k0_off107 (d0 : Dev nD) : Fin 2 → Nat :=
  let c2_i32_1388 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off108 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![2, v2.toNat, 0, 0]
def k0_cond127 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1139 : BitVec 32 := 6#32
  let v1164 : BitVec 1 := Scalar.cmpi .ne v2 c6_i32_1139
  let v1165 : BitVec 32 := Scalar.extui v1164
  let c0_i32_1140 : BitVec 32 := 0#32
  let v1166 : BitVec 1 := Scalar.cmpi .ne v1165 c0_i32_1140
  v1166

def k0_off109 (d0 : Dev nD) : Fin 2 → Nat :=
  let c2_i32_1388 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off110 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![2, v2.toNat, 0, 0]
def k0_cond128 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1141 : BitVec 32 := 7#32
  let v1167 : BitVec 1 := Scalar.cmpi .ne v2 c7_i32_1141
  let v1168 : BitVec 32 := Scalar.extui v1167
  let c0_i32_1142 : BitVec 32 := 0#32
  let v1169 : BitVec 1 := Scalar.cmpi .ne v1168 c0_i32_1142
  v1169

def k0_off111 (d0 : Dev nD) : Fin 2 → Nat :=
  let c2_i32_1388 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off112 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1392 : BitVec 32 := 0#32
  let c0_i32_1393 : BitVec 32 := 0#32
  ![2, v2.toNat, 0, 0]
def k0_cond137 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1371 : BitVec 32 := 0#32
  let v1381 : BitVec 1 := Scalar.cmpi .ne v2 c0_i32_1371
  let v1382 : BitVec 32 := Scalar.extui v1381
  let c0_i32_1372 : BitVec 32 := 0#32
  let v1383 : BitVec 1 := Scalar.cmpi .ne v1382 c0_i32_1372
  v1383

def k0_off113 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![2, v2.toNat, 0, 0]
def k0_cond138 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1373 : BitVec 32 := 1#32
  let v1384 : BitVec 1 := Scalar.cmpi .ne v2 c1_i32_1373
  let v1385 : BitVec 32 := Scalar.extui v1384
  let c0_i32_1374 : BitVec 32 := 0#32
  let v1386 : BitVec 1 := Scalar.cmpi .ne v1385 c0_i32_1374
  v1386

def k0_off114 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![2, v2.toNat, 0, 0]
def k0_cond139 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1375 : BitVec 32 := 2#32
  let v1387 : BitVec 1 := Scalar.cmpi .ne v2 c2_i32_1375
  let v1388 : BitVec 32 := Scalar.extui v1387
  let c0_i32_1376 : BitVec 32 := 0#32
  let v1389 : BitVec 1 := Scalar.cmpi .ne v1388 c0_i32_1376
  v1389

def k0_off115 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![2, v2.toNat, 0, 0]
def k0_cond140 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1377 : BitVec 32 := 3#32
  let v1390 : BitVec 1 := Scalar.cmpi .ne v2 c3_i32_1377
  let v1391 : BitVec 32 := Scalar.extui v1390
  let c0_i32_1378 : BitVec 32 := 0#32
  let v1392 : BitVec 1 := Scalar.cmpi .ne v1391 c0_i32_1378
  v1392

def k0_off116 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![2, v2.toNat, 0, 0]
def k0_cond141 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1379 : BitVec 32 := 4#32
  let v1393 : BitVec 1 := Scalar.cmpi .ne v2 c4_i32_1379
  let v1394 : BitVec 32 := Scalar.extui v1393
  let c0_i32_1380 : BitVec 32 := 0#32
  let v1395 : BitVec 1 := Scalar.cmpi .ne v1394 c0_i32_1380
  v1395

def k0_off117 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![2, v2.toNat, 0, 0]
def k0_cond142 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1381 : BitVec 32 := 5#32
  let v1396 : BitVec 1 := Scalar.cmpi .ne v2 c5_i32_1381
  let v1397 : BitVec 32 := Scalar.extui v1396
  let c0_i32_1382 : BitVec 32 := 0#32
  let v1398 : BitVec 1 := Scalar.cmpi .ne v1397 c0_i32_1382
  v1398

def k0_off118 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![2, v2.toNat, 0, 0]
def k0_cond143 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1383 : BitVec 32 := 6#32
  let v1399 : BitVec 1 := Scalar.cmpi .ne v2 c6_i32_1383
  let v1400 : BitVec 32 := Scalar.extui v1399
  let c0_i32_1384 : BitVec 32 := 0#32
  let v1401 : BitVec 1 := Scalar.cmpi .ne v1400 c0_i32_1384
  v1401

def k0_off119 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![2, v2.toNat, 0, 0]
def k0_cond144 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1385 : BitVec 32 := 7#32
  let v1402 : BitVec 1 := Scalar.cmpi .ne v2 c7_i32_1385
  let v1403 : BitVec 32 := Scalar.extui v1402
  let c0_i32_1386 : BitVec 32 := 0#32
  let v1404 : BitVec 1 := Scalar.cmpi .ne v1403 c0_i32_1386
  v1404

def k0_off120 (d0 : Dev nD) : Fin 4 → Nat :=
  let c2_i32_1387 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1397 : BitVec 32 := 0#32
  let c0_i32_1398 : BitVec 32 := 0#32
  ![2, v2.toNat, 0, 0]
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x16384 : Shape := ⟨2, ![64, 16384]⟩
abbrev S16384x4096 : Shape := ⟨2, ![16384, 4096]⟩
abbrev S4096x16384 : Shape := ⟨2, ![4096, 16384]⟩
abbrev S64x4096 : Shape := ⟨2, ![64, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x16384, .f32⟩
  | .hbm, ⟨1, _⟩ => ⟨S16384x4096, .f32⟩
  | .hbm, ⟨2, _⟩ => ⟨S4096x16384, .f32⟩
  | .hbm, ⟨3, _⟩ => ⟨S16384x4096, .f32⟩
  | .hbm, ⟨4, _⟩ => ⟨S4096x16384, .f32⟩
  | .hbm, ⟨5, _⟩ => ⟨S16384x4096, .f32⟩
  | .hbm, ⟨6, _⟩ => ⟨S4096x16384, .f32⟩
  | .hbm, ⟨7, _⟩ => ⟨S64x4096, .f32⟩
  | .hbm, ⟨8, _⟩ => ⟨S_, .f32⟩
  | .hbm, ⟨9, _⟩ => ⟨S64x4096, .f32⟩
  | .hbm, ⟨10, _⟩ => ⟨S64x4096, .f32⟩
  | .hbm, ⟨11, _⟩ => ⟨S64x16384, .f32⟩
  | .hbm, ⟨12, _⟩ => ⟨S64x4096, .f32⟩
  | .hbm, ⟨13, _⟩ => ⟨S_, .f32⟩
  | .hbm, ⟨14, _⟩ => ⟨S64x4096, .f32⟩
  | .hbm, ⟨15, _⟩ => ⟨S64x4096, .f32⟩
  | .hbm, ⟨16, _⟩ => ⟨S64x16384, .f32⟩
  | .hbm, ⟨17, _⟩ => ⟨S64x4096, .f32⟩
  | .hbm, ⟨18, _⟩ => ⟨S_, .f32⟩
  | .hbm, ⟨19, _⟩ => ⟨S64x4096, .f32⟩
  | .hbm, ⟨20, _⟩ => ⟨S64x4096, .f32⟩
  | .hbm, ⟨21, _⟩ => ⟨S64x16384, .f32⟩
  | _, _ => ⟨S64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Contents.lean ====
/-
# 01_k — what the arrays hold

The values the kernel leaves in its buffers, device by device and layer by layer, as functions of the arguments:
the tiles of the weights, the chunk a device sends to another, the sum of the chunks a device has received so far,
its share of the hidden activations, and the running product with the second weight. The kernel's own payloads
(`k0_pay…`) say what one block computes; nothing here is about the schedule.
-/
module

public import proofs.«01_k».proof.Proof.Gen.KernelIdeal
public import proofs.«01_k».proof.Proof.Gen.KernelIdeal.Skeleton
public import Idealize.ShloMosaic.Lib.Pipeline.Value

@[expose] public section

noncomputable section

namespace Cert.KernelIdealProof

open Cert.KernelIdeal Cert.KernelIdeal.Gen
open Idealize.ShloMosaic

variable {F : FTy → Type} [FloatOps F]

/-- Device number `k` (counted modulo the number of devices). -/
def dv (k : ℕ) : Dev nD := ⟨k % 8, Nat.mod_lt _ (by decide)⟩

theorem dv_val (c : Dev nD) : dv c.val = c := Fin.ext (Nat.mod_eq_of_lt c.isLt)

/-! ## The tiles -/

theorem inbWi (i : ℕ) : ∀ a, (![0, 512 * (i % 8)] : Fin 2 → ℕ) a + S2048x512.size a ≤ S2048x4096.size a := by
  intro a; fin_cases a
  · show 0 + 2048 ≤ 2048; omega
  · show 512 * (i % 8) + 512 ≤ 4096; omega

theorem inbWo (i : ℕ) : ∀ a, (![512 * (i % 8), 0] : Fin 2 → ℕ) a + S512x2048.size a ≤ S4096x2048.size a := by
  intro a; fin_cases a
  · show 512 * (i % 8) + 512 ≤ 4096; omega
  · show 0 + 2048 ≤ 2048; omega

abbrev rectWi (i : ℕ) : Rect S2048x4096 := Rect.unit ![0, 512 * (i % 8)] S2048x512.size (inbWi i)
abbrev rectWo (i : ℕ) : Rect S4096x2048 := Rect.unit ![512 * (i % 8), 0] S512x2048.size (inbWo i)

theorem numelA : S1x1x64x512.numel = S64x512.numel := squeezes_S1x1x64x512_S64x512.numel_eq.symm
theorem numelI : S1x2048x512.numel = S2048x512.numel := squeezes_S1x2048x512_S2048x512.numel_eq.symm
theorem numelO : S1x512x2048.numel = S512x2048.numel := squeezes_S1x512x2048_S512x2048.numel_eq.symm

/-- A block read under its shape with leading unit axes. -/
def up {s s' : Shape} {α : Type} (h : s'.numel = s.numel) (Z : s.Idx → α) : s'.Idx → α := fun y => Z (Shape.reshapeEquiv h y)

/-- The arguments: the activations and, for every layer, the two weights, device by device. -/
structure Inp (F : FTy → Type) where
  x : Dev nD → Vec F S64x2048 .f32
  wi : ℕ → Dev nD → Vec F S2048x4096 .f32
  wo : ℕ → Dev nD → Vec F S4096x2048 .f32

variable (I : Inp F)

/-- Tile `i % 8` of layer `i / 8`'s first weight on device `c`; -/
def wiT (c : Dev nD) (i : ℕ) : Vec F S2048x512 .f32 := fun y => I.wi (i / 8) c ((rectWi i).emb y)
/-- of its second weight. -/
def woT (c : Dev nD) (i : ℕ) : Vec F S512x2048 .f32 := fun y => I.wo (i / 8) c ((rectWo i).emb y)

/-! ## One layer, from the activations `X` it starts with -/

section Layer
variable (X : Dev nD → Vec F S64x2048 .bf16) (l : ℕ)

/-- The chunk device `c` makes for itself. -/
def ownChunk (c : Dev nD) : Vec F S64x512 .f32 := k0_pay3 (X c) (up numelI (wiT I c (8 * l + c.val)))

/-- The chunk device `d` sends to device `c`. -/
def sent (d c : Dev nD) : Vec F S64x512 .bf16 :=
  fun y => k0_pay4 (X d) (up numelI (wiT I d (8 * l + c.val))) ((Shape.reshapeEquiv numelA).symm y)

/-- Device `c`'s sum once the chunks of the devices before `k` are in. -/
def accV (c : Dev nD) : ℕ → Vec F S64x512 .f32
  | 0 => ownChunk I X l c
  | k + 1 => if c.val = k then accV c k else k0_pay27 (accV c k) (up numelA (sent I X l (dv k) c))

/-- Device `c`'s share of the hidden activations. -/
def hid (c : Dev nD) : Vec F S64x512 .bf16 := k0_pay35 (accV I X l c 8)

/-- The product of the hidden activations of the devices up to `k` with their tiles of the second weight. -/
def prodV (c : Dev nD) : ℕ → Vec F S64x2048 .f32
  | 0 => k0_pay36 0#32 (hid I X l (dv 0)) (up numelA (hid I X l (dv 0))) (up numelO (woT I c (8 * l)))
  | k + 1 => k0_pay37 1#32 (hid I X l (dv (k + 1))) (up numelA (hid I X l (dv (k + 1)))) (up numelO (woT I c (8 * l + (k + 1)))) (prodV c k)

end Layer

/-- The activations device `c` starts layer `l` with. -/
def xV : ℕ → Dev nD → Vec F S64x2048 .bf16
  | 0 => fun c => k0_pay1 (I.x c)
  | l + 1 => fun c => k0_pay44 (prodV I (xV l) l c 7)

/-- The result. -/
def outV (c : Dev nD) : Vec F S64x2048 .f32 := prodV I (xV I 2) 2 c 7

abbrev sentV (l : ℕ) (d c : Dev nD) : Vec F S64x512 .bf16 := sent I (xV I l) l d c
abbrev hidV (l : ℕ) (c : Dev nD) : Vec F S64x512 .bf16 := hid I (xV I l) l c

/-! ## The product's step, whichever of the two blocks the kernel selects -/

/-- The step with the selecting bit `b`: the device's own block or the landed one. -/
def stepG (b : BitVec 1) (h : Vec F S64x512 .bf16) (g : Vec F S1x1x64x512 .bf16) (t : Vec F S1x512x2048 .f32) (a : Vec F S64x2048 .f32) : Vec F S64x2048 .f32 :=
  shapeCast S64x2048 (addf a (matmul dot_S64x512_S512x2048_S64x2048_1_0_0_1_n_n none (Scalar.select b h (shapeCast S64x512 g shapeCasts_S1x1x64x512_S64x512))
    (truncf .bf16 (shapeCast S512x2048 t shapeCasts_S1x512x2048_S512x2048) bitsLt_bf16_f32) (constant S64x2048 .f32 0x00000000#32))) shapeCasts_S64x2048_S64x2048

/-- The first step: nothing is added. -/
def firstG (b : BitVec 1) (h : Vec F S64x512 .bf16) (g : Vec F S1x1x64x512 .bf16) (t : Vec F S1x512x2048 .f32) : Vec F S64x2048 .f32 :=
  shapeCast S64x2048 (matmul dot_S64x512_S512x2048_S64x2048_1_0_0_1_n_n none (Scalar.select b h (shapeCast S64x512 g shapeCasts_S1x1x64x512_S64x512))
    (truncf .bf16 (shapeCast S512x2048 t shapeCasts_S1x512x2048_S512x2048) bitsLt_bf16_f32) (constant S64x2048 .f32 0x00000000#32)) shapeCasts_S64x2048_S64x2048

theorem select_eq (b : BitVec 1) (h : Vec F S64x512 .bf16) (g : Vec F S1x1x64x512 .bf16) (k : Vec F S64x512 .bf16)
    (hown : b = 1#1 → h = k) (hother : b ≠ 1#1 → g = up numelA k) :
    Scalar.select b h (shapeCast S64x512 g shapeCasts_S1x1x64x512_S64x512)
      = Scalar.select 1#1 k (shapeCast S64x512 (up numelA k) shapeCasts_S1x1x64x512_S64x512) := by
  by_cases hb : b = 1#1
  · subst hb; rw [hown rfl]; rfl
  · rw [hother hb]
    refine (if_neg hb).trans ?_
    exact shapeCast_shapeCast k shapeCasts_S64x512_S1x1x64x512 shapeCasts_S1x1x64x512_S64x512

theorem stepG_eq (b : BitVec 1) (h : Vec F S64x512 .bf16) (g : Vec F S1x1x64x512 .bf16) (t : Vec F S1x512x2048 .f32) (a : Vec F S64x2048 .f32)
    (k : Vec F S64x512 .bf16) (hown : b = 1#1 → h = k) (hother : b ≠ 1#1 → g = up numelA k) : stepG b h g t a = k0_pay37 1#32 k (up numelA k) t a := by
  have e : k0_pay37 1#32 k (up numelA k) t a = stepG 1#1 k (up numelA k) t a := rfl
  rw [e]; unfold stepG; rw [select_eq b h g k hown hother]

theorem firstG_eq (b : BitVec 1) (h : Vec F S64x512 .bf16) (g : Vec F S1x1x64x512 .bf16) (t : Vec F S1x512x2048 .f32)
    (k : Vec F S64x512 .bf16) (hown : b = 1#1 → h = k) (hother : b ≠ 1#1 → g = up numelA k) : firstG b h g t = k0_pay36 0#32 k (up numelA k) t := by
  have e : k0_pay36 0#32 k (up numelA k) t = firstG 1#1 k (up numelA k) t := rfl
  rw [e]; unfold firstG; rw [select_eq b h g k hown hother]

end Cert.KernelIdealProof
-- ==== Proof.Owned.lean ====
/-
# 01_k — the resource algebra, and loads and stores on owned buffers

The ghost state of the proof (the pipeline's, the rounds of the remote copies, the counters of the local copies), the
weakest precondition the body is run in, and a load or a store of a whole buffer, or of one slot of a buffer held by its
squeezed view, as a step on what the device owns.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.VecWindow
public import Idealize.ShloMosaic.Lib.MemrefSat
public import Idealize.ShloMosaic.Lib.Transfers

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the remote copies and of the barrier: a duty's name is the number of the device that pays it. -/
abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)

abbrev 𝒱₀ : Variants := Variants.none

abbrev PG (F : FTy → Type) [FloatOps F] (α : Type) : Type 1 := Prog (TpuEff nD τ sig (Elt F) Λ₀ .tc) α

/-- The weakest precondition of a piece of device `c`'s body. -/
abbrev WP (c : Dev nD) {α : Type} (p : PG F α) (Q : α → sProp 𝕄) : sProp 𝕄 :=
  wp frame (wpE (defs₀ (F := F)) 𝒱₀ (c : Thread nD τ) none) Set.univ p Q

/-! ## A block held by a squeezed view -/

section Squeeze
variable (c : Thread nD τ) {sp : Space} {s s' : Shape} {e : EltTy}

/-- A squeezed view owned at `Z` is the view itself owned at `Z` read under its own shape. -/
theorem owns_squeeze (m : Memref sig c.2.kind sp s e) (h : s.Squeezes s') (q : PosShare TreeShare) (Z : s'.Idx → Elt F e) :
    (owns c (m.squeeze s' h) q Z : sProp 𝕄) = owns c m q (up h.numel_eq.symm Z) := by
  have hset : (m.squeeze s' h).view.set = m.view.set := View.set_reshape (v := m.view) h.numel_eq
  have hread (f : m.view.ty.Contents (Elt F)) : (m.squeeze s' h).view.read (Elt F) f = Z ↔ m.view.read (Elt F) f = up h.numel_eq.symm Z := by
    have e1 (y : s'.Idx) : (m.squeeze s' h).view.read (Elt F) f y = m.view.read (Elt F) f (Shape.reshapeEquiv h.numel_eq y) := rfl
    constructor
    · intro hf; funext y
      have := congrFun hf (Shape.reshapeEquiv h.numel_eq.symm y)
      rw [e1, Shape.reshapeEquiv_reshapeEquiv, Shape.reshapeEquiv_self] at this
      exact this
    · intro hf; funext y
      rw [e1, hf]; unfold up
      rw [Shape.reshapeEquiv_reshapeEquiv, Shape.reshapeEquiv_self]
  have h₁ : (owns c (m.squeeze s' h) q Z : sProp 𝕄) ⊢ owns c m q (up h.numel_eq.symm Z) := by
    unfold owns
    iintro ⟨%f, %hf, H⟩
    iexists f; isplitr; · ipureintro; exact (hread f).1 hf
    rw [← hset]; iexact H
  have h₂ : (owns c m q (up h.numel_eq.symm Z) : sProp 𝕄) ⊢ owns c (m.squeeze s' h) q Z := by
    unfold owns
    iintro ⟨%f, %hf, H⟩
    iexists f; isplitr; · ipureintro; exact (hread f).2 hf
    rw [hset]; iexact H
  exact BI.equiv_iff.mp ⟨h₁, h₂⟩

end Squeeze

/-! ## Eight shares of a buffer -/

theorem owns_tokens (c : Thread nD τ) {sp : Space} {s : Shape} {e : EltTy} (m : Memref sig c.2.kind sp s e) (q : PosShare TreeShare)
    (Z : s.Idx → Elt F e) (k : ℕ) :
    (owns c m q Z : sProp 𝕄) ⊣⊢ iprop(owns c m (Transfers.shareDrop q k) Z ∗ bigSep (Finset.range k) (fun i => owns c m (Transfers.shareTokN q i) Z)) := by
  induction k with
  | zero =>
    rw [Finset.range_zero, BI.bigSep_empty]
    constructor
    · iintro H; isplitl [H]; · iexact H
      iempintro
    · iintro ⟨H, -⟩; iexact H
  | succ k ih =>
    have hs : (owns c m (Transfers.shareDrop q k) Z : sProp 𝕄) ⊣⊢ iprop(owns c m (Transfers.shareDrop q (k + 1)) Z ∗ owns c m (Transfers.shareTokN q k) Z) :=
      owns_halves c m (Transfers.shareDrop q k) Z
    have hb : BI.bigSep (Finset.range (k + 1)) (fun i => (owns c m (Transfers.shareTokN q i) Z : sProp 𝕄))
        = iprop(owns c m (Transfers.shareTokN q k) Z ∗ BI.bigSep (Finset.range k) (fun i => owns c m (Transfers.shareTokN q i) Z)) := by
      rw [Finset.range_add_one, BI.bigSep_insert Finset.notMem_range_self]; rfl
    rw [hb]
    constructor
    · refine ih.1.trans ((sep_mono_left hs.1).trans ?_)
      iintro ⟨⟨Hd, Ht⟩, Hts⟩
      isplitl [Hd]; · iexact Hd
      isplitl [Ht] <;> iassumption
    · refine BIBase.Entails.trans ?_ ((sep_mono_left hs.2).trans ih.2)
      iintro ⟨Hd, Ht, Hts⟩
      isplitl [Hd Ht]; · isplitl [Hd] <;> iassumption
      iexact Hts

/-! ## Loads and stores -/

section Ops
variable (c : Dev nD) {sp : CoreSpace} {s s' : Shape} {e : EltTy} {α : Type}

/-- A load of all of a buffer. -/
theorem load_all {Q : α → sProp 𝕄} {m : Memref sig .tc sp s e} {off : Fin s.rank → ℕ} {inb : ∀ a, off a + s.size a ≤ s.size a}
    {hl : m.view.LoadsAt (Rect.unit off s.size inb).toLoadRect} {k : (s.Idx → Elt F e) → PG F α} {q : PosShare TreeShare} {X : s.Idx → Elt F e} :
    owns (c : Thread nD τ) m q X ⊢ iprop((owns (c : Thread nD τ) m q X -∗ WP c (k X) Q)
      -∗ WP c (.op (.load m (Rect.unit off s.size inb).toLoadRect hl) k) Q) := by
  unfold owns
  iintro ⟨%f, %hf, H⟩ Hk
  iapply (wp_load 𝒱₀ (c : Thread nD τ) none Set.univ (m := m) (View.setOn_subset_set _ _)) $$ H
  iintro H
  rw [View.readAt_full, hf]
  iapply Hk; iexists f; isplitr; · ipureintro; exact hf
  iexact H

/-- A load of a slot held by its squeezed view. -/
theorem load_slot {Q : α → sProp 𝕄} {m : Memref sig .tc sp s e} {r : Rect s} {hr : ∀ a, r.stride a = 1} {h : r.shape.Squeezes s'}
    {hl : m.view.LoadsAt r.toLoadRect} {k : (r.shape.Idx → Elt F e) → PG F α} {q : PosShare TreeShare} {Z : s'.Idx → Elt F e} :
    owns (c : Thread nD τ) ((m.slice r hr).squeeze s' h) q Z
      ⊢ iprop((owns (c : Thread nD τ) ((m.slice r hr).squeeze s' h) q Z -∗ WP c (k (up h.numel_eq.symm Z)) Q)
      -∗ WP c (.op (.load m r.toLoadRect hl) k) Q) := by
  rw [owns_squeeze]
  unfold owns
  iintro ⟨%f, %hf, H⟩ Hk
  iapply (wp_load_rect 𝒱₀ (c : Thread nD τ) none Set.univ (m := m) (r := r) (S := (m.slice r hr).view.set) (f := f) Finset.Subset.rfl) $$ H
  iintro H
  have hf' : (m.access r).read (Elt F) f = up h.numel_eq.symm Z := hf
  rw [hf']
  iapply Hk; iexists f; isplitr; · ipureintro; exact hf
  iexact H

/-- A store over all of a buffer. -/
theorem store_all {Q : α → sProp 𝕄} {m : Memref sig .tc sp s e} {off : Fin s.rank → ℕ} {inb : ∀ a, off a + s.size a ≤ s.size a}
    {w : s.Idx → Elt F e} {hx : (m.access (Rect.unit off s.size inb)).Stores Finset.univ} {hm}
    {k : PUnit → PG F α} :
    iprop(∃ X, owns (c : Thread nD τ) m fullShare X) ⊢ iprop((owns (c : Thread nD τ) m fullShare w -∗ WP c (k ⟨⟩) Q)
      -∗ WP c (.op (.store m (Rect.unit off s.size inb) w Finset.univ hx hm) k) Q) := by
  unfold owns
  iintro ⟨%X, %f, %hf, H⟩ Hk
  iapply (wp_store 𝒱₀ (c : Thread nD τ) none Set.univ (m := m) (r := Rect.unit off s.size inb) (Mk := Finset.univ)
    ((View.setOn_subset_set _ _).trans (View.set_slice_subset (v := m.view) _))) $$ H
  iintro H
  iapply Hk; iexists _; isplitr; swap; · iexact H
  ipureintro
  rw [← View.readAt_full m.view _ inb]
  exact View.read_write_univ (v := m.access (Rect.unit off s.size inb)) f w

/-- A store over a slot held by its squeezed view. -/
theorem store_slot {Q : α → sProp 𝕄} {m : Memref sig .tc sp s e} {r : Rect s} {hr : ∀ a, r.stride a = 1} {h : r.shape.Squeezes s'}
    {w : r.shape.Idx → Elt F e} {hx : (m.access r).Stores Finset.univ} {hm}
    {k : PUnit → PG F α} :
    iprop(∃ X, owns (c : Thread nD τ) ((m.slice r hr).squeeze s' h) fullShare X)
      ⊢ iprop((owns (c : Thread nD τ) ((m.slice r hr).squeeze s' h) fullShare (fun y => w ((Shape.reshapeEquiv h.numel_eq.symm).symm y)) -∗ WP c (k ⟨⟩) Q)
      -∗ WP c (.op (.store m r w Finset.univ hx hm) k) Q) := by
  have e : up h.numel_eq.symm (fun y => w ((Shape.reshapeEquiv h.numel_eq.symm).symm y)) = w := by
    funext y; exact congrArg w (Equiv.symm_apply_apply _ _)
  rw [owns_squeeze, e]
  have hany : (iprop(∃ X, owns (c : Thread nD τ) ((m.slice r hr).squeeze s' h) fullShare X) : sProp 𝕄)
      ⊢ iprop(∃ f : m.view.ty.Contents (Elt F), (m.access r).loc (c : Thread nD τ) ↦[(m.access r).set]{fullShare} f) := by
    iintro ⟨%X, H⟩
    ihave H := (BIBase.Entails.of_eq (owns_squeeze (c : Thread nD τ) (m.slice r hr) h fullShare X)) $$ H
    ihave H' := (show owns (c : Thread nD τ) (m.slice r hr) fullShare (up h.numel_eq.symm X)
      ⊢ (iprop(∃ f : m.view.ty.Contents (Elt F), ⌜(m.slice r hr).view.read (Elt F) f = up h.numel_eq.symm X⌝
        ∗ ((m.access r).loc (c : Thread nD τ) ↦[(m.access r).set]{fullShare} f)) : sProp 𝕄) from .rfl) $$ H
    icases H' with ⟨%f, -, H⟩
    iexists f; iexact H
  refine hany.trans ?_
  unfold owns
  iintro ⟨%f, H⟩ Hk
  iapply (wp_store 𝒱₀ (c : Thread nD τ) none Set.univ (m := m) (r := r) (Mk := Finset.univ)
    (View.setOn_subset_set _ _)) $$ H
  iintro H
  iapply Hk; iexists _; isplitr; swap; · iexact H
  ipureintro
  exact View.read_write_univ (v := m.access r) f w

end Ops

end Cert.KernelIdealProof
-- ==== Proof.Protocol.lean ====
/-
# 01_k — the protocol

One round per semaphore cell. A device's barrier cell has one duty per device; device `d` pays it by the slots of its
two landing buffers the owner will send into. A send cell hands its source back, a receive cell the block that landed,
with its contents. What a device still owes is counted by one number: its eight signals, then its sends in program
order.
-/
module

public import proofs.«01_k».proof.Proof.Owned

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The memrefs -/

abbrev rsM : Memref sig .tc .vmem S3x8x64x512 .bf16 := Memref.whole cc0_scratch6
abbrev agM : Memref sig .tc .vmem S3x8x64x512 .bf16 := Memref.whole cc0_scratch7
abbrev sbM : Memref sig .tc .vmem S3x8x64x512 .bf16 := Memref.whole cc0_scratch8
abbrev hM : Memref sig .tc .vmem S64x512 .bf16 := Memref.whole cc0_scratch5

/-- The landing buffer of phase `p`: 0 the chunks, 1 the hidden activations. -/
def landM : ℕ → Memref sig .tc .vmem S3x8x64x512 .bf16
  | 0 => rsM
  | _ => agM

theorem inbSlot (l j : ℕ) : ∀ a, (![l % 3, j % 8, 0, 0] : Fin 4 → ℕ) a + S1x1x64x512.size a ≤ S3x8x64x512.size a := by
  intro a; fin_cases a
  · show l % 3 + 1 ≤ 3; omega
  · show j % 8 + 1 ≤ 8; omega
  · show 0 + 64 ≤ 64; omega
  · show 0 + 512 ≤ 512; omega

abbrev rectSlot (l j : ℕ) : Rect S3x8x64x512 := Rect.unit ![l % 3, j % 8, 0, 0] S1x1x64x512.size (inbSlot l j)

/-- Slot `[l, j]` of such a buffer. -/
abbrev slotM (M : Memref sig .tc .vmem S3x8x64x512 .bf16) (l j : ℕ) : Memref sig .tc .vmem S64x512 .bf16 :=
  (M.slice (rectSlot l j) (fun _ => rfl)).squeeze S64x512 squeezes_S1x1x64x512_S64x512

/-! ## The semaphores -/

abbrev barS : Sem sig := (SemArray.scalar (sig.barrier 0 rfl) : Sems sig S_).sem

/-- DMA semaphore number `n`. -/
def dsem (n : ℕ) : DmaSem sig := ⟨n % 102, Nat.mod_lt _ (by decide)⟩

abbrev sendS (p l j : ℕ) : DmaSem sig := dsem (6 + 48 * p + 8 * l + j)
abbrev recvS (p l d : ℕ) : DmaSem sig := dsem (30 + 48 * p + 8 * l + d)

theorem dsem_val {n : ℕ} (h : n < 102) : (dsem n).val = n := Nat.mod_eq_of_lt h

abbrev barCell (c : Dev nD) : GSem nD τ sig := ((c : Thread nD τ), .reg barS)
abbrev dCell (c : Dev nD) (q : DmaSem sig) : GSem nD τ sig := ((c : Thread nD τ), .dma q)

abbrev N : ℕ := (slotM rsM 0 0).view.dmaCredit
theorem N_pos : 0 < N := View.dmaCredit_pos _ (by decide)

variable (I : Inp F)

/-! ## The payloads -/

/-- A slot at any contents. -/
def anySlot (c : Dev nD) (M : Memref sig .tc .vmem S3x8x64x512 .bf16) (l j : ℕ) : sProp 𝕄 :=
  iprop(∃ X, owns (c : Thread nD τ) (slotM M l j) fullShare X)

instance anySlot_storable (c : Dev nD) (M) (l j : ℕ) : BI.Storable (upEmb : UEmb _ 𝕄) (anySlot (F := F) c M l j) := by
  unfold anySlot; infer_instance

/-- What device `d` hands device `c` at the entry barrier: the slots of `d` that `c` sends into. -/
def barPay (d c : Dev nD) : sProp 𝕄 :=
  bigSep Finset.univ fun pl : Fin 2 × Fin 3 => anySlot d (landM pl.1.val) pl.2.val c.val

instance barPay_storable (d c : Dev nD) : BI.Storable (upEmb : UEmb _ 𝕄) (barPay (F := F) d c) := by
  unfold barPay; infer_instance

/-- The block in the slots: what device `d` sends device `c` in phase `p` of layer `l`. -/
def blockV : ℕ → ℕ → Dev nD → Dev nD → Vec F S64x512 .bf16
  | 0, l, d, c => sentV I l d c
  | _, l, d, _ => hidV I l d

/-- The source of a send to device `j`, handed back: the slot of the send buffer, or the read token of the hidden activations. -/
def srcPay (c : Dev nD) : ℕ → ℕ → ℕ → sProp 𝕄
  | 0, l, j => owns (c : Thread nD τ) (slotM sbM l j) fullShare (sentV I l c (dv j))
  | _, l, j => owns (c : Thread nD τ) hM (Transfers.shareTokN fullShare j) (hidV I l c)

/-- The block device `d` sent, landed on device `c`. -/
def landPay (c : Dev nD) (p l d : ℕ) : sProp 𝕄 := owns (c : Thread nD τ) (slotM (landM p) l d) fullShare (blockV I p l (dv d) c)

instance srcPay_storable (c : Dev nD) (p l j : ℕ) : BI.Storable (upEmb : UEmb _ 𝕄) (srcPay I c p l j) := by
  unfold srcPay; split <;> infer_instance
instance landPay_storable (c : Dev nD) (p l d : ℕ) : BI.Storable (upEmb : UEmb _ 𝕄) (landPay I c p l d) := by
  unfold landPay; infer_instance

/-- The payload of the DMA cell number `q` on device `c`. -/
def dPay (c : Dev nD) (q : ℕ) : sProp 𝕄 :=
  if (q - 6) / 24 % 2 = 0 then srcPay I c ((q - 6) / 48) ((q - 6) / 8 % 3) ((q - 6) % 8)
  else landPay I c ((q - 6) / 48) ((q - 6) / 8 % 3) ((q - 6) % 8)

instance dPay_storable (c : Dev nD) (q : ℕ) : BI.Storable (upEmb : UEmb _ 𝕄) (dPay I c q) := by
  unfold dPay; split <;> infer_instance

/-! ## The schedule -/

def sched : Rounds.Schedule (GSem nD τ sig) (Fin 8) 𝕄 where
  duties g r := if r = 0 ∧ g.1.2 = .tc then
      (match g.2 with
        | .reg _ => Finset.univ
        | .dma q => if 6 ≤ q.val ∧ (q.val - 6) % 8 ≠ g.1.1.val then {0} else ∅)
    else ∅
  unitless _ := False
  amount g _ _ := match g.2 with | .reg _ => 1 | .dma _ => N
  payload g _ d := match g.2 with
    | .reg _ => barPay d g.1.1
    | .dma q => dPay I g.1.1 q.val
  amount_pos g _ _ _ := by
    split
    · exact Nat.one_pos
    · exact N_pos

instance sched_storable (g : GSem nD τ sig) (r : ℕ) (d : Fin 8) : BI.Storable (upEmb : UEmb _ 𝕄) ((sched I).payload g r d) := by
  show BI.Storable upEmb (match g.2 with
    | .reg _ => barPay d g.1.1
    | .dma q => dPay I g.1.1 q.val)
  split <;> infer_instance

section Sched
variable (c : Dev nD)

theorem duties_bar : (sched I).duties (barCell c) 0 = Finset.univ := by dsimp only [sched]; exact if_pos ⟨rfl, rfl⟩
theorem duties_later (g : GSem nD τ sig) : ∀ r, 1 ≤ r → (sched I).duties g r = ∅ :=
  fun r hr => by dsimp only [sched]; rw [if_neg fun h => by omega]
theorem duties_dma (q : DmaSem sig) : (sched I).duties (dCell c q) 0 = if 6 ≤ q.val ∧ (q.val - 6) % 8 ≠ c.val then {0} else ∅ := by
  dsimp only [sched]; exact if_pos ⟨rfl, rfl⟩
theorem amount_bar (d : Fin 8) : (sched I).amount (barCell c) 0 d = 1 := rfl
theorem amount_dma (q : DmaSem sig) (d : Fin 8) : (sched I).amount (dCell c q) 0 d = N := rfl
theorem payload_bar (d : Fin 8) : (sched I).payload (barCell c) 0 d = barPay d c := rfl
theorem payload_dma (q : DmaSem sig) (d : Fin 8) : (sched I).payload (dCell c q) 0 d = dPay I c q.val := rfl

theorem expect_bar : (sched I).expect (barCell c) 0 = 8 := by
  unfold Schedule.expect Schedule.amountOf
  rw [duties_bar, Finset.sum_congr rfl fun d _ => amount_bar I c d, Finset.sum_const, Finset.card_univ, Fintype.card_fin, smul_eq_mul]

variable {p l j : ℕ} (hp : p < 2) (hl : l < 3) (hj : j < 8)
include hp hl hj

theorem sendS_val : (sendS p l j).val = 6 + 48 * p + 8 * l + j := dsem_val (by omega)
theorem recvS_val : (recvS p l j).val = 30 + 48 * p + 8 * l + j := dsem_val (by omega)

theorem duties_send (hc : c.val ≠ j) : (sched I).duties (dCell c (sendS p l j)) 0 = {0} := by
  rw [duties_dma, if_pos]; rw [sendS_val hp hl hj]; omega
theorem duties_recv (hc : c.val ≠ j) : (sched I).duties (dCell c (recvS p l j)) 0 = {0} := by
  rw [duties_dma, if_pos]; rw [recvS_val hp hl hj]; omega

theorem payload_send : (sched I).payload (dCell c (sendS p l j)) 0 0 = srcPay I c p l j := by
  rw [payload_dma, sendS_val hp hl hj]; unfold dPay
  rw [if_pos (by omega), show (6 + 48 * p + 8 * l + j - 6) / 48 = p by omega, show (6 + 48 * p + 8 * l + j - 6) / 8 % 3 = l by omega,
    show (6 + 48 * p + 8 * l + j - 6) % 8 = j by omega]
theorem payload_recv : (sched I).payload (dCell c (recvS p l j)) 0 0 = landPay I c p l j := by
  rw [payload_dma, recvS_val hp hl hj]; unfold dPay
  rw [if_neg (by omega), show (30 + 48 * p + 8 * l + j - 6) / 48 = p by omega, show (30 + 48 * p + 8 * l + j - 6) / 8 % 3 = l by omega,
    show (30 + 48 * p + 8 * l + j - 6) % 8 = j by omega]

theorem expect_send (hc : c.val ≠ j) : (sched I).expect (dCell c (sendS p l j)) 0 = N := by
  unfold Schedule.expect Schedule.amountOf; rw [duties_send I c hp hl hj hc, Finset.sum_singleton, amount_dma]
theorem expect_recv (hc : c.val ≠ j) : (sched I).expect (dCell c (recvS p l j)) 0 = N := by
  unfold Schedule.expect Schedule.amountOf; rw [duties_recv I c hp hl hj hc, Finset.sum_singleton, amount_dma]

theorem rest_send (hc : c.val ≠ j) : bigSep ((sched I).duties (dCell c (sendS p l j)) 0 \ ∅) (fun d => (sched I).payload (dCell c (sendS p l j)) 0 d) = srcPay I c p l j := by
  rw [Finset.sdiff_empty, duties_send I c hp hl hj hc, bigSep_singleton, payload_send I c hp hl hj]
theorem rest_recv (hc : c.val ≠ j) : bigSep ((sched I).duties (dCell c (recvS p l j)) 0 \ ∅) (fun d => (sched I).payload (dCell c (recvS p l j)) 0 d) = landPay I c p l j := by
  rw [Finset.sdiff_empty, duties_recv I c hp hl hj hc, bigSep_singleton, payload_recv I c hp hl hj]

omit hp hl hj in
theorem rest_bar : bigSep ((sched I).duties (barCell c) 0 \ ∅) (fun d => (sched I).payload (barCell c) 0 d) = bigSep Finset.univ fun d : Dev nD => barPay (F := F) d c := by
  rw [Finset.sdiff_empty, duties_bar]; rfl

end Sched

/-! ## What a device owes, and the levels -/

/-- What step `i` of device `c` pays: a signal to device `i`, or the receive credit of a send. -/
def contrib (c : Dev nD) (i : ℕ) : CellTallies nD τ sig Unit :=
  if i < 8 then tallyAt (barCell (dv i)) () 1
  else if (i - 8) % 8 = c.val then 0
  else tallyAt (dCell (dv (i - 8)) (recvS ((i - 8) / 8 % 2) ((i - 8) / 16) c.val)) () N

/-- What device `c` owes after `k` such steps. -/
def owedFrom (c : Dev nD) (k : ℕ) : CellTallies nD τ sig Unit := ∑ i ∈ Finset.Ico k 56, contrib c i

theorem owedFrom_step (c : Dev nD) {k : ℕ} (hk : k < 56) : owedFrom c k = owedFrom c (k + 1) + contrib c k := by
  unfold owedFrom
  rw [show Finset.Ico k 56 = insert k (Finset.Ico (k + 1) 56) by ext x; simp only [Finset.mem_Ico, Finset.mem_insert]; omega,
    Finset.sum_insert (by rw [Finset.mem_Ico]; omega), add_comm]

theorem owedFrom_end (c : Dev nD) : owedFrom c 56 = 0 := by unfold owedFrom; rw [Finset.Ico_self, Finset.sum_empty]

theorem owedFrom_self (c : Dev nD) {k : ℕ} (hk : k < 56) (h8 : 8 ≤ k) (hc : (k - 8) % 8 = c.val) : owedFrom c k = owedFrom c (k + 1) := by
  rw [owedFrom_step c hk]; unfold contrib; rw [if_neg (by omega), if_pos hc, add_zero]

def L (g : GSem nD τ sig) : Finset Unit := if g.1.2 = .tc then {()} else ∅

/-- The level of DMA semaphore number `n`: the receive cells in the order they are waited on, everything else at 0. -/
def dlev (n : ℕ) : ℕ := if 30 ≤ n ∧ n < 54 then 2 + 2 * ((n - 30) / 8) else if 78 ≤ n then 3 + 2 * ((n - 78) / 8) else 0

def lv (g : GSem nD τ sig) (_ : Unit) : ℕ := match g.2 with | .reg _ => 1 | .dma q => dlev q.val

/-- The level of what step `i` pays. -/
def stepLev (i : ℕ) : ℕ := if i < 8 then 1 else 2 + 2 * ((i - 8) / 16) + (i - 8) / 8 % 2

theorem L_of_ne (g : GSem nD τ sig) (h : g.1.2 ≠ .tc) : L g = ∅ := if_neg h
theorem L_tc (c : Dev nD) (sm : SemLoc sig) : L ((c : Thread nD τ), sm) = {()} := if_pos rfl

theorem contrib_pos {c : Dev nD} {i : ℕ} (hi : i < 56) {g : GSem nD τ sig} {u : Unit} (h : 0 < contrib c i g u) : u ∈ L g ∧ lv g u = stepLev i := by
  unfold contrib at h
  split at h
  · rename_i h8
    rw [tallyAt_apply] at h
    by_cases hg : g = barCell (dv i) ∧ u = ()
    · rw [hg.1, L_tc]; exact ⟨Finset.mem_singleton_self _, by unfold stepLev; rw [if_pos h8]; rfl⟩
    · rw [if_neg hg] at h; exact absurd h (Nat.lt_irrefl 0)
  · rename_i h8
    split at h
    · exact absurd h (Nat.lt_irrefl 0)
    · rw [tallyAt_apply] at h
      by_cases hg : g = dCell (dv (i - 8)) (recvS ((i - 8) / 8 % 2) ((i - 8) / 16) c.val) ∧ u = ()
      · rw [hg.1, L_tc]
        refine ⟨Finset.mem_singleton_self _, ?_⟩
        have hc : c.val < 8 := c.isLt
        show dlev (recvS ((i - 8) / 8 % 2) ((i - 8) / 16) c.val).val = _
        rw [recvS_val (by omega) (by omega) hc]; unfold dlev stepLev
        rcases (by omega : (i - 8) / 8 % 2 = 0 ∨ (i - 8) / 8 % 2 = 1) with h0 | h0 <;> rw [h0]
        · rw [if_pos (by omega), if_neg h8]; omega
        · rw [if_neg (by omega), if_pos (by omega), if_neg h8]; omega
      · rw [if_neg hg] at h; exact absurd h (Nat.lt_irrefl 0)

theorem owedFrom_pos {c : Dev nD} {k : ℕ} {g : GSem nD τ sig} {u : Unit} (h : 0 < owedFrom c k g u) : ∃ i, k ≤ i ∧ i < 56 ∧ 0 < contrib c i g u := by
  by_contra hn
  have hz : owedFrom c k g u = 0 := by
    unfold owedFrom
    rw [Finset.sum_apply, Finsupp.finset_sum_apply]
    refine Finset.sum_eq_zero fun i hi => ?_
    obtain ⟨h1, h2⟩ := Finset.mem_Ico.mp hi
    by_contra h0
    exact hn ⟨i, h1, h2, Nat.pos_of_ne_zero h0⟩
  omega

/-- A device may wait on a cell below everything it still owes. -/
theorem mayWait (c : Dev nD) (sm : SemLoc sig) (k : ℕ) (h : ∀ i, k ≤ i → i < 56 → lv ((c : Thread nD τ), sm) () < stepLev i) :
    (levAts L lv : sProp 𝕄) ⊢ MayWait (c : Thread nD τ) sm () (owedFrom c k) :=
  MayOwe.of_cut (L := L) (lev := lv) (lv ((c : Thread nD τ), sm) ())
    (fun p hp => by rw [Finset.mem_singleton.mp hp, L_tc]; exact Finset.mem_singleton_self _)
    (fun g u hg => by obtain ⟨i, _, h2, h3⟩ := owedFrom_pos hg; exact (contrib_pos h2 h3).1)
    (fun p hp => by rw [Finset.mem_singleton.mp hp])
    (fun g u hg => by obtain ⟨i, h1, h2, h3⟩ := owedFrom_pos hg; rw [(contrib_pos h2 h3).2]; exact h i h1 h2)

/-- A cell at level 0 may be waited on at any time; -/
theorem mayWait_low (c : Dev nD) (q : DmaSem sig) (k : ℕ) (h : dlev q.val = 0) :
    (levAts L lv : sProp 𝕄) ⊢ MayWait (c : Thread nD τ) (.dma q) () (owedFrom c k) :=
  mayWait c _ k fun i _ _ => by show dlev q.val < _; rw [h]; unfold stepLev; split <;> omega

/-- the barrier after the signals; -/
theorem mayWait_bar (c : Dev nD) : (levAts L lv : sProp 𝕄) ⊢ MayWait (c : Thread nD τ) (.reg barS) () (owedFrom c 8) :=
  mayWait c _ 8 fun i h _ => by show 1 < _; unfold stepLev; rw [if_neg (by omega)]; omega

/-- a receive cell of phase `p` of layer `l` once the sends of that phase are issued. -/
theorem mayWait_recv (c : Dev nD) {p l j : ℕ} (hp : p < 2) (hl : l < 3) (hj : j < 8) {k : ℕ} (hk : 8 + 16 * l + 8 * p + 8 ≤ k) :
    (levAts L lv : sProp 𝕄) ⊢ MayWait (c : Thread nD τ) (.dma (recvS p l j)) () (owedFrom c k) :=
  mayWait c _ k fun i h _ => by
    show dlev (recvS p l j).val < _
    rw [recvS_val hp hl hj]; unfold dlev stepLev
    rw [if_neg (show ¬ i < 8 by omega)]
    rcases (by omega : p = 0 ∨ p = 1) with rfl | rfl
    · rw [if_pos (by omega)]; omega
    · rw [if_neg (by omega), if_pos (by omega)]; omega

end Cert.KernelIdealProof
-- ==== Proof.Tiles.lean ====
/-
# 01_k — the weight tiles

The tiles of a weight are copied one ahead of their use into two slots. `n` copies were issued and `w` of them waited
for: tile `i` is in flight for `w ≤ i < n` and at rest in its array otherwise, and a slot no copy is in flight to is
owned, the one waited for last at its tile.
-/
module

public import proofs.«01_k».proof.Proof.Protocol

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The tiles of a weight: where tile `i` lies, the two slots, their semaphores, and the contents of tile `i`. -/
structure Pipe (F : FTy → Type) where
  sp : Space
  s : Shape
  T : ℕ → Memref sig .tc sp s .f32
  S : ℕ → Memref sig .tc .vmem s .f32
  q : ℕ → DmaSem sig
  X : ℕ → Vec F s .f32
  N : ℕ
  pos : 0 < N
  cred : ∀ k, (S k).view.dmaCredit = N
  low : ∀ k, dlev (q k).val = 0

/-- A local copy between two owned views; it delivers both, the destination at the source's contents. -/
theorem copy_owns (c : Dev nD) {sp sp' : Space} {s : Shape} {e : EltTy} {α : Type} {Q : α → sProp 𝕄} {src : Memref sig .tc sp s e}
    {dst : Memref sig .tc sp' s e} {sm : DmaSem sig} {hsrc : src.view.WordExact} {hdst : dst.view.WordExact}
    {hsem : DmaTarget.Typed (nD := nD) sp (.dma sm) (DmaTarget.here (nD := nD) (p := (.tc : Proc τ)) dst)} {k : PUnit → PG F α} {X Z : s.Idx → Elt F e} {N : ℕ}
    (hN : dst.view.dmaCredit = N) (h0 : 0 < N) :
    iprop(owns (c : Thread nD τ) src fullShare X ∗ owns (c : Thread nD τ) dst fullShare Z ∗ semVal ((c : Thread nD τ), .dma sm) 0)
      ⊢ iprop((Transfers.Flight EC (c : Thread nD τ) (.dma sm) () N (iprop(owns (c : Thread nD τ) dst fullShare X ∗ owns (c : Thread nD τ) src fullShare X))
          -∗ WP c (k ⟨⟩) Q) -∗ WP c (.op (.enqueueDma src (.here dst) (.dma sm) hsrc hdst hsem) k) Q) := by
  unfold owns
  iintro ⟨⟨%fs, %hfs, Hs⟩, ⟨%fd, %hfd, Hd⟩, Hv⟩ Hk
  iapply (Transfers.wp_dmaLocal EC 𝒱₀ (c : Thread nD τ) none (src := src) (dst := dst) (sm := .dma sm) () N hN h0 Finset.Subset.rfl) $$ [Hs Hd Hv]
  · isplitl [Hs]; · iexact Hs
    isplitl [Hd] <;> iassumption
  iintro HF
  iapply Hk
  iapply (Transfers.Flight_mono EC (c : Thread nD τ) ?_) $$ HF
  iintro ⟨Hd, Hs⟩
  isplitl [Hd]
  · iexists _; isplitr; swap; · iexact Hd
    ipureintro
    rw [View.read_write_univ]; exact hfs
  · iexists fs; isplitr; · ipureintro; exact hfs
    iexact Hs

namespace Pipe
variable (P : Pipe F) (c : Dev nD)

def tile (n w i : ℕ) : sProp 𝕄 :=
  if w ≤ i ∧ i < n then Transfers.Flight EC (c : Thread nD τ) (.dma (P.q (i % 2))) () P.N
      (iprop(owns (c : Thread nD τ) (P.S (i % 2)) fullShare (P.X i) ∗ owns (c : Thread nD τ) (P.T i) fullShare (P.X i)))
  else owns (c : Thread nD τ) (P.T i) fullShare (P.X i)

/-- A slot at rest. -/
def rest (w k : ℕ) : sProp 𝕄 :=
  iprop(semVal ((c : Thread nD τ), .dma (P.q k)) 0 ∗ ∃ Z, ⌜1 ≤ w → (w - 1) % 2 = k → Z = P.X (w - 1)⌝ ∗ owns (c : Thread nD τ) (P.S k) fullShare Z)

open scoped Classical in
def slot (n w k : ℕ) : sProp 𝕄 := if ∃ i, w ≤ i ∧ i < n ∧ i % 2 = k then iprop(emp) else P.rest c w k

def tiles (n w : ℕ) : sProp 𝕄 :=
  iprop((bigSep Finset.univ fun i : Fin 24 => P.tile c n w i.val) ∗ bigSep Finset.univ fun k : Fin 2 => P.slot c n w k.val)

variable {α : Type}

theorem enqueue {Q : α → sProp 𝕄} {n w : ℕ} (hn : n < 24) (h₁ : w ≤ n) (h₂ : n ≤ w + 1) {src : Memref sig .tc P.sp P.s .f32}
    {dst : Memref sig .tc .vmem P.s .f32} {sm : DmaSem sig} {hsrc : src.view.WordExact} {hdst : dst.view.WordExact}
    {hsem : DmaTarget.Typed (nD := nD) P.sp (.dma sm) (DmaTarget.here (nD := nD) (p := (.tc : Proc τ)) dst)} {k : PUnit → PG F α}
    (hS : src = P.T n) (hD : dst = P.S (n % 2)) (hq : sm = P.q (n % 2)) :
    P.tiles c n w ⊢ iprop((P.tiles c (n + 1) w -∗ WP c (k ⟨⟩) Q)
      -∗ WP c (.op (.enqueueDma src (.here dst) (.dma sm) hsrc hdst hsem) k) Q) := by
  subst hS hD hq
  have e₁ : P.tile c n w n = owns (c : Thread nD τ) (P.T n) fullShare (P.X n) := if_neg (by omega)
  have e₂ : P.slot c n w (n % 2) = P.rest c w (n % 2) := if_neg (by rintro ⟨i, hi⟩; omega)
  have e₃ : P.tile c (n + 1) w n = Transfers.Flight EC (c : Thread nD τ) (.dma (P.q (n % 2))) () P.N
      (iprop(owns (c : Thread nD τ) (P.S (n % 2)) fullShare (P.X n) ∗ owns (c : Thread nD τ) (P.T n) fullShare (P.X n))) := if_pos (by omega)
  have e₄ : P.slot c (n + 1) w (n % 2) = iprop(emp) := if_pos ⟨n, by omega⟩
  have hT := bigSep_univ_update (Φ := fun i : Fin 24 => P.tile c n w i.val) (Ψ := fun i : Fin 24 => P.tile c (n + 1) w i.val) ⟨n, hn⟩
    (fun i hi => by
      have hi' : i.val ≠ n := fun h => hi (Fin.ext h)
      unfold tile; exact if_congr (by omega) rfl rfl)
  have hK := bigSep_univ_update (Φ := fun k : Fin 2 => P.slot c n w k.val) (Ψ := fun k : Fin 2 => P.slot c (n + 1) w k.val)
    ⟨n % 2, Nat.mod_lt _ (by decide)⟩
    (fun k hk => by
      have hk' : k.val ≠ n % 2 := fun h => hk (Fin.ext h)
      unfold slot
      rw [show (∃ i, w ≤ i ∧ i < n + 1 ∧ i % 2 = k.val) = (∃ i, w ≤ i ∧ i < n ∧ i % 2 = k.val) from
        propext ⟨fun ⟨i, h⟩ => ⟨i, by omega⟩, fun ⟨i, h⟩ => ⟨i, by omega⟩⟩])
  dsimp only at hT hK
  rw [e₁, e₃] at hT
  rw [e₂, e₄] at hK
  unfold tiles
  iintro ⟨HT, HK⟩ Hk
  ihave HT := hT $$ HT
  icases HT with ⟨Ht, HT⟩
  ihave HK := hK $$ HK
  icases HK with ⟨Hs, HK⟩
  unfold rest
  icases Hs with ⟨Hv, %Z, -, Hs⟩
  iapply (copy_owns c (P.cred _) P.pos) $$ [Ht Hs Hv]
  · isplitl [Ht]; · iexact Ht
    isplitl [Hs] <;> iassumption
  iintro HF
  iapply Hk
  isplitl [HF HT]
  · iapply HT; iexact HF
  · iapply HK; iempintro

theorem wait {Q : α → sProp 𝕄} {n w o : ℕ} (hn : n ≤ 24) (h₁ : w < n) (h₂ : n ≤ w + 2) {sm : DmaSem sig} {sp' : Space} {s' : Shape} {e' : EltTy}
    {srcw : Memref sig .tc sp' s' e'} {dstw : Memref sig .tc .vmem P.s .f32} {hsrc : srcw.view.WordExact} {hdst : dstw.view.WordExact}
    {k : PUnit → PG F α} {W : Waits sig Unit} (hq : sm = P.q (w % 2)) (hD : dstw = P.S (w % 2)) :
    iprop(P.tiles c n w ∗ levAts L lv ∗ owes (c : Thread nD τ) (owedFrom c o) W)
      ⊢ iprop(((P.tiles c n (w + 1) ∗ ∃ W, owes (c : Thread nD τ) (owedFrom c o) W) -∗ WP c (k ⟨⟩) Q)
      -∗ WP c (.op (.waitDma2 sm srcw dstw hsrc hdst) k) Q) := by
  subst hq hD
  have e₁ : P.tile c n (w + 1) w = owns (c : Thread nD τ) (P.T w) fullShare (P.X w) := if_neg (by omega)
  have e₂ : P.slot c n (w + 1) (w % 2) = P.rest c (w + 1) (w % 2) := if_neg (by rintro ⟨i, hi⟩; omega)
  have e₃ : P.tile c n w w = Transfers.Flight EC (c : Thread nD τ) (.dma (P.q (w % 2))) () P.N
      (iprop(owns (c : Thread nD τ) (P.S (w % 2)) fullShare (P.X w) ∗ owns (c : Thread nD τ) (P.T w) fullShare (P.X w))) := if_pos (by omega)
  have e₄ : P.slot c n w (w % 2) = iprop(emp) := if_pos ⟨w, by omega⟩
  have hT := bigSep_univ_update (Φ := fun i : Fin 24 => P.tile c n w i.val) (Ψ := fun i : Fin 24 => P.tile c n (w + 1) i.val) ⟨w, by omega⟩
    (fun i hi => by
      have hi' : i.val ≠ w := fun h => hi (Fin.ext h)
      unfold tile; exact if_congr (by omega) rfl rfl)
  have hother (k : Fin 2) (hk : k.val ≠ w % 2) : P.slot c n w k.val ⊢ P.slot c n (w + 1) k.val := by
    unfold slot
    rw [show (∃ i, w + 1 ≤ i ∧ i < n ∧ i % 2 = k.val) = (∃ i, w ≤ i ∧ i < n ∧ i % 2 = k.val) from
        propext ⟨fun ⟨i, h⟩ => ⟨i, by omega⟩, fun ⟨i, h⟩ => ⟨i, by omega⟩⟩]
    split
    · exact .rfl
    · unfold rest
      iintro ⟨Hv, %Z, -, H⟩
      isplitl [Hv]; · iexact Hv
      iexists Z; isplitr; · ipureintro; intro _ h; omega
      iexact H
  have hK : (bigSep Finset.univ fun k : Fin 2 => P.slot c n w k.val)
      ⊢ iprop(P.rest c (w + 1) (w % 2) -∗ bigSep Finset.univ fun k : Fin 2 => P.slot c n (w + 1) k.val) := by
    have h := bigSep_univ_update (Φ := fun k : Fin 2 => if k.val = w % 2 then iprop(emp) else P.slot c n (w + 1) k.val)
      (Ψ := fun k : Fin 2 => P.slot c n (w + 1) k.val)
      ⟨w % 2, Nat.mod_lt _ (by decide)⟩ (fun k hk => (if_neg fun h => hk (Fin.ext h)).symm)
    dsimp only at h
    rw [if_pos rfl, e₂] at h
    refine (bigSep_mono (Ψ := fun k : Fin 2 => if k.val = w % 2 then iprop(emp) else P.slot c n (w + 1) k.val) fun k _ => ?_).trans (h.trans ?_)
    · by_cases hk : k.val = w % 2
      · have h0 : P.slot c n w k.val ⊢ (iprop(emp) : sProp 𝕄) := by rw [hk, e₄]
        rw [if_pos hk]; exact h0
      · rw [if_neg hk]; exact hother k hk
    · iintro ⟨-, H⟩; iexact H
  dsimp only at hT hK
  rw [e₁, e₃] at hT
  unfold tiles
  iintro ⟨⟨HT, HK⟩, #Hlev, HO⟩ Hk
  ihave HT := hT $$ HT
  icases HT with ⟨Ht, HT⟩
  ihave HK := hK $$ HK
  ihave Hm := (mayWait_low c (P.q (w % 2)) o (P.low _)) $$ Hlev
  iapply (Transfers.wp_waitLocalO EC 𝒱₀ (c : Thread nD τ) none () (P.cred _)) $$ [Ht HO Hm]
  · isplitl [Ht]; · iexact Ht
    isplitl [HO] <;> iassumption
  iintro ⟨⟨Hs, Ht⟩, Hv, HO⟩
  iapply Hk
  isplitr [HO]
  · isplitl [Ht HT]
    · iapply HT; iexact Ht
    · iapply HK
      unfold rest
      isplitl [Hv]; · iexact Hv
      iexists _; isplitr; swap; · iexact Hs
      ipureintro; intro _ _; rfl
  · iexists _; iexact HO

/-- The slot waited for last, at its tile. -/
theorem last {n w : ℕ} (h : n ≤ w + 1) (hw : 1 ≤ w) :
    P.tiles c n w ⊢ iprop(owns (c : Thread nD τ) (P.S ((w - 1) % 2)) fullShare (P.X (w - 1))
      ∗ (owns (c : Thread nD τ) (P.S ((w - 1) % 2)) fullShare (P.X (w - 1)) -∗ P.tiles c n w)) := by
  have e₂ : P.slot c n w ((w - 1) % 2) = P.rest c w ((w - 1) % 2) := if_neg (by rintro ⟨i, hi⟩; omega)
  have hK := bigSep_univ_update (Φ := fun k : Fin 2 => P.slot c n w k.val) (Ψ := fun k : Fin 2 => P.slot c n w k.val)
    ⟨(w - 1) % 2, Nat.mod_lt _ (by decide)⟩ (fun _ _ => rfl)
  dsimp only at hK
  rw [e₂] at hK
  unfold tiles
  iintro ⟨HT, HK⟩
  ihave HK := hK $$ HK
  unfold rest
  icases HK with ⟨⟨Hv, %Z, %hZ, Hs⟩, HK⟩
  obtain rfl := hZ hw rfl
  isplitl [Hs]; · iexact Hs
  iintro Hs
  isplitl [HT]; · iexact HT
  iapply HK
  isplitl [Hv]; · iexact Hv
  iexists _; isplitr; swap; · iexact Hs
  ipureintro; intro _ _; rfl

end Pipe

end Cert.KernelIdealProof
-- ==== Proof.State.lean ====
/-
# 01_k — what a device owns between two steps of its body

Families of 24 cells and slots, one for every layer and device, walked through in order by counters; the buffers and what
they hold; and the points of the body, with the counters and contents at each.
-/
module

public import proofs.«01_k».proof.Proof.Tiles

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## The cells, shared -/

/-- A cell's invariant, and its first round reached. -/
def cellAt (g : GSem nD τ sig) : sProp 𝕄 := iprop(∃ κ, cellInv ER (sched I) κ g ∗ reached ER g 0)

instance cellAt_persistent (g : GSem nD τ sig) : BI.Persistent (cellAt I g) := by unfold cellAt; infer_instance

/-- The cells of a device: the barrier, and its 96 DMA cells of remote copies. -/
def kcell (ck : Dev nD × Option (Fin 96)) : GSem nD τ sig :=
  match ck.2 with
  | none => barCell ck.1
  | some i => dCell ck.1 (dsem (6 + i.val))

def ctx : sProp 𝕄 := iprop((bigSep Finset.univ fun ck => cellAt I (kcell ck)) ∗ levAts L lv)

instance ctx_persistent : BI.Persistent (ctx I) := by unfold ctx; infer_instance

theorem ctx_lev : ctx I ⊢ levAts L lv := by unfold ctx; iintro ⟨-, H⟩; iexact H

theorem ctx_cell (ck : Dev nD × Option (Fin 96)) : ctx I ⊢ cellAt I (kcell ck) := by
  have h : (bigSep Finset.univ fun ck => cellAt I (kcell ck)) ⊢ cellAt I (kcell ck) := bigSep_elim (Finset.mem_univ ck)
  unfold ctx; iintro ⟨H, -⟩
  ihave H := h $$ H
  iexact H

theorem ctx_bar (c : Dev nD) : ctx I ⊢ cellAt I (barCell c) := ctx_cell I (c, none)

theorem ctx_dma (c : Dev nD) {n : ℕ} (h₁ : 6 ≤ n) (h₂ : n < 102) : ctx I ⊢ cellAt I (dCell c (dsem n)) := by
  obtain ⟨i, rfl⟩ : ∃ i : Fin 96, n = 6 + i.val := ⟨⟨n - 6, by omega⟩, by show n = 6 + (n - 6); omega⟩
  exact ctx_cell I (c, some i)

/-! ## Families walked through by two counters -/

/-- The first `w` items are at `A`, those from there to `n` at `B`, the rest at `C`. -/
def fam {m : ℕ} (A B C : ℕ → sProp 𝕄) (n w : ℕ) : sProp 𝕄 :=
  bigSep Finset.univ fun i : Fin m => if i.val < w then A i.val else if i.val < n then B i.val else C i.val

theorem fam_issue {m : ℕ} {A B C : ℕ → sProp 𝕄} {n w : ℕ} (hn : n < m) (hw : w ≤ n) :
    fam (m := m) A B C n w ⊢ iprop(C n ∗ (B n -∗ fam (m := m) A B C (n + 1) w)) := by
  have h := bigSep_univ_update (Φ := fun i : Fin m => if i.val < w then A i.val else if i.val < n then B i.val else C i.val)
    (Ψ := fun i : Fin m => if i.val < w then A i.val else if i.val < n + 1 then B i.val else C i.val) ⟨n, hn⟩
    (fun i hi => by
      have hi' : i.val ≠ n := fun h => hi (Fin.ext h)
      exact if_congr Iff.rfl rfl (if_congr (by omega) rfl rfl))
  dsimp only at h
  rw [if_neg (by omega), if_neg (by omega), if_neg (by omega), if_pos (by omega)] at h
  exact h

theorem fam_done {m : ℕ} {A B C : ℕ → sProp 𝕄} {n w : ℕ} (hn : n ≤ m) (hw : w < n) :
    fam (m := m) A B C n w ⊢ iprop(B w ∗ (A w -∗ fam (m := m) A B C n (w + 1))) := by
  have h := bigSep_univ_update (Φ := fun i : Fin m => if i.val < w then A i.val else if i.val < n then B i.val else C i.val)
    (Ψ := fun i : Fin m => if i.val < w + 1 then A i.val else if i.val < n then B i.val else C i.val) ⟨w, by omega⟩
    (fun i hi => by
      have hi' : i.val ≠ w := fun h => hi (Fin.ext h)
      exact if_congr (by omega) rfl rfl)
  dsimp only at h
  rw [if_neg (by omega), if_pos (by omega), if_pos (by omega)] at h
  exact h

/-- An item already done, looked at. -/
theorem fam_look {m : ℕ} {A B C : ℕ → sProp 𝕄} {n w i : ℕ} (hi : i < m) (hw : i < w) :
    fam (m := m) A B C n w ⊢ iprop(A i ∗ (A i -∗ fam (m := m) A B C n w)) := by
  have h := bigSep_univ_update (Φ := fun i : Fin m => if i.val < w then A i.val else if i.val < n then B i.val else C i.val)
    (Ψ := fun i : Fin m => if i.val < w then A i.val else if i.val < n then B i.val else C i.val) ⟨i, hi⟩ (fun _ _ => rfl)
  dsimp only at h
  rw [if_pos hw] at h
  exact h

/-! ## Sends and receives -/

variable (c : Dev nD)

/-- The slot of the send buffer that a send of phase 0 reads. -/
def back (p l j : ℕ) : sProp 𝕄 := if p = 0 then anySlot c sbM l j else iprop(emp)

abbrev sCell (p i : ℕ) : GSem nD τ sig := dCell c (sendS p (i / 8) (i % 8))
abbrev rCell (p i : ℕ) : GSem nD τ sig := dCell c (recvS p (i / 8) (i % 8))

/-- Send number `i = 8 l + j` of phase `p`: waited for, -/
def sendA (p i : ℕ) : sProp 𝕄 :=
  if c.val = i % 8 then iprop(atPos ER (sCell c p i) 0 ∅ 0 ∗ back (F := F) c p (i / 8) (i % 8))
  else iprop(atPos ER (sCell c p i) 1 ∅ 0 ∗ back c p (i / 8) (i % 8))
/-- in flight, -/
def sendB (p i : ℕ) : sProp 𝕄 :=
  if c.val = i % 8 then iprop(atPos ER (sCell c p i) 0 ∅ 0 ∗ back (F := F) c p (i / 8) (i % 8))
  else iprop(atPos ER (sCell c p i) 0 ∅ 0 ∗ cred (tallyAt (sCell c p i) () N))
/-- not yet issued. -/
def sendC (p i : ℕ) : sProp 𝕄 :=
  if c.val = i % 8 then iprop(atPos ER (sCell c p i) 0 ∅ 0 ∗ back (F := F) c p (i / 8) (i % 8))
  else iprop(atPos ER (sCell c p i) 0 ∅ 0 ∗ dutyTok ER (sCell c p i) 0 0
    ∗ dutyTok ER (dCell (dv (i % 8)) (recvS p (i / 8) c.val)) 0 0 ∗ anySlot (dv (i % 8)) (landM p) (i / 8) c.val ∗ back c p (i / 8) (i % 8))

/-- Receive number `i = 8 l + d` of phase `p`: waited for, with the block landed, -/
def recvA (p i : ℕ) : sProp 𝕄 :=
  if c.val = i % 8 then iprop(atPos ER (rCell c p i) 0 ∅ 0 ∗ anySlot (F := F) c (landM p) (i / 8) (i % 8))
  else iprop(atPos ER (rCell c p i) 1 ∅ 0 ∗ landPay I c p (i / 8) (i % 8))
/-- still to come. -/
def recvB (p i : ℕ) : sProp 𝕄 :=
  if c.val = i % 8 then iprop(atPos ER (rCell c p i) 0 ∅ 0 ∗ anySlot (F := F) c (landM p) (i / 8) (i % 8))
  else iprop(atPos ER (rCell c p i) 0 ∅ 0 ∗ cred (tallyAt (rCell c p i) () N))

def sends (p n w : ℕ) : sProp 𝕄 := fam (m := 24) (sendA c p) (sendB c p) (sendC c p) n w
def recvs (p r : ℕ) : sProp 𝕄 := fam (m := 24) (recvA I c p) (recvB c p) (fun _ => iprop(emp)) 24 r

/-! ## The hidden activations, shared out to the sends of a layer -/

/-- The token of the send to device `j`: at rest, or (but for the device's own) in flight. -/
def tok (l j : ℕ) : sProp 𝕄 := owns (c : Thread nD τ) hM (Transfers.shareTokN fullShare j) (hidV I l c)
def tokB (l j : ℕ) : sProp 𝕄 := if c.val = j then tok I c l j else iprop(emp)

def hFree : sProp 𝕄 := iprop(∃ X : Vec F S64x512 .bf16, owns (c : Thread nD τ) hM fullShare X)
def hShare (l a w : ℕ) : sProp 𝕄 :=
  iprop(owns (c : Thread nD τ) hM (Transfers.shareDrop fullShare 8) (hidV I l c) ∗ fam (m := 8) (tok I c l) (tokB I c l) (tok I c l) a w)

theorem hShare_range (l : ℕ) (n w : ℕ) (h : n = 0 ∧ w = 0 ∨ w = 8) :
    (fam (m := 8) (tok I c l) (tokB I c l) (tok I c l) n w : sProp 𝕄) = bigSep (Finset.range 8) fun i => tok I c l i := by
  unfold fam
  rw [show Finset.range 8 = (Finset.univ : Finset (Fin 8)).map Fin.valEmbedding by decide, bigSep_map]
  refine bigSep_congr fun i _ => ?_
  have hi := i.isLt
  rcases h with ⟨rfl, rfl⟩ | rfl
  · rw [if_neg (by omega), if_neg (by omega)]; rfl
  · rw [if_pos hi]; rfl

theorem hShare_open (l : ℕ) : (owns (c : Thread nD τ) hM fullShare (hidV I l c) : sProp 𝕄) ⊢ hShare I c l 0 0 := by
  unfold hShare; rw [hShare_range I c l 0 0 (.inl ⟨rfl, rfl⟩)]
  exact (owns_tokens (c : Thread nD τ) hM fullShare (hidV I l c) 8).1

theorem hShare_close (l a : ℕ) : hShare I c l a 8 ⊢ hFree (F := F) c := by
  unfold hShare hFree; rw [hShare_range I c l a 8 (.inr rfl)]
  refine BIBase.Entails.trans (owns_tokens (c : Thread nD τ) hM fullShare (hidV I l c) 8).2 ?_
  iintro H; iexists _; iexact H

/-! ## The buffers and the tiles -/

abbrev aM : Memref sig .tc .vmem S64x2048 .f32 := Memref.whole cc0_stg0_0
abbrev oM : Memref sig .tc .vmem S64x2048 .f32 := Memref.whole cc0_stg1_0
abbrev xM : Memref sig .tc .vmem S64x2048 .bf16 := Memref.whole cc0_scratch0
abbrev wiM : Memref sig .tc .vmem S2x2048x512 .f32 := Memref.whole cc0_scratch1
abbrev woM : Memref sig .tc .vmem S2x512x2048 .f32 := Memref.whole cc0_scratch2
abbrev accM : Memref sig .tc .vmem S64x512 .f32 := Memref.whole cc0_scratch3
abbrev prodM : Memref sig .tc .vmem S64x2048 .f32 := Memref.whole cc0_scratch4

/-- The first weight of layer `l`, in HBM; -/
def wiMem : ℕ → Memref sig .tc .hbm S2048x4096 .f32
  | 0 => Memref.whole main_arg1
  | 1 => Memref.whole main_arg3
  | _ => Memref.whole main_arg5
/-- the second. -/
def woMem : ℕ → Memref sig .tc .hbm S4096x2048 .f32
  | 0 => Memref.whole main_arg2
  | 1 => Memref.whole main_arg4
  | _ => Memref.whole main_arg6

theorem inbSi (k : Fin 2) : ∀ a, (![k.val, 0, 0] : Fin 3 → ℕ) a + S1x2048x512.size a ≤ S2x2048x512.size a := by revert k; decide
theorem inbSo (k : Fin 2) : ∀ a, (![k.val, 0, 0] : Fin 3 → ℕ) a + S1x512x2048.size a ≤ S2x512x2048.size a := by revert k; decide

abbrev slotI₂ (k : Fin 2) : Memref sig .tc .vmem S2048x512 .f32 :=
  (wiM.slice (Rect.unit ![k.val, 0, 0] S1x2048x512.size (inbSi k)) (fun _ => rfl)).squeeze S2048x512 squeezes_S1x2048x512_S2048x512
abbrev slotO₂ (k : Fin 2) : Memref sig .tc .vmem S512x2048 .f32 :=
  (woM.slice (Rect.unit ![k.val, 0, 0] S1x512x2048.size (inbSo k)) (fun _ => rfl)).squeeze S512x2048 squeezes_S1x512x2048_S512x2048

/-- The slot tile number `k` of the first weight is fetched into; -/
def slotI (k : ℕ) : Memref sig .tc .vmem S2048x512 .f32 := slotI₂ ⟨k % 2, Nat.mod_lt _ (by decide)⟩
/-- of the second. -/
def slotO (k : ℕ) : Memref sig .tc .vmem S512x2048 .f32 := slotO₂ ⟨k % 2, Nat.mod_lt _ (by decide)⟩

theorem dlev_low (b k : ℕ) (hb : b ≤ 4) : dlev (dsem (b + k % 2)).val = 0 := by
  rw [dsem_val (by omega)]; unfold dlev; rw [if_neg (by omega), if_neg (by omega)]

abbrev wiP : Pipe F where
  sp := .hbm
  s := S2048x512
  T i := (wiMem (i / 8)).slice (rectWi i) (fun _ => rfl)
  S := slotI
  q k := dsem (2 + k % 2)
  X := wiT I c
  N := (slotI 0).view.dmaCredit
  pos := View.dmaCredit_pos _ (by decide)
  cred _ := rfl
  low k := dlev_low 2 k (by decide)

abbrev woP : Pipe F where
  sp := .hbm
  s := S512x2048
  T i := (woMem (i / 8)).slice (rectWo i) (fun _ => rfl)
  S := slotO
  q k := dsem (4 + k % 2)
  X := woT I c
  N := (slotO 0).view.dmaCredit
  pos := View.dmaCredit_pos _ (by decide)
  cred _ := rfl
  low k := dlev_low 4 k (by decide)

/-! ## The state -/

/-- The counters (what is paid; sends issued and waited for, blocks received, by phase; tiles fetched and waited for, by weight)
and what is known of the buffers. -/
structure Pt (F : FTy → Type) where
  k : ℕ
  n₀ : ℕ
  w₀ : ℕ
  n₁ : ℕ
  w₁ : ℕ
  r : ℕ
  g : ℕ
  wn : ℕ
  ww : ℕ
  on : ℕ
  ow : ℕ
  x : Vec F S64x2048 .bf16 → Prop
  acc : Vec F S64x512 .f32 → Prop
  prod : Vec F S64x2048 .f32 → Prop
  out : Vec F S64x2048 .f32 → Prop
  h : Option (ℕ × ℕ × ℕ)

def hid? : Option (ℕ × ℕ × ℕ) → sProp 𝕄
  | none => hFree c
  | some (l, a, w) => hShare I c l a w

/-- A buffer owned, at contents of which `P` holds. -/
def holds {s : Shape} {e : EltTy} (m : Memref sig .tc .vmem s e) (P : Vec F s e → Prop) : sProp 𝕄 :=
  iprop(∃ X, ⌜P X⌝ ∗ owns (c : Thread nD τ) m fullShare X)

def Ow (k : ℕ) : sProp 𝕄 := iprop(∃ W, owes (c : Thread nD τ) (owedFrom c k) W)

def St (P : Pt F) : sProp 𝕄 :=
  iprop(ctx I ∗ Ow c P.k ∗ sends c 0 P.n₀ P.w₀ ∗ sends c 1 P.n₁ P.w₁ ∗ recvs I c 0 P.r ∗ recvs I c 1 P.g
    ∗ (wiP I c).tiles c P.wn P.ww ∗ (woP I c).tiles c P.on P.ow
    ∗ owns (c : Thread nD τ) aM fullShare (I.x c) ∗ holds c xM P.x ∗ holds c accM P.acc ∗ holds c prodM P.prod ∗ holds c oM P.out ∗ hid? I c P.h)

/-! ## Parts of the state, taken out and put back changed -/

section Lens

theorem pick_skip {A R R' X X' : sProp 𝕄} (h : R ⊢ iprop(X ∗ (X' -∗ R'))) : iprop(A ∗ R) ⊢ iprop(X ∗ (X' -∗ A ∗ R')) := by
  refine (sep_mono_right h).trans ?_
  iintro ⟨HA, HX, HR⟩
  isplitl [HX]; · iexact HX
  iintro HX
  isplitl [HA]; · iexact HA
  iapply HR; iexact HX

theorem pick_take {A A' R R' X X' : sProp 𝕄} (h : R ⊢ iprop(X ∗ (X' -∗ R'))) :
    iprop(A ∗ R) ⊢ iprop((A ∗ X) ∗ ((A' ∗ X') -∗ A' ∗ R')) := by
  refine (sep_mono_right h).trans ?_
  iintro ⟨HA, HX, HR⟩
  isplitl [HA HX]; · isplitl [HA] <;> iassumption
  iintro ⟨HA, HX⟩
  isplitl [HA]; · iexact HA
  iapply HR; iexact HX

theorem pick_last {A A' R : sProp 𝕄} : iprop(A ∗ R) ⊢ iprop(A ∗ (A' -∗ A' ∗ R)) := by
  iintro ⟨HA, HR⟩
  isplitl [HA]; · iexact HA
  iintro HA
  isplitl [HA] <;> iassumption

theorem pick_end {A A' : sProp 𝕄} : A ⊢ iprop(A ∗ (A' -∗ A')) := by
  iintro HA
  isplitl [HA]; · iexact HA
  iintro HA; iexact HA

variable {P P' : Pt F}

theorem lens_x {p : Vec F S64x2048 .bf16 → Prop} (e : P' = { P with x := p }) :
    St I c P ⊢ iprop(holds c xM P.x ∗ (holds c xM p -∗ St I c P')) := by
  subst e; exact pick_skip (pick_skip (pick_skip (pick_skip (pick_skip (pick_skip (pick_skip (pick_skip (pick_skip pick_last))))))))

theorem lens_acc {p : Vec F S64x512 .f32 → Prop} (e : P' = { P with acc := p }) :
    St I c P ⊢ iprop(holds c accM P.acc ∗ (holds c accM p -∗ St I c P')) := by
  subst e; exact pick_skip (pick_skip (pick_skip (pick_skip (pick_skip (pick_skip (pick_skip (pick_skip (pick_skip (pick_skip pick_last)))))))))

theorem lens_prod {p : Vec F S64x2048 .f32 → Prop} (e : P' = { P with prod := p }) :
    St I c P ⊢ iprop(holds c prodM P.prod ∗ (holds c prodM p -∗ St I c P')) := by
  subst e; exact pick_skip (pick_skip (pick_skip (pick_skip (pick_skip (pick_skip (pick_skip (pick_skip (pick_skip (pick_skip (pick_skip pick_last))))))))))

theorem lens_out {p : Vec F S64x2048 .f32 → Prop} (e : P' = { P with out := p }) :
    St I c P ⊢ iprop(holds c oM P.out ∗ (holds c oM p -∗ St I c P')) := by
  subst e; exact pick_skip (pick_skip (pick_skip (pick_skip (pick_skip (pick_skip (pick_skip (pick_skip (pick_skip (pick_skip (pick_skip (pick_skip pick_last)))))))))))

theorem lens_h {p : Option (ℕ × ℕ × ℕ)} (e : P' = { P with h := p }) :
    St I c P ⊢ iprop(hid? I c P.h ∗ (hid? I c p -∗ St I c P')) := by
  subst e; exact pick_skip (pick_skip (pick_skip (pick_skip (pick_skip (pick_skip (pick_skip (pick_skip (pick_skip (pick_skip (pick_skip (pick_skip (pick_skip pick_end))))))))))))

theorem lens_wi {n w : ℕ} (e : P' = { P with wn := n, ww := w }) :
    St I c P ⊢ iprop((ctx I ∗ Ow c P.k ∗ (wiP I c).tiles c P.wn P.ww) ∗ ((ctx I ∗ Ow c P.k ∗ (wiP I c).tiles c n w) -∗ St I c P')) := by
  subst e; exact pick_take (pick_take (pick_skip (pick_skip (pick_skip (pick_skip pick_last)))))

theorem lens_wo {n w : ℕ} (e : P' = { P with on := n, ow := w }) :
    St I c P ⊢ iprop((ctx I ∗ Ow c P.k ∗ (woP I c).tiles c P.on P.ow) ∗ ((ctx I ∗ Ow c P.k ∗ (woP I c).tiles c n w) -∗ St I c P')) := by
  subst e; exact pick_take (pick_take (pick_skip (pick_skip (pick_skip (pick_skip (pick_skip pick_last))))))

/-- For a send of phase 0; -/
theorem lens_s₀ {k n : ℕ} (e : P' = { P with k := k, n₀ := n }) :
    St I c P ⊢ iprop((ctx I ∗ Ow c P.k ∗ sends c 0 P.n₀ P.w₀) ∗ ((ctx I ∗ Ow c k ∗ sends c 0 n P.w₀) -∗ St I c P')) := by
  subst e; exact pick_take (pick_take pick_last)

/-- of phase 1. -/
theorem lens_s₁ {k n : ℕ} {h : Option (ℕ × ℕ × ℕ)} (e : P' = { P with k := k, n₁ := n, h := h }) :
    St I c P ⊢ iprop((ctx I ∗ Ow c P.k ∗ sends c 1 P.n₁ P.w₁ ∗ hid? I c P.h) ∗ ((ctx I ∗ Ow c k ∗ sends c 1 n P.w₁ ∗ hid? I c h) -∗ St I c P')) := by
  subst e
  exact pick_take (pick_take (pick_skip (pick_take (pick_skip (pick_skip (pick_skip (pick_skip (pick_skip (pick_skip (pick_skip (pick_skip (pick_skip pick_end))))))))))))

/-- For a receive of phase 0, and the sum; -/
theorem lens_r₀ {r : ℕ} {p : Vec F S64x512 .f32 → Prop} (e : P' = { P with r := r, acc := p }) :
    St I c P ⊢ iprop((ctx I ∗ Ow c P.k ∗ recvs I c 0 P.r ∗ holds c accM P.acc) ∗ ((ctx I ∗ Ow c P.k ∗ recvs I c 0 r ∗ holds c accM p) -∗ St I c P')) := by
  subst e
  exact pick_take (pick_take (pick_skip (pick_skip (pick_take (pick_skip (pick_skip (pick_skip (pick_skip (pick_skip pick_last)))))))))

/-- of phase 1. -/
theorem lens_r₁ {g : ℕ} (e : P' = { P with g := g }) :
    St I c P ⊢ iprop((ctx I ∗ Ow c P.k ∗ recvs I c 1 P.g) ∗ ((ctx I ∗ Ow c P.k ∗ recvs I c 1 g) -∗ St I c P')) := by
  subst e; exact pick_take (pick_take (pick_skip (pick_skip (pick_skip pick_last))))

/-- For the waits on the sends. -/
theorem lens_w {w₀ w₁ : ℕ} {h : Option (ℕ × ℕ × ℕ)} (e : P' = { P with w₀ := w₀, w₁ := w₁, h := h }) :
    St I c P ⊢ iprop((ctx I ∗ Ow c P.k ∗ sends c 0 P.n₀ P.w₀ ∗ sends c 1 P.n₁ P.w₁ ∗ hid? I c P.h)
      ∗ ((ctx I ∗ Ow c P.k ∗ sends c 0 P.n₀ w₀ ∗ sends c 1 P.n₁ w₁ ∗ hid? I c h) -∗ St I c P')) := by
  subst e
  exact pick_take (pick_take (pick_take (pick_take (pick_skip (pick_skip (pick_skip (pick_skip (pick_skip (pick_skip (pick_skip (pick_skip (pick_skip pick_end))))))))))))

end Lens

/-! ## The points of the body -/

/-- Of layer `l`, iteration `j`: the first product (`ra`: before the next tile is fetched; `rb`: its tile is waited for; `rc`, `rd`: the
operands are loaded; `re`: its own chunk is kept; `rf`: the chunk is sent), the receives `rv`, the hidden activations `h1`, `h2`, their
sends `sd`, the second product (`ga` … `gi` likewise), the new activations `n1`, `n2`, and the waits on the sends `wt`. -/
inductive PP where
  | ra (l j : ℕ) | rb (l j : ℕ) | rc (l j : ℕ) | rd (l j : ℕ) | re (l j : ℕ) | rf (l j : ℕ)
  | rv (l j : ℕ) | h1 (l : ℕ) | h2 (l : ℕ) | sd (l j : ℕ)
  | ga (l j : ℕ) | gb (l j : ℕ) | gc (l j : ℕ) | gd (l j : ℕ) | ge (l j : ℕ) | gf (l j : ℕ) | gg (l j : ℕ) | gh (l j : ℕ) | gi (l j : ℕ)
  | n1 (l : ℕ) | n2 (l : ℕ) | wt (l j : ℕ)

/-- A point of the first product: `a` tiles fetched and `w` waited for, `s` sends issued, the device's own chunk kept among the first `o`. -/
def ptR (l a b w s o : ℕ) : Pt F where
  k := 8 + 16 * l + s
  n₀ := 8 * l + s
  w₀ := 8 * l
  n₁ := 8 * l
  w₁ := 8 * l
  r := 8 * l
  g := 8 * l
  wn := 8 * l + min a 8
  ww := 8 * l + w
  on := 8 * l + b / 8
  ow := 8 * l
  x := fun X => X = xV I l c
  acc := fun A => c.val < o → A = ownChunk I (xV I l) l c
  prod := fun _ => True
  out := fun _ => True
  h := none

/-- A point of the receives of chunks, `j` of them in. -/
def ptV (l j : ℕ) : Pt F where
  k := 8 + 16 * l + 8
  n₀ := 8 * l + 8
  w₀ := 8 * l
  n₁ := 8 * l
  w₁ := 8 * l
  r := 8 * l + j
  g := 8 * l
  wn := 8 * l + 8
  ww := 8 * l + 8
  on := 8 * l + 1
  ow := 8 * l
  x := fun X => X = xV I l c
  acc := fun A => A = accV I (xV I l) l c j
  prod := fun _ => True
  out := fun _ => True
  h := none

/-- A point of the sends of hidden activations, `j` of them issued. -/
def ptS (l j : ℕ) : Pt F where
  k := 16 + 16 * l + j
  n₀ := 8 * l + 8
  w₀ := 8 * l
  n₁ := 8 * l + j
  w₁ := 8 * l
  r := 8 * l + 8
  g := 8 * l
  wn := 8 * l + 8
  ww := 8 * l + 8
  on := 8 * l + 1
  ow := 8 * l
  x := fun X => X = xV I l c
  acc := fun _ => True
  prod := fun _ => True
  out := fun _ => True
  h := some (l, j, 0)

/-- A point of the second product: `a` tiles fetched and `w` waited for (the next layer's first once `b` is 8), `g` blocks in, `o` steps summed. -/
def ptG (l a b w g o : ℕ) : Pt F where
  k := 16 + 16 * l + 8
  n₀ := 8 * l + 8
  w₀ := 8 * l
  n₁ := 8 * l + 8
  w₁ := 8 * l
  r := 8 * l + 8
  g := 8 * l + g
  wn := 8 * l + 8 + (if l < 2 then b / 8 else 0)
  ww := 8 * l + 8
  on := 8 * l + min a 8
  ow := 8 * l + w
  x := fun X => X = xV I l c
  acc := fun _ => True
  prod := fun A => ∀ i, o = i + 1 → A = prodV I (xV I l) l c i
  out := fun _ => True
  h := some (l, 8, 0)

/-- A point of the waits on the sends, those to `j` devices over. -/
def ptW (l j : ℕ) : Pt F where
  k := 16 + 16 * l + 8
  n₀ := 8 * l + 8
  w₀ := 8 * l + j
  n₁ := 8 * l + 8
  w₁ := 8 * l + j
  r := 8 * l + 8
  g := 8 * l + 8
  wn := 8 * l + 8 + (if l < 2 then 1 else 0)
  ww := 8 * l + 8
  on := 8 * l + 8
  ow := 8 * l + 8
  x := fun X => l < 2 → X = xV I (l + 1) c
  acc := fun _ => True
  prod := fun _ => True
  out := fun A => l = 2 → A = outV I c
  h := some (l, 8, j)

def pt : PP → Pt F
  | .ra l j => ptR I c l (j + 1) j j j j
  | .rb l j => ptR I c l (j + 2) (j + 1) j j j
  | .rc l j => ptR I c l (j + 2) (j + 1) (j + 1) j j
  | .rd l j => ptR I c l (j + 2) (j + 1) (j + 1) j j
  | .re l j => ptR I c l (j + 2) (j + 1) (j + 1) j j
  | .rf l j => ptR I c l (j + 2) (j + 1) (j + 1) j (j + 1)
  | .rv l j => ptV I c l j
  | .h1 l => ptV I c l 8
  | .h2 l => ptV I c l 8
  | .sd l j => ptS I c l j
  | .ga l j => ptG I c l (j + 1) j j j j
  | .gb l j => ptG I c l (j + 2) (j + 1) j j j
  | .gc l j => ptG I c l (j + 2) (j + 1) (j + 1) j j
  | .gd l j => ptG I c l (j + 2) (j + 1) (j + 1) (j + 1) j
  | .ge l j => ptG I c l (j + 2) (j + 1) (j + 1) (j + 1) j
  | .gf l j => ptG I c l (j + 2) (j + 1) (j + 1) (j + 1) j
  | .gg l j => ptG I c l (j + 2) (j + 1) (j + 1) (j + 1) j
  | .gh l j => ptG I c l (j + 2) (j + 1) (j + 1) (j + 1) j
  | .gi l j => ptG I c l (j + 2) (j + 1) (j + 1) (j + 1) j
  | .n1 l => ptG I c l 9 8 8 8 8
  | .n2 l => ptG I c l 9 8 8 8 8
  | .wt l j => ptW I c l j

/-- What device `c` owns at a point of its body. -/
def S (p : PP) : sProp 𝕄 := St I c (pt I c p)

/-- From that point, what is left of the body reaches `Q`. -/
def Go {α : Type} (p : PP) (r : PG F α) (Q : α → sProp 𝕄) : Prop := S I c p ⊢ WP c r Q

end Cert.KernelIdealProof
-- ==== Proof.Local.lean ====
/-
# 01_k — the steps on a device's own buffers

A fetch of a weight tile and the wait for it; loads and stores.
-/
module

public import proofs.«01_k».proof.Proof.State

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (c : Dev nD) {α : Type}

theorem slotI_mod (k : ℕ) : slotI (k % 2) = slotI k := congrArg slotI₂ (Fin.ext (Nat.mod_mod k 2))
theorem slotO_mod (k : ℕ) : slotO (k % 2) = slotO k := congrArg slotO₂ (Fin.ext (Nat.mod_mod k 2))

/-! ## Weight tiles -/

section Fetch
variable {P P' : Pt F}

theorem fetch_wi {Q : α → sProp 𝕄} {i : ℕ} (e : P' = { P with wn := i + 1, ww := P.ww }) (hi : P.wn = i) (h : i < 24) (h₁ : P.ww ≤ i) (h₂ : i ≤ P.ww + 1)
    {src : Memref sig .tc .hbm S2048x512 .f32} {dst : Memref sig .tc .vmem S2048x512 .f32} {sm : DmaSem sig} {hsrc : src.view.WordExact}
    {hdst : dst.view.WordExact} {hsem : DmaTarget.Typed (nD := nD) .hbm (.dma sm) (DmaTarget.here (nD := nD) (p := (.tc : Proc τ)) dst)}
    {k : PUnit → PG F α} (hS : src = (wiP I c).T i) (hD : dst = slotI i) (hq : sm = dsem (2 + i % 2))
    (hk : St I c P' ⊢ WP c (k ⟨⟩) Q) :
    St I c P ⊢ WP c ((Prog.lift (.enqueueDma src (.here dst) (.dma sm) hsrc hdst hsem) : PG F PUnit) >>= k) Q := by
  subst hi
  have hD' : dst = (wiP I c).S (P.wn % 2) := hD.trans (slotI_mod _).symm
  have hq' : sm = (wiP I c).q (P.wn % 2) := by rw [hq]; simp only [Nat.mod_mod]
  refine (lens_wi I c e).trans ?_
  show _ ⊢ WP c (.op _ k) Q
  iintro ⟨⟨#Hc, HO, HT⟩, Hb⟩
  iapply ((wiP I c).enqueue c h h₁ h₂ hS hD' hq') $$ HT
  iintro HT
  iapply hk; iapply Hb
  isplitr; · iexact Hc
  isplitl [HO] <;> iassumption

theorem fetch_wo {Q : α → sProp 𝕄} {i : ℕ} (e : P' = { P with on := i + 1, ow := P.ow }) (hi : P.on = i) (h : i < 24) (h₁ : P.ow ≤ i) (h₂ : i ≤ P.ow + 1)
    {src : Memref sig .tc .hbm S512x2048 .f32} {dst : Memref sig .tc .vmem S512x2048 .f32} {sm : DmaSem sig} {hsrc : src.view.WordExact}
    {hdst : dst.view.WordExact} {hsem : DmaTarget.Typed (nD := nD) .hbm (.dma sm) (DmaTarget.here (nD := nD) (p := (.tc : Proc τ)) dst)}
    {k : PUnit → PG F α} (hS : src = (woP I c).T i) (hD : dst = slotO i) (hq : sm = dsem (4 + i % 2))
    (hk : St I c P' ⊢ WP c (k ⟨⟩) Q) :
    St I c P ⊢ WP c ((Prog.lift (.enqueueDma src (.here dst) (.dma sm) hsrc hdst hsem) : PG F PUnit) >>= k) Q := by
  subst hi
  have hD' : dst = (woP I c).S (P.on % 2) := hD.trans (slotO_mod _).symm
  have hq' : sm = (woP I c).q (P.on % 2) := by rw [hq]; simp only [Nat.mod_mod]
  refine (lens_wo I c e).trans ?_
  show _ ⊢ WP c (.op _ k) Q
  iintro ⟨⟨#Hc, HO, HT⟩, Hb⟩
  iapply ((woP I c).enqueue c h h₁ h₂ hS hD' hq') $$ HT
  iintro HT
  iapply hk; iapply Hb
  isplitr; · iexact Hc
  isplitl [HO] <;> iassumption

theorem wait_wi {Q : α → sProp 𝕄} {w : ℕ} (e : P' = { P with wn := P.wn, ww := w + 1 }) (hw : P.ww = w) (hn : P.wn ≤ 24) (h₁ : w < P.wn) (h₂ : P.wn ≤ w + 2)
    {sm : DmaSem sig} {sp' : Space} {s' : Shape} {e' : EltTy} {srcw : Memref sig .tc sp' s' e'} {dstw : Memref sig .tc .vmem S2048x512 .f32}
    {hsrc : srcw.view.WordExact} {hdst : dstw.view.WordExact} {k : PUnit → PG F α} (hD : dstw = slotI w) (hq : sm = dsem (2 + w % 2))
    (hk : St I c P' ⊢ WP c (k ⟨⟩) Q) :
    St I c P ⊢ WP c ((Prog.lift (.waitDma2 sm srcw dstw hsrc hdst) : PG F PUnit) >>= k) Q := by
  subst hw
  have hD' : dstw = (wiP I c).S (P.ww % 2) := hD.trans (slotI_mod _).symm
  have hq' : sm = (wiP I c).q (P.ww % 2) := by rw [hq]; simp only [Nat.mod_mod]
  refine (lens_wi I c e).trans ?_
  show _ ⊢ WP c (.op _ k) Q
  unfold Ow
  iintro ⟨⟨#Hc, ⟨%W, HO⟩, HT⟩, Hb⟩
  iapply ((wiP I c).wait c hn h₁ h₂ hq' hD') $$ [HT HO]
  · isplitl [HT]; · iexact HT
    isplitr; · iapply (ctx_lev I); iexact Hc
    iexact HO
  iintro ⟨HT, HO⟩
  iapply hk; iapply Hb
  isplitr; · iexact Hc
  isplitl [HO] <;> iassumption

theorem wait_wo {Q : α → sProp 𝕄} {w : ℕ} (e : P' = { P with on := P.on, ow := w + 1 }) (hw : P.ow = w) (hn : P.on ≤ 24) (h₁ : w < P.on) (h₂ : P.on ≤ w + 2)
    {sm : DmaSem sig} {sp' : Space} {s' : Shape} {e' : EltTy} {srcw : Memref sig .tc sp' s' e'} {dstw : Memref sig .tc .vmem S512x2048 .f32}
    {hsrc : srcw.view.WordExact} {hdst : dstw.view.WordExact} {k : PUnit → PG F α} (hD : dstw = slotO w) (hq : sm = dsem (4 + w % 2))
    (hk : St I c P' ⊢ WP c (k ⟨⟩) Q) :
    St I c P ⊢ WP c ((Prog.lift (.waitDma2 sm srcw dstw hsrc hdst) : PG F PUnit) >>= k) Q := by
  subst hw
  have hD' : dstw = (woP I c).S (P.ow % 2) := hD.trans (slotO_mod _).symm
  have hq' : sm = (woP I c).q (P.ow % 2) := by rw [hq]; simp only [Nat.mod_mod]
  refine (lens_wo I c e).trans ?_
  show _ ⊢ WP c (.op _ k) Q
  unfold Ow
  iintro ⟨⟨#Hc, ⟨%W, HO⟩, HT⟩, Hb⟩
  iapply ((woP I c).wait c hn h₁ h₂ hq' hD') $$ [HT HO]
  · isplitl [HT]; · iexact HT
    isplitr; · iapply (ctx_lev I); iexact Hc
    iexact HO
  iintro ⟨HT, HO⟩
  iapply hk; iapply Hb
  isplitr; · iexact Hc
  isplitl [HO] <;> iassumption

theorem load_wi {Q : α → sProp 𝕄} {w : ℕ} (hw : P.ww = w + 1) (hn : P.wn ≤ w + 2) {off : Fin 3 → ℕ} {inb : ∀ a, off a + S1x2048x512.size a ≤ S2x2048x512.size a}
    {hl : wiM.view.LoadsAt (Rect.unit (s := S2x2048x512) off S1x2048x512.size inb).toLoadRect} {k : (S1x2048x512.Idx → Elt F .f32) → PG F α}
    (hoff : off = ![w % 2, 0, 0]) (hk : St I c P ⊢ WP c (k (up numelI (wiT I c w))) Q) :
    St I c P ⊢ WP c ((Prog.lift (.load wiM (Rect.unit (s := S2x2048x512) off S1x2048x512.size inb).toLoadRect hl) : PG F _) >>= k) Q := by
  subst hoff
  have hlast := (wiP I c).last c (n := P.wn) (w := P.ww) (by omega) (by omega)
  rw [show P.ww - 1 = w by omega, show (wiP I c).S (w % 2) = slotI w from slotI_mod w] at hlast
  refine (lens_wi I c (P' := P) (n := P.wn) (w := P.ww) rfl).trans ?_
  show _ ⊢ WP c (.op _ k) Q
  iintro ⟨⟨#Hc, HO, HT⟩, Hb⟩
  ihave HT := hlast $$ HT
  icases HT with ⟨Hs, HT⟩
  unfold slotI
  iapply (load_slot c (m := wiM) (r := Rect.unit (s := S2x2048x512) ![w % 2, 0, 0] S1x2048x512.size inb) (h := squeezes_S1x2048x512_S2048x512)) $$ Hs
  iintro Hs
  iapply hk; iapply Hb
  isplitr; · iexact Hc
  isplitl [HO]; · iexact HO
  iapply HT; iexact Hs

theorem load_wo {Q : α → sProp 𝕄} {w : ℕ} (hw : P.ow = w + 1) (hn : P.on ≤ w + 2) {off : Fin 3 → ℕ} {inb : ∀ a, off a + S1x512x2048.size a ≤ S2x512x2048.size a}
    {hl : woM.view.LoadsAt (Rect.unit (s := S2x512x2048) off S1x512x2048.size inb).toLoadRect} {k : (S1x512x2048.Idx → Elt F .f32) → PG F α}
    (hoff : off = ![w % 2, 0, 0]) (hk : St I c P ⊢ WP c (k (up numelO (woT I c w))) Q) :
    St I c P ⊢ WP c ((Prog.lift (.load woM (Rect.unit (s := S2x512x2048) off S1x512x2048.size inb).toLoadRect hl) : PG F _) >>= k) Q := by
  subst hoff
  have hlast := (woP I c).last c (n := P.on) (w := P.ow) (by omega) (by omega)
  rw [show P.ow - 1 = w by omega, show (woP I c).S (w % 2) = slotO w from slotO_mod w] at hlast
  refine (lens_wo I c (P' := P) (n := P.on) (w := P.ow) rfl).trans ?_
  show _ ⊢ WP c (.op _ k) Q
  iintro ⟨⟨#Hc, HO, HT⟩, Hb⟩
  ihave HT := hlast $$ HT
  icases HT with ⟨Hs, HT⟩
  unfold slotO
  iapply (load_slot c (m := woM) (r := Rect.unit (s := S2x512x2048) ![w % 2, 0, 0] S1x512x2048.size inb) (h := squeezes_S1x512x2048_S512x2048)) $$ Hs
  iintro Hs
  iapply hk; iapply Hb
  isplitr; · iexact Hc
  isplitl [HO]; · iexact HO
  iapply HT; iexact Hs

end Fetch

/-! ## Whole buffers -/

section Buffers
variable {s : Shape} {e : EltTy} {m : Memref sig .tc .vmem s e} {off : Fin s.rank → ℕ} {inb : ∀ a, off a + s.size a ≤ s.size a}

theorem load_holds {Q : α → sProp 𝕄} {A R : sProp 𝕄} {p : Vec F s e → Prop} {hl : m.view.LoadsAt (Rect.unit off s.size inb).toLoadRect} {k : (s.Idx → Elt F e) → PG F α}
    (hA : A ⊢ iprop(holds c m p ∗ (holds c m p -∗ R))) (hk : ∀ X, p X → (R ⊢ WP c (k X) Q)) :
    A ⊢ WP c ((Prog.lift (.load m (Rect.unit off s.size inb).toLoadRect hl) : PG F _) >>= k) Q := by
  refine hA.trans ?_
  show _ ⊢ WP c (.op _ k) Q
  unfold holds
  iintro ⟨⟨%X, %hX, H⟩, Hb⟩
  iapply (load_all c) $$ H
  iintro H
  iapply (hk X hX); iapply Hb
  iexists X; isplitr; · ipureintro; exact hX
  iexact H

theorem store_holds {Q : α → sProp 𝕄} {A R : sProp 𝕄} {p p' : Vec F s e → Prop} {w : s.Idx → Elt F e} {hx : (m.access (Rect.unit off s.size inb)).Stores Finset.univ} {hm}
    {k : PUnit → PG F α} (hA : A ⊢ iprop(holds c m p ∗ (holds c m p' -∗ R))) (hw : p' w) (hk : R ⊢ WP c (k ⟨⟩) Q) :
    A ⊢ WP c ((Prog.lift (.store m (Rect.unit off s.size inb) w Finset.univ hx hm) : PG F PUnit) >>= k) Q := by
  refine hA.trans ?_
  show _ ⊢ WP c (.op _ k) Q
  unfold holds
  iintro ⟨⟨%X, %hX, H⟩, Hb⟩
  iapply (store_all c) $$ [H]
  · iexists X; iexact H
  iintro H
  iapply hk; iapply Hb
  iexists w; isplitr; · ipureintro; exact hw
  iexact H

end Buffers

end Cert.KernelIdealProof
-- ==== Proof.Remote.lean ====
/-
# 01_k — the steps across devices

A send to a device and the wait for a copy, in the protocol's terms.
-/
module

public import proofs.«01_k».proof.Proof.Local

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (c : Dev nD) {α : Type}

theorem owed_send {p l j : ℕ} (hp : p < 2) (hl : l < 3) (hj : j < 8) (hc : c.val ≠ j) :
    owedFrom c (8 + 16 * l + 8 * p + j) = owedFrom c (8 + 16 * l + 8 * p + j + 1) + tallyAt (dCell (dv j) (recvS p l c.val)) () N := by
  rw [owedFrom_step c (by omega)]; unfold contrib
  rw [if_neg (by omega), if_neg (by omega), show (8 + 16 * l + 8 * p + j - 8) / 8 % 2 = p by omega, show (8 + 16 * l + 8 * p + j - 8) / 16 = l by omega,
    show dv (8 + 16 * l + 8 * p + j - 8) = dv j from Fin.ext (by show _ % 8 = _ % 8; omega)]

theorem credit_slot (p l j : ℕ) : (slotM (landM p) l j).view.dmaCredit = N := by cases p <;> rfl

/-- A send of phase `p` of layer `l` to device `j`. -/
theorem send_op {Q : α → sProp 𝕄} {p l j : ℕ} (hp : p < 2) (hl : l < 3) (hj : j < 8) (hc : c.val ≠ j) {d : Dev nD} (hd : d = dv j)
    {src dst : Memref sig .tc .vmem S64x512 .bf16} {s₁ s₂ : DmaSem sig} {q : PosShare TreeShare} {Z : Vec F S64x512 .bf16}
    {hsc : (dst : Memref sig (d : Thread nD τ).2.kind .vmem S64x512 .bf16).view.ref.isScScratch = false} {hsrc : src.view.WordExact} {hdst : (dst : Memref sig (d : Thread nD τ).2.kind .vmem S64x512 .bf16).view.WordExact}
    {hsem : DmaTarget.Typed (nD := nD) (τ := τ) (p := .tc) .vmem (.dma s₂) (DmaTarget.remote (Dev.tc d) dst (.dma s₁) hsc)}
    {k : PUnit → PG F α} (hdst' : dst = slotM (landM p) l c.val) (hs₁ : s₁ = sendS p l j) (hs₂ : s₂ = recvS p l c.val)
    (hpay : owns (c : Thread nD τ) src q Z ⊢ srcPay I c p l j) (hZ : Z = blockV I p l c (dv j)) :
    iprop(ctx I ∗ owns (c : Thread nD τ) src q Z ∗ anySlot (dv j) (landM p) l c.val ∗ Ow c (8 + 16 * l + 8 * p + j)
        ∗ dutyTok ER (dCell c (sendS p l j)) 0 0 ∗ dutyTok ER (dCell (dv j) (recvS p l c.val)) 0 0)
      ⊢ iprop(((cred (tallyAt (dCell c (sendS p l j)) () N) ∗ Ow c (8 + 16 * l + 8 * p + j + 1)) -∗ WP c (k ⟨⟩) Q)
          -∗ WP c (.op (.enqueueDma src (.remote (Dev.tc d) dst (.dma s₁) hsc) (.dma s₂) hsrc hdst hsem) k) Q) := by
  subst hd hdst' hs₁ hs₂ hZ
  have hdj : (dv j).val = j := Nat.mod_eq_of_lt hj
  have hcr : (slotM (landM p) l c.val).view.amount (.dma (recvS p l c.val)) = N := credit_slot p l c.val
  have h₁ := ctx_dma I c (n := 6 + 48 * p + 8 * l + j) (by omega) (by omega)
  have h₂ := ctx_dma I (dv j) (n := 30 + 48 * p + 8 * l + c.val) (by omega) (by have : c.val < 8 := c.isLt; omega)
  have hpay₂ : (owns (dv j : Thread nD τ) (slotM (landM p) l c.val) fullShare (blockV I p l c (dv j)))
      ⊢ (sched I).payload (dCell (dv j) (recvS p l c.val)) 0 0 := by
    rw [payload_recv I (dv j) hp hl c.isLt]; unfold landPay; rw [dv_val]
  have hpay₁ : owns (c : Thread nD τ) src q (blockV I p l c (dv j)) ⊢ (sched I).payload (dCell c (sendS p l j)) 0 0 := by
    rw [payload_send I c hp hl hj]; exact hpay
  unfold owns at hpay₁ hpay₂
  unfold cellAt at h₁ h₂
  unfold owns anySlot Ow
  iintro ⟨#Hc, ⟨%fs, %hfs, Hs⟩, ⟨%X, Hd⟩, ⟨%W, HO⟩, Ht₁, Ht₂⟩ Hk
  ihave H₁ := h₁ $$ Hc
  icases H₁ with ⟨%κ₁, #Hi₁, #Hr₁⟩
  ihave H₂ := h₂ $$ Hc
  icases H₂ with ⟨%κ₂, #Hi₂, #Hr₂⟩
  ihave Hd := (show owns (dv j : Thread nD τ) (slotM (landM p) l c.val) fullShare X ⊢ (iprop(∃ f, ⌜_⌝ ∗ _) : sProp 𝕄) from BIBase.Entails.rfl) $$ Hd
  icases Hd with ⟨%fd, -, Hd⟩
  iapply (wp_send_pointsTo 𝒱₀ ER (sched I) (c : Thread nD τ) none (κ₁ := κ₁) (κ₂ := κ₂) (r₁ := 0) (r₂ := 0) (d₁ := 0) (d₂ := 0) (fd := fd)
    (by rw [duties_send I c hp hl hj hc]; exact Finset.mem_singleton_self _)
    (by rw [duties_recv I (dv j) hp hl c.isLt (by rw [hdj]; exact fun h => hc h.symm)]; exact Finset.mem_singleton_self _)
    () () N hcr rfl rfl (owedFrom c (8 + 16 * l + 8 * p + j + 1)) (owed_send c hp hl hj hc) (W := W) ?_ ?_)
    $$ [Hs Hd HO Ht₁ Ht₂]
  rotate_left 2
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  · iintro ⟨Hcr, HO⟩
    iapply Hk
    isplitl [Hcr]; · iexact Hcr
    iexists W; iexact HO
  · refine BIBase.Entails.trans ?_ hpay₁
    iintro H; iexists fs; isplitr; · ipureintro; exact hfs
    iexact H
  · refine BIBase.Entails.trans ?_ hpay₂
    iintro H; iexists _; isplitr; swap; · iexact H
    ipureintro; rw [View.read_write_univ]; exact hfs

/-- The wait on a send cell or a receive cell: its payload. -/
theorem wait_op {Q : α → sProp 𝕄} {n kk : ℕ} (h₁ : 6 ≤ n) (h₂ : n < 102) {pay : sProp 𝕄} (hexp : (sched I).expect (dCell c (dsem n)) 0 = N)
    (hrest : bigSep ((sched I).duties (dCell c (dsem n)) 0 \ ∅) (fun d => (sched I).payload (dCell c (dsem n)) 0 d) = pay)
    (hmw : (levAts L lv : sProp 𝕄) ⊢ MayWait (c : Thread nD τ) (.dma (dsem n)) () (owedFrom c kk))
    {sm : DmaSem sig} {sp : Space} {s : Shape} {e : EltTy} {srcw : Memref sig .tc sp s e} {dstw : Memref sig .tc .vmem S64x512 .bf16}
    {hsrc : srcw.view.WordExact} {hdst : dstw.view.WordExact} {k : PUnit → PG F α} (hs : sm = dsem n) (hcr : dstw.view.dmaCredit = N) :
    iprop(ctx I ∗ Ow c kk ∗ atPos ER (dCell c (dsem n)) 0 ∅ 0 ∗ cred (tallyAt (dCell c (dsem n)) () N))
      ⊢ iprop(((Ow c kk ∗ atPos ER (dCell c (dsem n)) 1 ∅ 0 ∗ pay) -∗ WP c (k ⟨⟩) Q)
          -∗ WP c (.op (.waitDma2 sm srcw dstw hsrc hdst) k) Q) := by
  subst hs hrest
  have h := ctx_dma I c h₁ h₂
  unfold cellAt at h
  unfold Ow
  iintro ⟨#Hc, ⟨%W, HO⟩, Hat, Hcr⟩ Hk
  ihave Hm := hmw $$ []
  · iapply (ctx_lev I); iexact Hc
  ihave Hi := h $$ Hc
  icases Hi with ⟨%κ, #Hi, -⟩
  ihave Hcr := (BIBase.Entails.of_eq (show (cred (tallyAt (dCell c (dsem n)) () N) : sProp 𝕄) = cred (tallyAt (dCell c (dsem n)) () dstw.view.dmaCredit) by rw [hcr])) $$ Hcr
  iapply (wp_wait_rest_token 𝒱₀ ER (sched I) (c : Thread nD τ) none (κ := κ) (wpE_waitDma2_eq 𝒱₀ (c : Thread nD τ) none Set.univ) (Set.mem_univ _) ()
    (O := owedFrom c kk) (W := W) (R := 0) (m := 0) (T := ∅) (by rw [hexp, hcr, Nat.zero_add])) $$ [Hi Hcr HO Hm Hat]
  · isplitr; · iexact Hi
    isplitl [Hcr]; · iexact Hcr
    isplitl [HO]; · iexact HO
    isplitl [Hm] <;> iassumption
  iintro ⟨HO, Hat, -, Hp⟩
  iapply Hk
  isplitl [HO]; · iexists _; iexact HO
  isplitl [Hat]; · iexact Hat
  iexact Hp

end Cert.KernelIdealProof
-- ==== Proof.Steps.lean ====
/-
# 01_k — the steps of the body

Every step of the body, at a layer `l` and an iteration `j`: from the point it starts at to the point it ends at.
-/
module

public import proofs.«01_k».proof.Proof.Remote

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (c : Dev nD) {α : Type}

/-! ## Printed views and semaphores, in the protocol's names -/

theorem slot_congr (M : Memref sig .tc .vmem S3x8x64x512 .bf16) {off off' : Fin 4 → ℕ}
    {inb : ∀ a, off a + S1x1x64x512.size a ≤ S3x8x64x512.size a} {inb' : ∀ a, off' a + S1x1x64x512.size a ≤ S3x8x64x512.size a} (h : off = off') :
    (M.slice (Rect.unit (s := S3x8x64x512) off S1x1x64x512.size inb) (fun _ => rfl)).squeeze S64x512 squeezes_S1x1x64x512_S64x512
      = (M.slice (Rect.unit (s := S3x8x64x512) off' S1x1x64x512.size inb') (fun _ => rfl)).squeeze S64x512 squeezes_S1x1x64x512_S64x512 := by
  subst h; rfl

theorem off_mod {l j : ℕ} (hl : l < 3) (hj : j < 8) : (![l, j, 0, 0] : Fin 4 → ℕ) = ![l % 3, j % 8, 0, 0] := by
  rw [Nat.mod_eq_of_lt hl, Nat.mod_eq_of_lt hj]

theorem slot_eq (M : Memref sig .tc .vmem S3x8x64x512 .bf16) {l j : ℕ} (hl : l < 3) (hj : j < 8) {off : Fin 4 → ℕ}
    {inb : ∀ a, off a + S1x1x64x512.size a ≤ S3x8x64x512.size a} (h : off = ![l, j, 0, 0]) :
    (M.slice (Rect.unit (s := S3x8x64x512) off S1x1x64x512.size inb) (fun _ => rfl)).squeeze S64x512 squeezes_S1x1x64x512_S64x512 = slotM M l j :=
  slot_congr M (h.trans (off_mod hl hj))

theorem sem_at (A : DmaSems sig S3x8) {l j : ℕ} (hl : l < 3) (hj : j < 8) {off : Fin 2 → ℕ} {inb : ∀ a, off a + S1x1.size a ≤ S3x8.size a} (h : off = ![l, j]) :
    ((A.slice (Rect.unit (s := S3x8) off S1x1.size inb)).squeeze S_ squeezes_S1x1_S_).sem
      = A.ix (fun a => match a with | ⟨0, _⟩ => ⟨l, hl⟩ | ⟨1, _⟩ => ⟨j, hj⟩) := by
  subst h
  have h0 (y : S1x1.Idx) : (y 0).val = 0 := Nat.lt_one_iff.mp (y 0).isLt
  have h1 (y : S1x1.Idx) : (y 1).val = 0 := Nat.lt_one_iff.mp (y 1).isLt
  refine congrArg A.ix (funext fun a => Fin.ext ?_)
  fin_cases a
  · simpa using h0 _
  · simpa using h1 _

theorem ix_rs (l : Fin 3) (j : Fin 8) : cc0_scratch12.ix (fun a => match a with | ⟨0, _⟩ => l | ⟨1, _⟩ => j) = recvS 0 l.val j.val := by
  revert j l; decide +kernel
theorem ix_ag (l : Fin 3) (j : Fin 8) : cc0_scratch14.ix (fun a => match a with | ⟨0, _⟩ => l | ⟨1, _⟩ => j) = recvS 1 l.val j.val := by
  revert j l; decide +kernel

theorem sem_rs {l j : ℕ} (hl : l < 3) (hj : j < 8) {off : Fin 2 → ℕ} {inb : ∀ a, off a + S1x1.size a ≤ S3x8.size a} (h : off = ![l, j]) :
    ((cc0_scratch12.slice (Rect.unit (s := S3x8) off S1x1.size inb)).squeeze S_ squeezes_S1x1_S_).sem = recvS 0 l j :=
  (sem_at cc0_scratch12 hl hj h).trans (ix_rs ⟨l, hl⟩ ⟨j, hj⟩)
theorem sem_ag {l j : ℕ} (hl : l < 3) (hj : j < 8) {off : Fin 2 → ℕ} {inb : ∀ a, off a + S1x1.size a ≤ S3x8.size a} (h : off = ![l, j]) :
    ((cc0_scratch14.slice (Rect.unit (s := S3x8) off S1x1.size inb)).squeeze S_ squeezes_S1x1_S_).sem = recvS 1 l j :=
  (sem_at cc0_scratch14 hl hj h).trans (ix_ag ⟨l, hl⟩ ⟨j, hj⟩)

/-! ## The first product -/

section First
variable {l j : ℕ} (hl : l < 3)

theorem u_ra {Q : α → sProp 𝕄} (hl : l < 3) (hj : j < 7)
    {src : Memref sig .tc .hbm S2048x512 .f32} {dst : Memref sig .tc .vmem S2048x512 .f32} {sm : DmaSem sig} {hsrc : src.view.WordExact}
    {hdst : dst.view.WordExact} {hsem : DmaTarget.Typed (nD := nD) .hbm (.dma sm) (DmaTarget.here (nD := nD) (p := (.tc : Proc τ)) dst)}
    {k : PUnit → PG F α} (hS : src = (wiP I c).T (8 * l + (j + 1))) (hD : dst = slotI (8 * l + (j + 1))) (hq : sm = dsem (2 + (8 * l + (j + 1)) % 2))
    (hk : Go I c (.rb l j) (k ⟨⟩) Q) :
    Go I c (.ra l j) ((Prog.lift (.enqueueDma src (.here dst) (.dma sm) hsrc hdst hsem) : PG F PUnit) >>= k) Q := by
  refine fetch_wi I c (P := pt I c (.ra l j)) (P' := pt I c (.rb l j)) ?_ ?_ ?_ ?_ ?_ hS hD hq hk
  · simp only [pt, ptR, Pt.mk.injEq, and_true, true_and] <;> omega
  all_goals first | omega | (simp only [pt, ptR] <;> omega)

theorem u_ra7 {Q : α → sProp 𝕄} (hl : l < 3)
    {src : Memref sig .tc .hbm S512x2048 .f32} {dst : Memref sig .tc .vmem S512x2048 .f32} {sm : DmaSem sig} {hsrc : src.view.WordExact}
    {hdst : dst.view.WordExact} {hsem : DmaTarget.Typed (nD := nD) .hbm (.dma sm) (DmaTarget.here (nD := nD) (p := (.tc : Proc τ)) dst)}
    {k : PUnit → PG F α} (hS : src = (woP I c).T (8 * l)) (hD : dst = slotO (8 * l)) (hq : sm = dsem (4 + (8 * l) % 2))
    (hk : Go I c (.rb l 7) (k ⟨⟩) Q) :
    Go I c (.ra l 7) ((Prog.lift (.enqueueDma src (.here dst) (.dma sm) hsrc hdst hsem) : PG F PUnit) >>= k) Q := by
  refine fetch_wo I c (P := pt I c (.ra l 7)) (P' := pt I c (.rb l 7)) ?_ ?_ ?_ ?_ ?_ hS hD hq hk
  · simp only [pt, ptR, Pt.mk.injEq, and_true, true_and] <;> omega
  all_goals first | omega | (simp only [pt, ptR] <;> omega)

theorem u_rb {Q : α → sProp 𝕄} (hl : l < 3) (hj : j < 8)
    {sm : DmaSem sig} {sp' : Space} {s' : Shape} {e' : EltTy} {srcw : Memref sig .tc sp' s' e'} {dstw : Memref sig .tc .vmem S2048x512 .f32}
    {hsrc : srcw.view.WordExact} {hdst : dstw.view.WordExact} {k : PUnit → PG F α} (hD : dstw = slotI (8 * l + j)) (hq : sm = dsem (2 + (8 * l + j) % 2))
    (hk : Go I c (.rc l j) (k ⟨⟩) Q) :
    Go I c (.rb l j) ((Prog.lift (.waitDma2 sm srcw dstw hsrc hdst) : PG F PUnit) >>= k) Q := by
  refine wait_wi I c (P := pt I c (.rb l j)) (P' := pt I c (.rc l j)) ?_ ?_ ?_ ?_ ?_ hD hq hk
  · simp only [pt, ptR, Pt.mk.injEq, and_true, true_and] <;> omega
  all_goals first | omega | (simp only [pt, ptR] <;> omega)

theorem u_rc {Q : α → sProp 𝕄} {off : Fin 2 → ℕ} {inb : ∀ a, off a + S64x2048.size a ≤ S64x2048.size a}
    {hl' : xM.view.LoadsAt (Rect.unit off S64x2048.size inb).toLoadRect} {k : (S64x2048.Idx → Elt F .bf16) → PG F α}
    (hk : Go I c (.rd l j) (k (xV I l c)) Q) :
    Go I c (.rc l j) ((Prog.lift (.load xM (Rect.unit off S64x2048.size inb).toLoadRect hl') : PG F _) >>= k) Q :=
  load_holds c (lens_x I c (P := pt I c (.rc l j)) (P' := pt I c (.rd l j)) (p := fun X => X = xV I l c) rfl) fun X hX => by subst hX; exact hk

theorem u_rd {Q : α → sProp 𝕄} (hj : j < 8) {off : Fin 3 → ℕ} {inb : ∀ a, off a + S1x2048x512.size a ≤ S2x2048x512.size a}
    {hl' : wiM.view.LoadsAt (Rect.unit (s := S2x2048x512) off S1x2048x512.size inb).toLoadRect} {k : (S1x2048x512.Idx → Elt F .f32) → PG F α}
    (hoff : off = ![(8 * l + j) % 2, 0, 0]) (hk : Go I c (.re l j) (k (up numelI (wiT I c (8 * l + j)))) Q) :
    Go I c (.rd l j) ((Prog.lift (.load wiM (Rect.unit (s := S2x2048x512) off S1x2048x512.size inb).toLoadRect hl') : PG F _) >>= k) Q := by
  refine load_wi I c (P := pt I c (.rd l j)) (w := 8 * l + j) ?_ ?_ hoff hk
  all_goals first | omega | (simp only [pt, ptR] <;> omega)

theorem u_re {Q : α → sProp 𝕄} {b : BitVec 1} (hb : b = 1#1 ↔ c.val = j) {off₁ off₂ : Fin 2 → ℕ}
    {inb₁ : ∀ a, off₁ a + S64x512.size a ≤ S64x512.size a} {inb₂ : ∀ a, off₂ a + S64x512.size a ≤ S64x512.size a}
    {hl' : accM.view.LoadsAt (Rect.unit off₁ S64x512.size inb₁).toLoadRect} {w : Vec F S64x512 .f32}
    {hx : (accM.access (Rect.unit off₂ S64x512.size inb₂)).Stores Finset.univ} {hm} {r : PG F α}
    (hw : w = k0_pay3 (xV I l c) (up numelI (wiT I c (8 * l + j)))) (hk : Go I c (.rf l j) r Q) :
    Go I c (.re l j) (dite (b = 1#1)
      (fun _ => (Prog.lift (.load accM (Rect.unit off₁ S64x512.size inb₁).toLoadRect hl') : PG F _) >>= fun _ =>
        (Prog.lift (.store accM (Rect.unit off₂ S64x512.size inb₂) w Finset.univ hx hm) : PG F PUnit) >>= fun _ => r)
      (fun _ => r)) Q := by
  unfold Go at hk ⊢
  by_cases h : b = 1#1
  · rw [dif_pos h]
    have hc := hb.1 h
    refine load_holds c (lens_acc I c (P := pt I c (.re l j)) (P' := pt I c (.re l j)) (p := fun A => c.val < j → A = ownChunk I (xV I l) l c) rfl)
      fun X _ => ?_
    refine store_holds c (lens_acc I c (P := pt I c (.re l j)) (P' := pt I c (.rf l j)) (p := fun A => c.val < j + 1 → A = ownChunk I (xV I l) l c) rfl) ?_ hk
    intro _; rw [hw, ← hc]; rfl
  · rw [dif_neg h]
    have hc : c.val ≠ j := fun h' => h (hb.2 h')
    have e : pt I c (.rf l j) = pt I c (.re l j) := by
      simp only [pt, ptR, Pt.mk.injEq, and_true, true_and]
      funext A; exact propext ⟨fun h h' => h (by omega), fun h h' => h (by omega)⟩
    unfold S at hk ⊢; rw [← e]; exact hk

end First

/-! ## The hidden activations -/

section Hidden
variable {l j : ℕ}

theorem u_rv8 {Q : α → sProp 𝕄} {off : Fin 2 → ℕ} {inb : ∀ a, off a + S64x512.size a ≤ S64x512.size a}
    {hl' : accM.view.LoadsAt (Rect.unit off S64x512.size inb).toLoadRect} {k : (S64x512.Idx → Elt F .f32) → PG F α}
    (hk : Go I c (.h1 l) (k (accV I (xV I l) l c 8)) Q) :
    Go I c (.rv l 8) ((Prog.lift (.load accM (Rect.unit off S64x512.size inb).toLoadRect hl') : PG F _) >>= k) Q :=
  load_holds c (lens_acc I c (P := pt I c (.rv l 8)) (P' := pt I c (.h1 l)) (p := fun A => A = accV I (xV I l) l c 8) rfl) fun X hX => by subst hX; exact hk

theorem u_h1 {Q : α → sProp 𝕄} {off : Fin 2 → ℕ} {inb : ∀ a, off a + S64x512.size a ≤ S64x512.size a}
    {hl' : hM.view.LoadsAt (Rect.unit off S64x512.size inb).toLoadRect} {k : (S64x512.Idx → Elt F .bf16) → PG F α}
    (hk : ∀ X, Go I c (.h2 l) (k X) Q) :
    Go I c (.h1 l) ((Prog.lift (.load hM (Rect.unit off S64x512.size inb).toLoadRect hl') : PG F _) >>= k) Q := by
  unfold Go at hk ⊢
  refine (lens_h I c (P := pt I c (.h1 l)) (P' := pt I c (.h2 l)) (p := none) rfl).trans ?_
  show _ ⊢ WP c (.op _ k) Q
  show iprop(hFree (F := F) c ∗ (hFree (F := F) c -∗ S I c (.h2 l))) ⊢ _
  unfold hFree
  iintro ⟨⟨%X, H⟩, Hb⟩
  iapply (load_all c) $$ H
  iintro H
  iapply (hk X); iapply Hb
  iexists X; iexact H

theorem u_h2 {Q : α → sProp 𝕄} {off : Fin 2 → ℕ} {inb : ∀ a, off a + S64x512.size a ≤ S64x512.size a} {w : Vec F S64x512 .bf16}
    {hx : (hM.access (Rect.unit off S64x512.size inb)).Stores Finset.univ} {hm} {k : PUnit → PG F α}
    (hw : w = hidV I l c) (hk : Go I c (.sd l 0) (k ⟨⟩) Q) :
    Go I c (.h2 l) ((Prog.lift (.store hM (Rect.unit off S64x512.size inb) w Finset.univ hx hm) : PG F PUnit) >>= k) Q := by
  unfold Go at hk ⊢
  refine (lens_h I c (P := pt I c (.h2 l)) (P' := {pt I c (.h2 l) with h := some (l, 0, 0)}) (p := some (l, 0, 0)) rfl).trans ?_
  have hfree : St I c {pt I c (.h2 l) with h := some (l, 0, 0)} ⊢ S I c (.sd l 0) := by
    refine (lens_acc I c (P := {pt I c (.h2 l) with h := some (l, 0, 0)}) (P' := pt I c (.sd l 0)) (p := fun _ => True) ?_).trans ?_
    · simp only [pt, ptV, ptS, Pt.mk.injEq, and_true, true_and] <;> omega
    · unfold holds S
      iintro ⟨⟨%X, -, H⟩, Hb⟩
      iapply Hb; iexists X; isplitr; · ipureintro; trivial
      iexact H
  show _ ⊢ WP c (.op _ k) Q
  show iprop(hFree (F := F) c ∗ (hShare I c l 0 0 -∗ _)) ⊢ _
  subst hw
  unfold hFree
  iintro ⟨H, Hb⟩
  iapply (store_all c) $$ H
  iintro H
  iapply hk; iapply hfree; iapply Hb
  iapply (hShare_open I c l); iexact H

end Hidden

/-! ## The second product -/

section Second
variable {l j : ℕ}

theorem u_ga {Q : α → sProp 𝕄} (hl : l < 3) (hj : j < 7)
    {src : Memref sig .tc .hbm S512x2048 .f32} {dst : Memref sig .tc .vmem S512x2048 .f32} {sm : DmaSem sig} {hsrc : src.view.WordExact}
    {hdst : dst.view.WordExact} {hsem : DmaTarget.Typed (nD := nD) .hbm (.dma sm) (DmaTarget.here (nD := nD) (p := (.tc : Proc τ)) dst)}
    {k : PUnit → PG F α} (hS : src = (woP I c).T (8 * l + (j + 1))) (hD : dst = slotO (8 * l + (j + 1))) (hq : sm = dsem (4 + (8 * l + (j + 1)) % 2))
    (hk : Go I c (.gb l j) (k ⟨⟩) Q) :
    Go I c (.ga l j) ((Prog.lift (.enqueueDma src (.here dst) (.dma sm) hsrc hdst hsem) : PG F PUnit) >>= k) Q := by
  refine fetch_wo I c (P := pt I c (.ga l j)) (P' := pt I c (.gb l j)) ?_ ?_ ?_ ?_ ?_ hS hD hq hk
  · simp only [pt, ptG, Pt.mk.injEq, and_true, true_and]
    refine ⟨?_, ?_⟩
    · rw [show (j + 1) / 8 = 0 by omega, show j / 8 = 0 by omega]
    · omega
  all_goals first | omega | (simp only [pt, ptG] <;> omega)

theorem u_ga7 {Q : α → sProp 𝕄} (hl : l < 2)
    {src : Memref sig .tc .hbm S2048x512 .f32} {dst : Memref sig .tc .vmem S2048x512 .f32} {sm : DmaSem sig} {hsrc : src.view.WordExact}
    {hdst : dst.view.WordExact} {hsem : DmaTarget.Typed (nD := nD) .hbm (.dma sm) (DmaTarget.here (nD := nD) (p := (.tc : Proc τ)) dst)}
    {k : PUnit → PG F α} (hS : src = (wiP I c).T (8 * l + 8)) (hD : dst = slotI (8 * l + 8)) (hq : sm = dsem (2 + (8 * l + 8) % 2))
    (hk : Go I c (.gb l 7) (k ⟨⟩) Q) :
    Go I c (.ga l 7) ((Prog.lift (.enqueueDma src (.here dst) (.dma sm) hsrc hdst hsem) : PG F PUnit) >>= k) Q := by
  refine fetch_wi I c (P := pt I c (.ga l 7)) (P' := pt I c (.gb l 7)) ?_ ?_ ?_ ?_ ?_ hS hD hq hk
  · simp only [pt, ptG, Pt.mk.injEq, and_true, true_and, if_pos hl] <;> omega
  all_goals first | omega | (simp only [pt, ptG, if_pos hl] <;> omega)

/-- In the last layer nothing is fetched there. -/
theorem u_ga_last {Q : α → sProp 𝕄} {r : PG F α} (hk : Go I c (.gb 2 7) r Q) : Go I c (.ga 2 7) r Q := hk

theorem u_gb {Q : α → sProp 𝕄} (hl : l < 3) (hj : j < 8)
    {sm : DmaSem sig} {sp' : Space} {s' : Shape} {e' : EltTy} {srcw : Memref sig .tc sp' s' e'} {dstw : Memref sig .tc .vmem S512x2048 .f32}
    {hsrc : srcw.view.WordExact} {hdst : dstw.view.WordExact} {k : PUnit → PG F α} (hD : dstw = slotO (8 * l + j)) (hq : sm = dsem (4 + (8 * l + j) % 2))
    (hk : Go I c (.gc l j) (k ⟨⟩) Q) :
    Go I c (.gb l j) ((Prog.lift (.waitDma2 sm srcw dstw hsrc hdst) : PG F PUnit) >>= k) Q := by
  refine wait_wo I c (P := pt I c (.gb l j)) (P' := pt I c (.gc l j)) ?_ ?_ ?_ ?_ ?_ hD hq hk
  · simp only [pt, ptG, Pt.mk.injEq, and_true, true_and] <;> omega
  all_goals first | omega | (simp only [pt, ptG] <;> omega)

theorem u_gd {Q : α → sProp 𝕄} {off : Fin 2 → ℕ} {inb : ∀ a, off a + S64x512.size a ≤ S64x512.size a}
    {hl' : hM.view.LoadsAt (Rect.unit off S64x512.size inb).toLoadRect} {k : (S64x512.Idx → Elt F .bf16) → PG F α}
    (hk : Go I c (.ge l j) (k (hidV I l c)) Q) :
    Go I c (.gd l j) ((Prog.lift (.load hM (Rect.unit off S64x512.size inb).toLoadRect hl') : PG F _) >>= k) Q := by
  unfold Go at hk ⊢
  refine (lens_h I c (P := pt I c (.gd l j)) (P' := pt I c (.ge l j)) (p := some (l, 8, 0)) rfl).trans ?_
  show _ ⊢ WP c (.op _ k) Q
  show iprop(hShare I c l 8 0 ∗ (hShare I c l 8 0 -∗ S I c (.ge l j))) ⊢ _
  unfold hShare
  iintro ⟨⟨H, Ht⟩, Hb⟩
  iapply (load_all c) $$ H
  iintro H
  iapply hk; iapply Hb
  isplitl [H] <;> iassumption

theorem u_gf {Q : α → sProp 𝕄} (hj : j < 8) {off : Fin 3 → ℕ} {inb : ∀ a, off a + S1x512x2048.size a ≤ S2x512x2048.size a}
    {hl' : woM.view.LoadsAt (Rect.unit (s := S2x512x2048) off S1x512x2048.size inb).toLoadRect} {k : (S1x512x2048.Idx → Elt F .f32) → PG F α}
    (hoff : off = ![(8 * l + j) % 2, 0, 0]) (hk : Go I c (.gg l j) (k (up numelO (woT I c (8 * l + j)))) Q) :
    Go I c (.gf l j) ((Prog.lift (.load woM (Rect.unit (s := S2x512x2048) off S1x512x2048.size inb).toLoadRect hl') : PG F _) >>= k) Q := by
  refine load_wo I c (P := pt I c (.gf l j)) (w := 8 * l + j) ?_ ?_ hoff hk
  all_goals first | omega | (simp only [pt, ptG] <;> omega)

section
variable {off : Fin 2 → ℕ} {inb : ∀ a, off a + S64x2048.size a ≤ S64x2048.size a}

/-- Nothing is summed yet: what is loaded is not used. -/
theorem u_gg0 {Q : α → sProp 𝕄} {hl' : prodM.view.LoadsAt (Rect.unit off S64x2048.size inb).toLoadRect} {k : (S64x2048.Idx → Elt F .f32) → PG F α}
    (hk : ∀ X, Go I c (.gi l 0) (k X) Q) :
    Go I c (.gg l 0) ((Prog.lift (.load prodM (Rect.unit off S64x2048.size inb).toLoadRect hl') : PG F _) >>= k) Q :=
  load_holds c (lens_prod I c (P := pt I c (.gg l 0)) (P' := pt I c (.gi l 0)) (p := (pt I c (.gg l 0)).prod) rfl) fun X _ => hk X

theorem u_gg {Q : α → sProp 𝕄} {hl' : prodM.view.LoadsAt (Rect.unit off S64x2048.size inb).toLoadRect} {k : (S64x2048.Idx → Elt F .f32) → PG F α}
    (hk : Go I c (.gh l (j + 1)) (k (prodV I (xV I l) l c j)) Q) :
    Go I c (.gg l (j + 1)) ((Prog.lift (.load prodM (Rect.unit off S64x2048.size inb).toLoadRect hl') : PG F _) >>= k) Q :=
  load_holds c (lens_prod I c (P := pt I c (.gg l (j + 1))) (P' := pt I c (.gh l (j + 1))) (p := (pt I c (.gg l (j + 1))).prod) rfl)
    fun X hX => by rw [show X = prodV I (xV I l) l c j from hX j rfl]; exact hk

theorem u_gh {Q : α → sProp 𝕄} {hl' : prodM.view.LoadsAt (Rect.unit off S64x2048.size inb).toLoadRect} {k : (S64x2048.Idx → Elt F .f32) → PG F α}
    (hk : ∀ X, Go I c (.gi l j) (k X) Q) :
    Go I c (.gh l j) ((Prog.lift (.load prodM (Rect.unit off S64x2048.size inb).toLoadRect hl') : PG F _) >>= k) Q :=
  load_holds c (lens_prod I c (P := pt I c (.gh l j)) (P' := pt I c (.gi l j)) (p := (pt I c (.gh l j)).prod) rfl) fun X _ => hk X

theorem u_gi {Q : α → sProp 𝕄} (hj : j < 8) {w : Vec F S64x2048 .f32} {hx : (prodM.access (Rect.unit off S64x2048.size inb)).Stores Finset.univ} {hm}
    {k : PUnit → PG F α} (hw : w = prodV I (xV I l) l c j) (hk : Go I c (.ga l (j + 1)) (k ⟨⟩) Q) :
    Go I c (.gi l j) ((Prog.lift (.store prodM (Rect.unit off S64x2048.size inb) w Finset.univ hx hm) : PG F PUnit) >>= k) Q :=
  store_holds c (lens_prod I c (P := pt I c (.gi l j)) (P' := pt I c (.ga l (j + 1))) (p := fun A => ∀ i, j + 1 = i + 1 → A = prodV I (xV I l) l c i) rfl)
    (fun i h => by rw [hw]; obtain rfl : j = i := by omega
                   rfl) hk

end

theorem w_first (h : Vec F S64x512 .bf16) (g : Vec F S1x1x64x512 .bf16) (b : BitVec 1) (hb : b = 1#1 ↔ c.val = 0)
    (hh : h = hidV I l c) (hg : c.val ≠ 0 → g = up numelA (hidV I l (dv 0))) :
    firstG b h g (up numelO (woT I c (8 * l))) = prodV I (xV I l) l c 0 := by
  refine firstG_eq b h g _ (hidV I l (dv 0)) (fun hb' => ?_) (fun hb' => hg fun h' => hb' (hb.2 h'))
  have hc : dv 0 = c := Fin.ext (hb.1 hb').symm
  rw [hc]; exact hh

theorem w_step (hj : j + 1 < 8) (h : Vec F S64x512 .bf16) (g : Vec F S1x1x64x512 .bf16) (b : BitVec 1) (hb : b = 1#1 ↔ c.val = j + 1)
    (hh : h = hidV I l c) (hg : c.val ≠ j + 1 → g = up numelA (hidV I l (dv (j + 1)))) :
    stepG b h g (up numelO (woT I c (8 * l + (j + 1)))) (prodV I (xV I l) l c j) = prodV I (xV I l) l c (j + 1) := by
  refine stepG_eq b h g _ _ (hidV I l (dv (j + 1))) (fun hb' => ?_) (fun hb' => hg fun h' => hb' (hb.2 h'))
  have hc : dv (j + 1) = c := Fin.ext ((Nat.mod_eq_of_lt hj).trans (hb.1 hb').symm)
  rw [hc]; exact hh

end Second

/-! ## The new activations -/

section New
variable {l : ℕ} {off : Fin 2 → ℕ} {inb : ∀ a, off a + S64x2048.size a ≤ S64x2048.size a}

theorem u_n0 {Q : α → sProp 𝕄} {hl' : prodM.view.LoadsAt (Rect.unit off S64x2048.size inb).toLoadRect} {k : (S64x2048.Idx → Elt F .f32) → PG F α}
    (hk : Go I c (.n1 l) (k (prodV I (xV I l) l c 7)) Q) :
    Go I c (.ga l 8) ((Prog.lift (.load prodM (Rect.unit off S64x2048.size inb).toLoadRect hl') : PG F _) >>= k) Q :=
  load_holds c (lens_prod I c (P := pt I c (.ga l 8)) (P' := pt I c (.n1 l)) (p := (pt I c (.ga l 8)).prod) rfl)
    fun X hX => by rw [show X = prodV I (xV I l) l c 7 from hX 7 rfl]; exact hk

theorem u_n1x {Q : α → sProp 𝕄} {hl' : xM.view.LoadsAt (Rect.unit off S64x2048.size inb).toLoadRect} {k : (S64x2048.Idx → Elt F .bf16) → PG F α}
    (hk : ∀ X, Go I c (.n2 l) (k X) Q) :
    Go I c (.n1 l) ((Prog.lift (.load xM (Rect.unit off S64x2048.size inb).toLoadRect hl') : PG F _) >>= k) Q :=
  load_holds c (lens_x I c (P := pt I c (.n1 l)) (P' := pt I c (.n2 l)) (p := (pt I c (.n1 l)).x) rfl) fun X _ => hk X

theorem u_n1o {Q : α → sProp 𝕄} {hl' : oM.view.LoadsAt (Rect.unit off S64x2048.size inb).toLoadRect} {k : (S64x2048.Idx → Elt F .f32) → PG F α}
    (hk : ∀ X, Go I c (.n2 l) (k X) Q) :
    Go I c (.n1 l) ((Prog.lift (.load oM (Rect.unit off S64x2048.size inb).toLoadRect hl') : PG F _) >>= k) Q :=
  load_holds c (lens_out I c (P := pt I c (.n1 l)) (P' := pt I c (.n2 l)) (p := (pt I c (.n1 l)).out) rfl) fun X _ => hk X

/-- What is known of a buffer, forgotten in part. -/
theorem holds_mono {s : Shape} {e : EltTy} {m : Memref sig .tc .vmem s e} {P P' : Vec F s e → Prop} (h : ∀ X, P X → P' X) :
    holds c m P ⊢ holds c m P' := by
  unfold holds
  iintro ⟨%X, %hX, H⟩
  iexists X; isplitr; · ipureintro; exact h X hX
  iexact H

theorem free_prod {P : Pt F} : St I c P ⊢ St I c { P with prod := fun _ => True } := by
  refine (lens_prod I c (P := P) (p := fun _ => True) rfl).trans ?_
  iintro ⟨H, Hb⟩
  iapply Hb; iapply (holds_mono c (fun _ _ => trivial)); iexact H
theorem free_x {P : Pt F} {p : Vec F S64x2048 .bf16 → Prop} (h : ∀ X, P.x X → p X) : St I c P ⊢ St I c { P with x := p } := by
  refine (lens_x I c (P := P) (p := p) rfl).trans ?_
  iintro ⟨H, Hb⟩
  iapply Hb; iapply (holds_mono c h); iexact H
theorem free_acc {P : Pt F} {p : Vec F S64x512 .f32 → Prop} (h : ∀ X, P.acc X → p X) : St I c P ⊢ St I c { P with acc := p } := by
  refine (lens_acc I c (P := P) (p := p) rfl).trans ?_
  iintro ⟨H, Hb⟩
  iapply Hb; iapply (holds_mono c h); iexact H
theorem free_out {P : Pt F} {p : Vec F S64x2048 .f32 → Prop} (h : ∀ X, P.out X → p X) : St I c P ⊢ St I c { P with out := p } := by
  refine (lens_out I c (P := P) (p := p) rfl).trans ?_
  iintro ⟨H, Hb⟩
  iapply Hb; iapply (holds_mono c h); iexact H

theorem u_n2x {Q : α → sProp 𝕄} (hl : l < 2) {w : Vec F S64x2048 .bf16} {hx : (xM.access (Rect.unit off S64x2048.size inb)).Stores Finset.univ} {hm}
    {k : PUnit → PG F α} (hw : w = xV I (l + 1) c) (hk : Go I c (.wt l 0) (k ⟨⟩) Q) :
    Go I c (.n2 l) ((Prog.lift (.store xM (Rect.unit off S64x2048.size inb) w Finset.univ hx hm) : PG F PUnit) >>= k) Q := by
  unfold Go at hk ⊢
  refine store_holds c (lens_x I c (P := pt I c (.n2 l)) (P' := { pt I c (.n2 l) with x := fun X => l < 2 → X = xV I (l + 1) c })
    (p := fun X => l < 2 → X = xV I (l + 1) c) rfl) (fun _ => hw) ?_
  refine ((free_prod I c).trans (free_out I c (p := fun A => l = 2 → A = outV I c) fun _ _ h => by omega)).trans ?_
  refine BIBase.Entails.trans (BIBase.Entails.of_eq (congrArg (St I c) ?_)) hk
  simp only [pt, ptG, ptW, Pt.mk.injEq, and_true, true_and, if_pos hl] <;> omega

theorem u_n2o {Q : α → sProp 𝕄} {w : Vec F S64x2048 .f32} {hx : (oM.access (Rect.unit off S64x2048.size inb)).Stores Finset.univ} {hm}
    {k : PUnit → PG F α} (hw : w = outV I c) (hk : Go I c (.wt 2 0) (k ⟨⟩) Q) :
    Go I c (.n2 2) ((Prog.lift (.store oM (Rect.unit off S64x2048.size inb) w Finset.univ hx hm) : PG F PUnit) >>= k) Q := by
  unfold Go at hk ⊢
  refine store_holds c (lens_out I c (P := pt I c (.n2 2)) (P' := { pt I c (.n2 2) with out := fun A => 2 = 2 → A = outV I c })
    (p := fun A => 2 = 2 → A = outV I c) rfl) (fun _ => hw) ?_
  exact ((free_prod I c).trans (free_x I c (p := fun X => 2 < 2 → X = xV I (2 + 1) c) fun _ _ h => absurd h (by omega))).trans hk

end New

/-! ## From one stretch to the next -/

section Turns
variable {l : ℕ} {r : PG F α}

theorem u_turn_rv {Q : α → sProp 𝕄} (hl : l < 3) (hk : Go I c (.rv l 0) r Q) : Go I c (.ra l 8) r Q := by
  unfold Go at hk ⊢
  refine (free_acc I c (P := pt I c (.ra l 8)) (p := fun A => A = accV I (xV I l) l c 0) fun A hA => hA c.isLt).trans ?_
  refine BIBase.Entails.trans (BIBase.Entails.of_eq (congrArg (St I c) ?_)) hk
  simp only [pt, ptR, ptV, Pt.mk.injEq, and_true, true_and] <;> omega

theorem u_turn_ga {Q : α → sProp 𝕄} (hk : Go I c (.ga l 0) r Q) : Go I c (.sd l 8) r Q := by
  unfold Go at hk ⊢
  have h : St I c { pt I c (.sd l 8) with prod := fun A => ∀ i, 0 = i + 1 → A = prodV I (xV I l) l c i } ⊢ WP c r Q := by
    refine BIBase.Entails.trans (BIBase.Entails.of_eq (congrArg (St I c) ?_)) hk
    simp only [pt, ptS, ptG, Pt.mk.injEq, and_true, true_and]
    split <;> omega
  refine BIBase.Entails.trans ?_ h
  refine (lens_prod I c (P := pt I c (.sd l 8)) (p := fun A => ∀ i, 0 = i + 1 → A = prodV I (xV I l) l c i) rfl).trans ?_
  iintro ⟨H, Hb⟩
  iapply Hb; iapply (holds_mono c (fun _ _ _ h => absurd h (by omega))); iexact H

theorem u_turn_ra {Q : α → sProp 𝕄} (hl : l < 2) (hk : Go I c (.ra (l + 1) 0) r Q) : Go I c (.wt l 8) r Q := by
  unfold Go at hk ⊢
  have h : St I c { pt I c (.wt l 8) with x := fun X => X = xV I (l + 1) c, acc := fun A => c.val < 0 → A = ownChunk I (xV I (l + 1)) (l + 1) c, out := fun _ => True, h := none } ⊢ WP c r Q := by
    refine BIBase.Entails.trans (BIBase.Entails.of_eq (congrArg (St I c) ?_)) hk
    simp only [pt, ptW, ptR, Pt.mk.injEq, and_true, true_and, if_pos hl] <;> omega
  refine BIBase.Entails.trans ?_ h
  refine (lens_h I c (P := pt I c (.wt l 8)) (P' := { pt I c (.wt l 8) with h := none }) (p := none) rfl).trans ?_
  have hc := hShare_close I c l 8
  have h2 : St I c { pt I c (.wt l 8) with h := none } ⊢ St I c { pt I c (.wt l 8) with x := fun X => X = xV I (l + 1) c, acc := fun A => c.val < 0 → A = ownChunk I (xV I (l + 1)) (l + 1) c, out := fun _ => True, h := none } :=
    ((free_x I c (P := { pt I c (.wt l 8) with h := none }) (p := fun X => X = xV I (l + 1) c) fun X hX => hX hl).trans
      (free_acc I c (p := fun A => c.val < 0 → A = ownChunk I (xV I (l + 1)) (l + 1) c) fun _ _ h => absurd h (by omega))).trans
      (free_out I c (p := fun _ => True) fun _ _ => trivial)
  refine BIBase.Entails.trans ?_ h2
  show iprop(hShare I c l 8 8 ∗ (hFree (F := F) c -∗ _)) ⊢ _
  iintro ⟨H, Hb⟩
  iapply Hb; iapply hc; iexact H

end Turns

end Cert.KernelIdealProof
-- ==== Proof.Items.lean ====
/-
# 01_k — the steps of the body across devices

The conditional sends, receives and waits on sends, at a layer `l` and an iteration `j`: a device has none with itself.
-/
module

public import proofs.«01_k».proof.Proof.Steps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (c : Dev nD) {α : Type}

/-! ## The families, at item `8 l + j` -/

section Items
variable {p l j : ℕ}

theorem sendC_at (hj : j < 8) : sendC (F := F) c p (8 * l + j) = if c.val = j then iprop(atPos ER (dCell c (sendS p l j)) 0 ∅ 0 ∗ back (F := F) c p l j)
    else iprop(atPos ER (dCell c (sendS p l j)) 0 ∅ 0 ∗ dutyTok ER (dCell c (sendS p l j)) 0 0
      ∗ dutyTok ER (dCell (dv j) (recvS p l c.val)) 0 0 ∗ anySlot (dv j) (landM p) l c.val ∗ back c p l j) := by
  unfold sendC sCell; rw [show (8 * l + j) % 8 = j by omega, show (8 * l + j) / 8 = l by omega]
theorem sendB_at (hj : j < 8) : sendB (F := F) c p (8 * l + j) = if c.val = j then iprop(atPos ER (dCell c (sendS p l j)) 0 ∅ 0 ∗ back (F := F) c p l j)
    else iprop(atPos ER (dCell c (sendS p l j)) 0 ∅ 0 ∗ cred (tallyAt (dCell c (sendS p l j)) () N)) := by
  unfold sendB sCell; rw [show (8 * l + j) % 8 = j by omega, show (8 * l + j) / 8 = l by omega]
theorem sendA_at (hj : j < 8) : sendA (F := F) c p (8 * l + j) = if c.val = j then iprop(atPos ER (dCell c (sendS p l j)) 0 ∅ 0 ∗ back (F := F) c p l j)
    else iprop(atPos ER (dCell c (sendS p l j)) 1 ∅ 0 ∗ back c p l j) := by
  unfold sendA sCell; rw [show (8 * l + j) % 8 = j by omega, show (8 * l + j) / 8 = l by omega]
theorem recvA_at (hj : j < 8) : recvA I c p (8 * l + j) = if c.val = j then iprop(atPos ER (dCell c (recvS p l j)) 0 ∅ 0 ∗ anySlot (F := F) c (landM p) l j)
    else iprop(atPos ER (dCell c (recvS p l j)) 1 ∅ 0 ∗ landPay I c p l j) := by
  unfold recvA rCell; rw [show (8 * l + j) % 8 = j by omega, show (8 * l + j) / 8 = l by omega]
theorem recvB_at (hj : j < 8) : recvB (F := F) c p (8 * l + j) = if c.val = j then iprop(atPos ER (dCell c (recvS p l j)) 0 ∅ 0 ∗ anySlot (F := F) c (landM p) l j)
    else iprop(atPos ER (dCell c (recvS p l j)) 0 ∅ 0 ∗ cred (tallyAt (dCell c (recvS p l j)) () N)) := by
  unfold recvB rCell; rw [show (8 * l + j) % 8 = j by omega, show (8 * l + j) / 8 = l by omega]

variable (hl : l < 3) (hj : j < 8)
include hl hj

theorem sends_issue {w : ℕ} (hc : c.val ≠ j) (hw : w ≤ 8 * l + j) :
    sends (F := F) c p (8 * l + j) w ⊢ iprop((dutyTok ER (dCell c (sendS p l j)) 0 0 ∗ dutyTok ER (dCell (dv j) (recvS p l c.val)) 0 0
      ∗ anySlot (dv j) (landM p) l c.val ∗ back c p l j) ∗ (cred (tallyAt (dCell c (sendS p l j)) () N) -∗ sends c p (8 * l + j + 1) w)) := by
  unfold sends
  refine (fam_issue (A := sendA (F := F) c p) (B := sendB c p) (C := sendC c p) (by omega) hw).trans ?_
  rw [sendC_at c hj, sendB_at c hj, if_neg hc, if_neg hc]
  iintro ⟨⟨Ha, H₁, H₂, H₃, H₄⟩, Hb⟩
  isplitl [H₁ H₂ H₃ H₄]
  · isplitl [H₁]; · iexact H₁
    isplitl [H₂]; · iexact H₂
    isplitl [H₃] <;> iassumption
  iintro Hc
  iapply Hb
  isplitl [Ha] <;> iassumption

theorem sends_skip {w : ℕ} (hc : c.val = j) (hw : w ≤ 8 * l + j) : sends (F := F) c p (8 * l + j) w ⊢ sends c p (8 * l + j + 1) w := by
  unfold sends
  refine (fam_issue (A := sendA (F := F) c p) (B := sendB c p) (C := sendC c p) (by omega) hw).trans ?_
  rw [sendC_at c hj, sendB_at c hj, if_pos hc, if_pos hc]
  iintro ⟨H, Hb⟩
  iapply Hb; iexact H

theorem sends_wait {n : ℕ} (hc : c.val ≠ j) (hn : n ≤ 24) (hw : 8 * l + j < n) :
    sends (F := F) c p n (8 * l + j) ⊢ iprop((atPos ER (dCell c (sendS p l j)) 0 ∅ 0 ∗ cred (tallyAt (dCell c (sendS p l j)) () N))
      ∗ ((atPos ER (dCell c (sendS p l j)) 1 ∅ 0 ∗ back c p l j) -∗ sends c p n (8 * l + j + 1))) := by
  unfold sends
  refine (fam_done (A := sendA (F := F) c p) (B := sendB c p) (C := sendC c p) hn hw).trans ?_
  rw [sendA_at c hj, sendB_at c hj, if_neg hc, if_neg hc]

theorem sends_wait_skip {n : ℕ} (hc : c.val = j) (hn : n ≤ 24) (hw : 8 * l + j < n) : sends (F := F) c p n (8 * l + j) ⊢ sends c p n (8 * l + j + 1) := by
  unfold sends
  refine (fam_done (A := sendA (F := F) c p) (B := sendB c p) (C := sendC c p) hn hw).trans ?_
  rw [sendA_at c hj, sendB_at c hj, if_pos hc, if_pos hc]
  iintro ⟨H, Hb⟩
  iapply Hb; iexact H

theorem recvs_wait (hc : c.val ≠ j) :
    recvs I c p (8 * l + j) ⊢ iprop((atPos ER (dCell c (recvS p l j)) 0 ∅ 0 ∗ cred (tallyAt (dCell c (recvS p l j)) () N))
      ∗ ((atPos ER (dCell c (recvS p l j)) 1 ∅ 0 ∗ landPay I c p l j) -∗ recvs I c p (8 * l + j + 1))) := by
  unfold recvs
  refine (fam_done (A := recvA I c p) (B := recvB c p) (by omega) (by omega)).trans ?_
  rw [recvA_at I c hj, recvB_at c hj, if_neg hc, if_neg hc]

theorem recvs_skip (hc : c.val = j) : recvs I c p (8 * l + j) ⊢ recvs I c p (8 * l + j + 1) := by
  unfold recvs
  refine (fam_done (A := recvA I c p) (B := recvB c p) (by omega) (by omega)).trans ?_
  rw [recvA_at I c hj, recvB_at c hj, if_pos hc, if_pos hc]
  iintro ⟨H, Hb⟩
  iapply Hb; iexact H

/-- A landing slot already waited for: what was sent, but in the device's own, which holds anything. -/
theorem recvs_look {r : ℕ} (hr : 8 * l + j < r) :
    recvs I c p r ⊢ iprop(∃ Z, ⌜c.val ≠ j → Z = blockV I p l (dv j) c⌝ ∗ owns (c : Thread nD τ) (slotM (landM p) l j) fullShare Z
      ∗ (owns (c : Thread nD τ) (slotM (landM p) l j) fullShare Z -∗ recvs I c p r)) := by
  unfold recvs
  refine (fam_look (m := 24) (A := recvA I c p) (B := recvB c p) (i := 8 * l + j) (by omega) hr).trans ?_
  rw [recvA_at I c hj]
  by_cases hc : c.val = j
  · rw [if_pos hc]; unfold anySlot
    iintro ⟨⟨Ha, %Z, H⟩, Hb⟩
    iexists Z
    isplitr; · ipureintro; exact fun h => absurd hc h
    isplitl [H]; · iexact H
    iintro H; iapply Hb
    isplitl [Ha]; · iexact Ha
    iexists Z; iexact H
  · rw [if_neg hc]; unfold landPay
    iintro ⟨⟨Ha, H⟩, Hb⟩
    iexists _
    isplitr; · ipureintro; exact fun _ => rfl
    isplitl [H]; · iexact H
    iintro H; iapply Hb
    isplitl [Ha] <;> iassumption

omit hl in
theorem share_issue (hc : c.val ≠ j) : hShare I c l j 0 ⊢ iprop(tok I c l j ∗ hShare I c l (j + 1) 0) := by
  unfold hShare
  iintro ⟨H, Hf⟩
  ihave Hf := (fam_issue (A := tok I c l) (B := tokB I c l) (C := tok I c l) hj (Nat.zero_le j)) $$ Hf
  icases Hf with ⟨Ht, Hb⟩
  isplitl [Ht]; · iexact Ht
  isplitl [H]; · iexact H
  iapply Hb
  have he : (iprop(emp) : sProp 𝕄) ⊢ tokB I c l j := by unfold tokB; rw [if_neg hc]
  iapply he; iempintro

omit hl in
theorem share_skip (hc : c.val = j) : hShare I c l j 0 ⊢ hShare I c l (j + 1) 0 := by
  unfold hShare
  iintro ⟨H, Hf⟩
  ihave Hf := (fam_issue (A := tok I c l) (B := tokB I c l) (C := tok I c l) hj (Nat.zero_le j)) $$ Hf
  icases Hf with ⟨Ht, Hb⟩
  isplitl [H]; · iexact H
  iapply Hb
  have he : tok I c l j ⊢ tokB I c l j := by unfold tokB; rw [if_pos hc]
  iapply he; iexact Ht

omit hl in
theorem share_back (hc : c.val ≠ j) : hShare I c l 8 j ⊢ iprop(tok I c l j -∗ hShare I c l 8 (j + 1)) := by
  unfold hShare
  iintro ⟨H, Hf⟩ Ht
  ihave Hf := (fam_done (A := tok I c l) (B := tokB I c l) (C := tok I c l) (n := 8) (by omega) hj) $$ Hf
  icases Hf with ⟨-, Hb⟩
  isplitl [H]; · iexact H
  iapply Hb; iexact Ht

omit hl in
theorem share_back_skip (hc : c.val = j) : hShare I c l 8 j ⊢ hShare I c l 8 (j + 1) := by
  unfold hShare
  iintro ⟨H, Hf⟩
  ihave Hf := (fam_done (A := tok I c l) (B := tokB I c l) (C := tok I c l) (n := 8) (by omega) hj) $$ Hf
  icases Hf with ⟨Ht, Hb⟩
  isplitl [H]; · iexact H
  iapply Hb
  have he : tokB I c l j ⊢ tok I c l j := by unfold tokB; rw [if_pos hc]
  iapply he; iexact Ht

end Items

end Cert.KernelIdealProof
-- ==== Proof.Cond.lean ====
/-
# 01_k — the conditional steps

The sends, the receives and the waits on the sends, each under the condition that the other device is another one.
-/
module

public import proofs.«01_k».proof.Proof.Items

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (c : Dev nD) {α : Type} {l j : ℕ}

theorem slot_any (M : Memref sig .tc .vmem S3x8x64x512 .bf16) (hl : l < 3) (hj : j < 8) {off : Fin 4 → ℕ}
    {inb : ∀ a, off a + S1x1x64x512.size a ≤ S3x8x64x512.size a} (h : off = ![l, j, 0, 0]) :
    anySlot (F := F) c M l j = iprop(∃ X, owns (c : Thread nD τ)
      ((M.slice (Rect.unit (s := S3x8x64x512) off S1x1x64x512.size inb) (fun _ => rfl)).squeeze S64x512 squeezes_S1x1x64x512_S64x512) fullShare X) := by
  unfold anySlot; rw [slot_eq M hl hj h]

/-! ## The send of a chunk -/

theorem u_rf {Q : α → sProp 𝕄} (hl : l < 3) (hj : j < 8) {b : BitVec 1} (hb : b = 1#1 ↔ c.val ≠ j)
    {off₁ : Fin 4 → ℕ} {inb₁ inb₂ inb₃ : ∀ a, off₁ a + S1x1x64x512.size a ≤ S3x8x64x512.size a}
    {hl' : sbM.view.LoadsAt (Rect.unit (s := S3x8x64x512) off₁ S1x1x64x512.size inb₁).toLoadRect} {w : Vec F S1x1x64x512 .bf16}
    {hx : (sbM.access (Rect.unit (s := S3x8x64x512) off₁ S1x1x64x512.size inb₂)).Stores Finset.univ} {hm} {d : Dev nD}
    {dst : b = 1#1 → Memref sig .tc .vmem S64x512 .bf16} {s₁ : DmaSem sig} {s₂ : b = 1#1 → DmaSem sig}
    {hsc : ∀ h, (dst h : Memref sig (d : Thread nD τ).2.kind .vmem S64x512 .bf16).view.ref.isScScratch = false}
    {hsrc : ((sbM.slice (Rect.unit (s := S3x8x64x512) off₁ S1x1x64x512.size inb₃) (fun _ => rfl)).squeeze S64x512 squeezes_S1x1x64x512_S64x512).view.WordExact}
    {hdst : ∀ h, (dst h : Memref sig (d : Thread nD τ).2.kind .vmem S64x512 .bf16).view.WordExact}
    {hsem : ∀ h, DmaTarget.Typed (nD := nD) (τ := τ) (p := .tc) .vmem (.dma (s₂ h)) (DmaTarget.remote (Dev.tc d) (dst h) (.dma s₁) (hsc h))} {r : PG F α}
    (ho : off₁ = ![l, j, 0, 0]) (hw : w = k0_pay4 (xV I l c) (up numelI (wiT I c (8 * l + j)))) (hd : d = dv j)
    (hD : ∀ h, dst h = slotM rsM l c.val) (h₁ : s₁ = sendS 0 l j) (h₂ : ∀ h, s₂ h = recvS 0 l c.val)
    (hk : Go I c (.ra l (j + 1)) r Q) :
    Go I c (.rf l j) (dite (b = 1#1)
      (fun h => (Prog.lift (.load sbM (Rect.unit (s := S3x8x64x512) off₁ S1x1x64x512.size inb₁).toLoadRect hl') : PG F _) >>= fun _ =>
        (Prog.lift (.store sbM (Rect.unit (s := S3x8x64x512) off₁ S1x1x64x512.size inb₂) w Finset.univ hx hm) : PG F PUnit) >>= fun _ =>
        (Prog.lift (.enqueueDma ((sbM.slice (Rect.unit (s := S3x8x64x512) off₁ S1x1x64x512.size inb₃) (fun _ => rfl)).squeeze S64x512 squeezes_S1x1x64x512_S64x512)
          (.remote (Dev.tc d) (dst h) (.dma s₁) (hsc h)) (.dma (s₂ h)) hsrc (hdst h) (hsem h)) : PG F PUnit) >>= fun _ => r)
      (fun _ => r)) Q := by
  unfold Go at hk ⊢
  have hlens := lens_s₀ I c (P := pt I c (.rf l j)) (P' := pt I c (.ra l (j + 1))) (k := 8 + 16 * l + (j + 1)) (n := 8 * l + (j + 1)) rfl
  by_cases h : b = 1#1
  · have hc := hb.1 h
    rw [dif_pos h]
    refine hlens.trans ?_
    show iprop((ctx I ∗ Ow c (8 + 16 * l + j) ∗ sends c 0 (8 * l + j) (8 * l)) ∗ ((ctx I ∗ Ow c (8 + 16 * l + (j + 1)) ∗ sends c 0 (8 * l + (j + 1)) (8 * l)) -∗ S I c (.ra l (j + 1)))) ⊢ _
    have hi := sends_issue (F := F) c (p := 0) hl hj hc (w := 8 * l) (by omega)
    have hback : back (F := F) c 0 l j ⊢ iprop(∃ X, owns (c : Thread nD τ) ((sbM.slice (Rect.unit (s := S3x8x64x512) off₁ S1x1x64x512.size inb₁) (fun _ => rfl)).squeeze S64x512 squeezes_S1x1x64x512_S64x512) fullShare X) := by
      unfold back; rw [if_pos rfl, slot_any c sbM hl hj (inb := inb₁) ho]
    have hwv : (fun y => w ((Shape.reshapeEquiv squeezes_S1x1x64x512_S64x512.numel_eq.symm).symm y)) = sentV I l c (dv j) := by
      subst hw; funext y; unfold sentV sent; rw [show (dv j).val = j from Nat.mod_eq_of_lt hj]
    have hpay : owns (c : Thread nD τ) ((sbM.slice (Rect.unit (s := S3x8x64x512) off₁ S1x1x64x512.size inb₃) (fun _ => rfl)).squeeze S64x512 squeezes_S1x1x64x512_S64x512) fullShare
        (sentV I l c (dv j)) ⊢ srcPay I c 0 l j := by
      rw [slot_eq sbM hl hj ho]; exact BIBase.Entails.rfl
    have hsend := send_op I c (Q := Q) (p := 0) (by decide) hl hj hc hd (k := fun _ => r) (hsc := hsc h) (hsrc := hsrc) (hdst := hdst h) (hsem := hsem h) (hD h) h₁ (h₂ h) hpay (show sentV I l c (dv j) = blockV I 0 l c (dv j) from rfl)
    show _ ⊢ WP c (.op _ fun _ => .op _ fun _ => .op _ fun _ => r) Q
    iintro ⟨⟨#Hc, HO, Hs⟩, Hb⟩
    ihave Hs := hi $$ Hs
    icases Hs with ⟨⟨Ht₁, Ht₂, Hd, Hk⟩, Hf⟩
    ihave Hk := hback $$ Hk
    icases Hk with ⟨%X, Hk⟩
    iapply (load_slot c) $$ Hk
    iintro Hk
    iapply (store_slot c) $$ [Hk]
    · iexists X; iexact Hk
    iintro Hk
    ihave Hk := (BIBase.Entails.of_eq (congrArg (fun Z => (owns (c : Thread nD τ) ((sbM.slice (Rect.unit (s := S3x8x64x512) off₁ S1x1x64x512.size inb₃) (fun _ => rfl)).squeeze S64x512 squeezes_S1x1x64x512_S64x512) fullShare Z : sProp 𝕄)) hwv)) $$ Hk
    iapply hsend $$ [Hk Hd HO Ht₁ Ht₂]
    · isplitr; · iexact Hc
      isplitl [Hk]; · iexact Hk
      isplitl [Hd]; · iexact Hd
      isplitl [HO]; · iexact HO
      isplitl [Ht₁] <;> iassumption
    iintro ⟨Hcr, HO⟩
    iapply hk; iapply Hb
    isplitr; · iexact Hc
    isplitl [HO]; · iexact HO
    iapply Hf; iexact Hcr
  · have hc : c.val = j := by by_contra hn; exact h (hb.2 hn)
    rw [dif_neg h]
    refine hlens.trans (BIBase.Entails.trans ?_ hk)
    have hs := sends_skip (F := F) c (p := 0) hl hj hc (w := 8 * l) (by omega)
    show iprop((ctx I ∗ Ow c (8 + 16 * l + j) ∗ sends c 0 (8 * l + j) (8 * l)) ∗ ((ctx I ∗ Ow c (8 + 16 * l + j + 1) ∗ sends c 0 (8 * l + j + 1) (8 * l)) -∗ S I c (.ra l (j + 1)))) ⊢ _
    unfold Ow
    rw [owedFrom_self c (k := 8 + 16 * l + j) (by omega) (by omega) (by omega)]
    iintro ⟨⟨Hc, HO, Hs⟩, Hb⟩
    iapply Hb
    isplitl [Hc]; · iexact Hc
    isplitl [HO]; · iexact HO
    iapply hs; iexact Hs

/-! ## The receive of a chunk -/

theorem u_rv {Q : α → sProp 𝕄} (hl : l < 3) (hj : j < 8) {b : BitVec 1} (hb : b = 1#1 ↔ c.val ≠ j)
    {sm : DmaSem sig} {sp' : Space} {s' : Shape} {e' : EltTy} {srcw : b = 1#1 → Memref sig .tc sp' s' e'} {dstw : Memref sig .tc .vmem S64x512 .bf16}
    {hsrc : ∀ h, (srcw h).view.WordExact} {hdst : dstw.view.WordExact}
    {oa ob oc : Fin 2 → ℕ} {ia : ∀ a, oa a + S64x512.size a ≤ S64x512.size a} {ib : ∀ a, ob a + S64x512.size a ≤ S64x512.size a}
    {ic : ∀ a, oc a + S64x512.size a ≤ S64x512.size a}
    {la : accM.view.LoadsAt (Rect.unit oa S64x512.size ia).toLoadRect} {lb : accM.view.LoadsAt (Rect.unit ob S64x512.size ib).toLoadRect}
    {off : Fin 4 → ℕ} {inb : ∀ a, off a + S1x1x64x512.size a ≤ S3x8x64x512.size a}
    {hl' : rsM.view.LoadsAt (Rect.unit (s := S3x8x64x512) off S1x1x64x512.size inb).toLoadRect}
    {w : Vec F S64x512 .f32 → Vec F S1x1x64x512 .bf16 → Vec F S64x512 .f32} {hx : (accM.access (Rect.unit oc S64x512.size ic)).Stores Finset.univ} {hm} {r : PG F α}
    (hD : dstw = slotM rsM l j) (hq : sm = recvS 0 l j) (ho : off = ![l, j, 0, 0]) (hw : ∀ a g, w a g = k0_pay27 a g)
    (hk : Go I c (.rv l (j + 1)) r Q) :
    Go I c (.rv l j) (dite (b = 1#1)
      (fun h => (Prog.lift (.waitDma2 sm (srcw h) dstw (hsrc h) hdst) : PG F PUnit) >>= fun _ =>
        (Prog.lift (.load accM (Rect.unit oa S64x512.size ia).toLoadRect la) : PG F _) >>= fun a =>
        (Prog.lift (.load rsM (Rect.unit (s := S3x8x64x512) off S1x1x64x512.size inb).toLoadRect hl') : PG F _) >>= fun g =>
        (Prog.lift (.load accM (Rect.unit ob S64x512.size ib).toLoadRect lb) : PG F _) >>= fun _ =>
        (Prog.lift (.store accM (Rect.unit oc S64x512.size ic) (w a g) Finset.univ hx hm) : PG F PUnit) >>= fun _ => r)
      (fun _ => r)) Q := by
  unfold Go at hk ⊢
  subst hD
  have hlens := lens_r₀ I c (P := pt I c (.rv l j)) (P' := pt I c (.rv l (j + 1))) (r := 8 * l + (j + 1)) (p := fun A => A = accV I (xV I l) l c (j + 1)) rfl
  by_cases h : b = 1#1
  · have hc := hb.1 h
    rw [dif_pos h]
    refine hlens.trans ?_
    show iprop((ctx I ∗ Ow c (8 + 16 * l + 8) ∗ recvs I c 0 (8 * l + j) ∗ holds c accM fun A => A = accV I (xV I l) l c j)
      ∗ ((ctx I ∗ Ow c (8 + 16 * l + 8) ∗ recvs I c 0 (8 * l + (j + 1)) ∗ holds c accM fun A => A = accV I (xV I l) l c (j + 1)) -∗ S I c (.rv l (j + 1)))) ⊢ _
    have hr := recvs_wait I c (p := 0) hl hj hc
    have hland : landPay I c 0 l j ⊢ owns (c : Thread nD τ) ((rsM.slice (Rect.unit (s := S3x8x64x512) off S1x1x64x512.size inb) (fun _ => rfl)).squeeze S64x512 squeezes_S1x1x64x512_S64x512)
        fullShare (sentV I l (dv j) c) := by
      unfold landPay; rw [slot_eq rsM hl hj ho]; exact BIBase.Entails.rfl
    have hland' : owns (c : Thread nD τ) ((rsM.slice (Rect.unit (s := S3x8x64x512) off S1x1x64x512.size inb) (fun _ => rfl)).squeeze S64x512 squeezes_S1x1x64x512_S64x512)
        fullShare (sentV I l (dv j) c) ⊢ landPay I c 0 l j := by
      unfold landPay; rw [slot_eq rsM hl hj ho]; exact BIBase.Entails.rfl
    have hwait := fun (k : PUnit → PG F α) => wait_op I c (Q := Q) (n := 30 + 48 * 0 + 8 * l + j) (kk := 8 + 16 * l + 8) (by omega) (by omega) (expect_recv I c (p := 0) (by decide) hl hj hc)
      (rest_recv I c (p := 0) (by decide) hl hj hc) (mayWait_recv c (p := 0) (by decide) hl hj (by omega)) (srcw := srcw h) (dstw := slotM rsM l j) (hsrc := hsrc h) (hdst := hdst) (k := k) hq (credit_slot 0 l j)
    have hst : w (accV I (xV I l) l c j) (up numelA (sentV I l (dv j) c)) = accV I (xV I l) l c (j + 1) := by
      rw [hw]; exact (if_neg hc).symm
    show _ ⊢ WP c (.op _ fun _ => .op _ fun a => .op _ fun g => .op _ fun _ => .op _ fun _ => r) Q
    unfold holds
    iintro ⟨⟨#Hc, HO, Hr, %A, %hA, HA⟩, Hb⟩
    subst hA
    ihave Hr := hr $$ Hr
    icases Hr with ⟨⟨Hat, Hcr⟩, Hf⟩
    iapply (hwait _) $$ [HO Hat Hcr]
    · isplitr; · iexact Hc
      isplitl [HO]; · iexact HO
      isplitl [Hat] <;> iassumption
    iintro ⟨HO, Hat, Hp⟩
    ihave Hp := hland $$ Hp
    iapply (load_all c) $$ HA
    iintro HA
    iapply (load_slot c) $$ Hp
    iintro Hp
    iapply (load_all c) $$ HA
    iintro HA
    iapply (store_all c) $$ [HA]
    · iexists _; iexact HA
    iintro HA
    iapply hk; iapply Hb
    isplitr; · iexact Hc
    isplitl [HO]; · iexact HO
    isplitl [Hf Hat Hp]
    · iapply Hf
      isplitl [Hat]; · iexact Hat
      iapply hland'; iexact Hp
    iexists _; isplitr; swap; · iexact HA
    ipureintro; exact hst
  · have hc : c.val = j := by by_contra hn; exact h (hb.2 hn)
    rw [dif_neg h]
    refine hlens.trans (BIBase.Entails.trans ?_ hk)
    have hs := recvs_skip I c (p := 0) hl hj hc
    show iprop((ctx I ∗ Ow c (8 + 16 * l + 8) ∗ recvs I c 0 (8 * l + j) ∗ holds c accM fun A => A = accV I (xV I l) l c j)
      ∗ ((ctx I ∗ Ow c (8 + 16 * l + 8) ∗ recvs I c 0 (8 * l + (j + 1)) ∗ holds c accM fun A => A = accV I (xV I l) l c (j + 1)) -∗ S I c (.rv l (j + 1)))) ⊢ _
    rw [show accV I (xV I l) l c (j + 1) = accV I (xV I l) l c j from if_pos hc]
    iintro ⟨⟨Hc, HO, Hr, HA⟩, Hb⟩
    iapply Hb
    isplitl [Hc]; · iexact Hc
    isplitl [HO]; · iexact HO
    isplitl [Hr]; · iapply hs; iexact Hr
    iexact HA

/-! ## The send of the hidden activations -/

theorem u_sd {Q : α → sProp 𝕄} (hl : l < 3) (hj : j < 8) {b : BitVec 1} (hb : b = 1#1 ↔ c.val ≠ j) {d : Dev nD}
    {dst : b = 1#1 → Memref sig .tc .vmem S64x512 .bf16} {s₁ : DmaSem sig} {s₂ : b = 1#1 → DmaSem sig}
    {hsc : ∀ h, (dst h : Memref sig (d : Thread nD τ).2.kind .vmem S64x512 .bf16).view.ref.isScScratch = false} {hsrc : hM.view.WordExact}
    {hdst : ∀ h, (dst h : Memref sig (d : Thread nD τ).2.kind .vmem S64x512 .bf16).view.WordExact}
    {hsem : ∀ h, DmaTarget.Typed (nD := nD) (τ := τ) (p := .tc) .vmem (.dma (s₂ h)) (DmaTarget.remote (Dev.tc d) (dst h) (.dma s₁) (hsc h))} {r : PG F α}
    (hd : d = dv j) (hD : ∀ h, dst h = slotM agM l c.val) (h₁ : s₁ = sendS 1 l j) (h₂ : ∀ h, s₂ h = recvS 1 l c.val)
    (hk : Go I c (.sd l (j + 1)) r Q) :
    Go I c (.sd l j) (dite (b = 1#1)
      (fun h => (Prog.lift (.enqueueDma hM (.remote (Dev.tc d) (dst h) (.dma s₁) (hsc h)) (.dma (s₂ h)) hsrc (hdst h) (hsem h)) : PG F PUnit) >>= fun _ => r)
      (fun _ => r)) Q := by
  unfold Go at hk ⊢
  have hlens := lens_s₁ I c (P := pt I c (.sd l j)) (P' := pt I c (.sd l (j + 1))) (k := 16 + 16 * l + (j + 1)) (n := 8 * l + (j + 1)) (h := some (l, j + 1, 0)) rfl
  have hshow : S I c (.sd l j) ⊢ iprop((ctx I ∗ Ow c (8 + 16 * l + 8 * 1 + j) ∗ sends c 1 (8 * l + j) (8 * l) ∗ hShare I c l j 0)
      ∗ ((ctx I ∗ Ow c (8 + 16 * l + 8 * 1 + j + 1) ∗ sends c 1 (8 * l + j + 1) (8 * l) ∗ hShare I c l (j + 1) 0) -∗ S I c (.sd l (j + 1)))) := by
    rw [show 8 + 16 * l + 8 * 1 + j = 16 + 16 * l + j by omega]; exact hlens
  refine hshow.trans ?_
  by_cases h : b = 1#1
  · have hc := hb.1 h
    rw [dif_pos h]
    have hi := sends_issue (F := F) c (p := 1) hl hj hc (w := 8 * l) (by omega)
    have ht := share_issue I c (l := l) hj hc
    unfold tok at ht
    have hsend := send_op I c (Q := Q) (p := 1) (by decide) hl hj hc hd (k := fun _ => r) (hsc := hsc h) (hsrc := hsrc) (hdst := hdst h) (hsem := hsem h) (hD h) h₁ (h₂ h)
      (show owns (c : Thread nD τ) hM (Transfers.shareTokN fullShare j) (hidV I l c) ⊢ srcPay I c 1 l j from BIBase.Entails.rfl) (show hidV I l c = blockV I 1 l c (dv j) from rfl)
    show _ ⊢ WP c (.op _ fun _ => r) Q
    iintro ⟨⟨#Hc, HO, Hs, Hh⟩, Hb⟩
    ihave Hs := hi $$ Hs
    icases Hs with ⟨⟨Ht₁, Ht₂, Hd, -⟩, Hf⟩
    ihave Hh := ht $$ Hh
    icases Hh with ⟨Ht, Hh⟩
    iapply hsend $$ [Ht Hd HO Ht₁ Ht₂]
    · isplitr; · iexact Hc
      isplitl [Ht]; · iexact Ht
      isplitl [Hd]; · iexact Hd
      isplitl [HO]; · iexact HO
      isplitl [Ht₁] <;> iassumption
    iintro ⟨Hcr, HO⟩
    iapply hk; iapply Hb
    isplitr; · iexact Hc
    isplitl [HO]; · iexact HO
    isplitl [Hf Hcr]; · iapply Hf; iexact Hcr
    iexact Hh
  · have hc : c.val = j := by by_contra hn; exact h (hb.2 hn)
    rw [dif_neg h]
    refine BIBase.Entails.trans ?_ hk
    have hs := sends_skip (F := F) c (p := 1) hl hj hc (w := 8 * l) (by omega)
    have ht := share_skip I c (l := l) hj hc
    unfold Ow
    rw [owedFrom_self c (k := 8 + 16 * l + 8 * 1 + j) (by omega) (by omega) (by omega)]
    iintro ⟨⟨Hc, HO, Hs, Hh⟩, Hb⟩
    iapply Hb
    isplitl [Hc]; · iexact Hc
    isplitl [HO]; · iexact HO
    isplitl [Hs]; · iapply hs; iexact Hs
    iapply ht; iexact Hh

/-! ## The receive of the hidden activations -/

theorem u_gc {Q : α → sProp 𝕄} (hl : l < 3) (hj : j < 8) {b : BitVec 1} (hb : b = 1#1 ↔ c.val ≠ j)
    {sm : DmaSem sig} {sp' : Space} {s' : Shape} {e' : EltTy} {srcw : b = 1#1 → Memref sig .tc sp' s' e'} {dstw : Memref sig .tc .vmem S64x512 .bf16}
    {hsrc : ∀ h, (srcw h).view.WordExact} {hdst : dstw.view.WordExact} {r : PG F α}
    (hD : dstw = slotM agM l j) (hq : sm = recvS 1 l j) (hk : Go I c (.gd l j) r Q) :
    Go I c (.gc l j) (dite (b = 1#1)
      (fun h => (Prog.lift (.waitDma2 sm (srcw h) dstw (hsrc h) hdst) : PG F PUnit) >>= fun _ => r)
      (fun _ => r)) Q := by
  unfold Go at hk ⊢
  subst hD
  refine (lens_r₁ I c (P := pt I c (.gc l j)) (P' := pt I c (.gd l j)) (g := 8 * l + (j + 1)) rfl).trans ?_
  show iprop((ctx I ∗ Ow c (16 + 16 * l + 8) ∗ recvs I c 1 (8 * l + j)) ∗ ((ctx I ∗ Ow c (16 + 16 * l + 8) ∗ recvs I c 1 (8 * l + j + 1)) -∗ S I c (.gd l j))) ⊢ _
  by_cases h : b = 1#1
  · have hc := hb.1 h
    rw [dif_pos h]
    have hr := recvs_wait I c (p := 1) hl hj hc
    have hwait := wait_op I c (Q := Q) (n := 30 + 48 * 1 + 8 * l + j) (kk := 16 + 16 * l + 8) (by omega) (by omega) (expect_recv I c (p := 1) (by decide) hl hj hc)
      (rest_recv I c (p := 1) (by decide) hl hj hc) (mayWait_recv c (p := 1) (by decide) hl hj (by omega)) (srcw := srcw h) (dstw := slotM agM l j) (hsrc := hsrc h) (hdst := hdst) (k := fun _ => r) hq (credit_slot 1 l j)
    show _ ⊢ WP c (.op _ fun _ => r) Q
    iintro ⟨⟨#Hc, HO, Hr⟩, Hb⟩
    ihave Hr := hr $$ Hr
    icases Hr with ⟨⟨Hat, Hcr⟩, Hf⟩
    iapply hwait $$ [HO Hat Hcr]
    · isplitr; · iexact Hc
      isplitl [HO]; · iexact HO
      isplitl [Hat] <;> iassumption
    iintro ⟨HO, Hat, Hp⟩
    iapply hk; iapply Hb
    isplitr; · iexact Hc
    isplitl [HO]; · iexact HO
    iapply Hf
    isplitl [Hat] <;> iassumption
  · have hc : c.val = j := by by_contra hn; exact h (hb.2 hn)
    rw [dif_neg h]
    refine BIBase.Entails.trans ?_ hk
    have hs := recvs_skip I c (p := 1) hl hj hc
    iintro ⟨⟨Hc, HO, Hr⟩, Hb⟩
    iapply Hb
    isplitl [Hc]; · iexact Hc
    isplitl [HO]; · iexact HO
    iapply hs; iexact Hr

/-- The load of a landed block: anything in the device's own slot. -/
theorem u_ge {Q : α → sProp 𝕄} (hl : l < 3) (hj : j < 8) {off : Fin 4 → ℕ} {inb : ∀ a, off a + S1x1x64x512.size a ≤ S3x8x64x512.size a}
    {hl' : agM.view.LoadsAt (Rect.unit (s := S3x8x64x512) off S1x1x64x512.size inb).toLoadRect} {k : (S1x1x64x512.Idx → Elt F .bf16) → PG F α}
    (ho : off = ![l, j, 0, 0]) (hk : ∀ G, (c.val ≠ j → G = up numelA (hidV I l (dv j))) → (Go I c (.gf l j) (k G) Q)) :
    Go I c (.ge l j) ((Prog.lift (.load agM (Rect.unit (s := S3x8x64x512) off S1x1x64x512.size inb).toLoadRect hl') : PG F _) >>= k) Q := by
  unfold Go at hk ⊢
  refine (lens_r₁ I c (P := pt I c (.ge l j)) (P' := pt I c (.gf l j)) (g := 8 * l + (j + 1)) rfl).trans ?_
  show iprop((ctx I ∗ Ow c (16 + 16 * l + 8) ∗ recvs I c 1 (8 * l + (j + 1))) ∗ ((ctx I ∗ Ow c (16 + 16 * l + 8) ∗ recvs I c 1 (8 * l + (j + 1))) -∗ S I c (.gf l j))) ⊢ _
  have hr := recvs_look I c (p := 1) (l := l) (j := j) (r := 8 * l + (j + 1)) hl hj (by omega)
  have e : slotM (landM 1) l j = (agM.slice (Rect.unit (s := S3x8x64x512) off S1x1x64x512.size inb) (fun _ => rfl)).squeeze S64x512 squeezes_S1x1x64x512_S64x512 :=
    (slot_eq agM hl hj ho).symm
  rw [e] at hr
  show _ ⊢ WP c (.op _ k) Q
  iintro ⟨⟨#Hc, HO, Hr⟩, Hb⟩
  ihave Hr := hr $$ Hr
  icases Hr with ⟨%Z, %hZ, H, Hf⟩
  iapply (load_slot c) $$ H
  iintro H
  iapply (hk _ (fun h => congrArg (up numelA) (hZ h))); iapply Hb
  isplitr; · iexact Hc
  isplitl [HO]; · iexact HO
  iapply Hf; iexact H

/-! ## The waits on the sends -/

theorem dlev_send {p l j : ℕ} (hp : p < 2) (hl : l < 3) (hj : j < 8) : dlev (sendS p l j).val = 0 := by
  rw [sendS_val hp hl hj]; unfold dlev
  rw [if_neg (by omega), if_neg (by omega)]

theorem u_wt {Q : α → sProp 𝕄} (hl : l < 3) (hj : j < 8) {b : BitVec 1} (hb : b = 1#1 ↔ c.val ≠ j)
    {sm₁ sm₂ : DmaSem sig} {sp₁ sp₂ : Space} {t₁ t₂ : Shape} {e₁ e₂ : EltTy} {src₁ : b = 1#1 → Memref sig .tc sp₁ t₁ e₁} {src₂ : b = 1#1 → Memref sig .tc sp₂ t₂ e₂}
    {dst₁ dst₂ : Memref sig .tc .vmem S64x512 .bf16} {hsrc₁ : ∀ h, (src₁ h).view.WordExact} {hsrc₂ : ∀ h, (src₂ h).view.WordExact}
    {hdst₁ : dst₁.view.WordExact} {hdst₂ : dst₂.view.WordExact} {r : PG F α}
    (h₁ : sm₁ = sendS 0 l j) (h₂ : sm₂ = sendS 1 l j) (hn₁ : dst₁.view.dmaCredit = N) (hn₂ : dst₂.view.dmaCredit = N)
    (hk : Go I c (.wt l (j + 1)) r Q) :
    Go I c (.wt l j) (dite (b = 1#1)
      (fun h => (Prog.lift (.waitDma2 sm₁ (src₁ h) dst₁ (hsrc₁ h) hdst₁) : PG F PUnit) >>= fun _ =>
        (Prog.lift (.waitDma2 sm₂ (src₂ h) dst₂ (hsrc₂ h) hdst₂) : PG F PUnit) >>= fun _ => r)
      (fun _ => r)) Q := by
  unfold Go at hk ⊢
  refine (lens_w I c (P := pt I c (.wt l j)) (P' := pt I c (.wt l (j + 1))) (w₀ := 8 * l + (j + 1)) (w₁ := 8 * l + (j + 1)) (h := some (l, 8, j + 1)) rfl).trans ?_
  show iprop((ctx I ∗ Ow c (16 + 16 * l + 8) ∗ sends c 0 (8 * l + 8) (8 * l + j) ∗ sends c 1 (8 * l + 8) (8 * l + j) ∗ hShare I c l 8 j)
    ∗ ((ctx I ∗ Ow c (16 + 16 * l + 8) ∗ sends c 0 (8 * l + 8) (8 * l + j + 1) ∗ sends c 1 (8 * l + 8) (8 * l + j + 1) ∗ hShare I c l 8 (j + 1)) -∗ S I c (.wt l (j + 1)))) ⊢ _
  by_cases h : b = 1#1
  · have hc := hb.1 h
    rw [dif_pos h]
    have hs := fun p => sends_wait (F := F) c (p := p) (n := 8 * l + 8) hl hj hc (by omega) (by omega)
    have hback : hShare I c l 8 j ⊢ iprop(srcPay I c 1 l j -∗ hShare I c l 8 (j + 1)) := share_back I c (l := l) hj hc
    have hwait₁ := fun (k : PUnit → PG F α) => wait_op I c (Q := Q) (n := 6 + 48 * 0 + 8 * l + j) (kk := 16 + 16 * l + 8) (by omega) (by omega) (expect_send I c (p := 0) (by decide) hl hj hc)
      (rest_send I c (p := 0) (by decide) hl hj hc) (mayWait_low c _ _ (dlev_send (by decide) hl hj)) (srcw := src₁ h) (dstw := dst₁) (hsrc := hsrc₁ h) (hdst := hdst₁) (k := k) h₁ hn₁
    have hwait₂ := fun (k : PUnit → PG F α) => wait_op I c (Q := Q) (n := 6 + 48 * 1 + 8 * l + j) (kk := 16 + 16 * l + 8) (by omega) (by omega) (expect_send I c (p := 1) (by decide) hl hj hc)
      (rest_send I c (p := 1) (by decide) hl hj hc) (mayWait_low c _ _ (dlev_send (by decide) hl hj)) (srcw := src₂ h) (dstw := dst₂) (hsrc := hsrc₂ h) (hdst := hdst₂) (k := k) h₂ hn₂
    have hb₀ : srcPay I c 0 l j ⊢ back (F := F) c 0 l j := by
      unfold back anySlot; rw [if_pos rfl]; unfold srcPay; iintro H; iexists _; iexact H
    have hb₁ : (iprop(emp) : sProp 𝕄) ⊢ back (F := F) c 1 l j := by unfold back; rw [if_neg (by decide)]
    show _ ⊢ WP c (.op _ fun _ => .op _ fun _ => r) Q
    iintro ⟨⟨#Hc, HO, Hs₀, Hs₁, Hh⟩, Hb⟩
    ihave Hs₀ := (hs 0) $$ Hs₀
    icases Hs₀ with ⟨⟨Hat₀, Hcr₀⟩, Hf₀⟩
    ihave Hs₁ := (hs 1) $$ Hs₁
    icases Hs₁ with ⟨⟨Hat₁, Hcr₁⟩, Hf₁⟩
    iapply (hwait₁ _) $$ [HO Hat₀ Hcr₀]
    · isplitr; · iexact Hc
      isplitl [HO]; · iexact HO
      isplitl [Hat₀] <;> iassumption
    iintro ⟨HO, Hat₀, Hp₀⟩
    iapply (hwait₂ _) $$ [HO Hat₁ Hcr₁]
    · isplitr; · iexact Hc
      isplitl [HO]; · iexact HO
      isplitl [Hat₁] <;> iassumption
    iintro ⟨HO, Hat₁, Hp₁⟩
    iapply hk; iapply Hb
    isplitr; · iexact Hc
    isplitl [HO]; · iexact HO
    isplitl [Hf₀ Hat₀ Hp₀]
    · iapply Hf₀
      isplitl [Hat₀]; · iexact Hat₀
      iapply hb₀; iexact Hp₀
    isplitl [Hf₁ Hat₁]
    · iapply Hf₁
      isplitl [Hat₁]; · iexact Hat₁
      iapply hb₁; iempintro
    iapply hback $$ Hh
    iexact Hp₁
  · have hc : c.val = j := by by_contra hn; exact h (hb.2 hn)
    rw [dif_neg h]
    refine BIBase.Entails.trans ?_ hk
    have hs := fun p => sends_wait_skip (F := F) c (p := p) (n := 8 * l + 8) hl hj hc (by omega) (by omega)
    have hback := share_back_skip I c (l := l) hj hc
    iintro ⟨⟨Hc, HO, Hs₀, Hs₁, Hh⟩, Hb⟩
    iapply Hb
    isplitl [Hc]; · iexact Hc
    isplitl [HO]; · iexact HO
    isplitl [Hs₀]; · iapply (hs 0); iexact Hs₀
    isplitl [Hs₁]; · iapply (hs 1); iexact Hs₁
    iapply hback; iexact Hh

end Cert.KernelIdealProof
-- ==== Proof.Words.lean ====
/-
# 01_k — the printed words of a device
-/
module

public import proofs.«01_k».proof.Proof.Cond

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The device's number, as the body computes it -/

abbrev v2w (c : Dev nD) : BitVec 32 := Scalar.remsi (Scalar.divsi (Dev.word c) 1#32) 8#32

theorem v2w_toNat (c : Dev nD) : (v2w c).toNat = c.val := by revert c; decide +kernel

theorem eq_bit (c : Dev nD) (j : ℕ) (hj : j < 8) : Scalar.cmpi .ne (Scalar.extui (Scalar.cmpi .eq (v2w c) (BitVec.ofNat 32 j)) : BitVec 32) 0#32 = 1#1 ↔ c.val = j := by
  have h : ∀ (j : Fin 8) (c : Dev nD), Scalar.cmpi .ne (Scalar.extui (Scalar.cmpi .eq (v2w c) (BitVec.ofNat 32 j.val)) : BitVec 32) 0#32 = 1#1 ↔ c.val = j.val := by decide +kernel
  exact h ⟨j, hj⟩ c
theorem ne_bit (c : Dev nD) (j : ℕ) (hj : j < 8) : Scalar.cmpi .ne (Scalar.extui (Scalar.cmpi .ne (v2w c) (BitVec.ofNat 32 j)) : BitVec 32) 0#32 = 1#1 ↔ c.val ≠ j := by
  have h : ∀ (j : Fin 8) (c : Dev nD), Scalar.cmpi .ne (Scalar.extui (Scalar.cmpi .ne (v2w c) (BitVec.ofNat 32 j.val)) : BitVec 32) 0#32 = 1#1 ↔ c.val ≠ j.val := by decide +kernel
  exact h ⟨j, hj⟩ c
theorem sel_bit (c : Dev nD) (j : ℕ) (hj : j < 8) : Scalar.cmpi .eq (v2w c) (BitVec.ofNat 32 j) = 1#1 ↔ c.val = j := by
  have h : ∀ (j : Fin 8) (c : Dev nD), Scalar.cmpi .eq (v2w c) (BitVec.ofNat 32 j.val) = 1#1 ↔ c.val = j.val := by decide +kernel
  exact h ⟨j, hj⟩ c

theorem off4 (l : ℕ) (c : Dev nD) : (![l, (v2w c).toNat, 0, 0] : Fin 4 → ℕ) = ![l, c.val, 0, 0] := by rw [v2w_toNat]
theorem off2 (l : ℕ) (c : Dev nD) : (![l, (v2w c).toNat] : Fin 2 → ℕ) = ![l, c.val] := by rw [v2w_toNat]

/-- A part of the body, and what follows it. -/
theorem part {α β : Type} {I : Inp F} {c : Dev nD} {pt : PP} {p : PG F β} {k : β → PG F α} {Q : α → sProp 𝕄} (h : Go I c pt p fun v => WP c (k v) Q) :
    Go I c pt (p >>= k) Q := by
  unfold Go WP at *; rw [wp_bind]; exact h

theorem part_end {α β : Type} {I : Inp F} {c : Dev nD} {pt : PP} {v : β} {k : β → PG F α} {Q : α → sProp 𝕄} (h : Go I c pt (k v) Q) :
    Go I c pt (pure v) fun v => WP c (k v) Q := by
  unfold Go at *
  show _ ⊢ wp _ _ _ (Prog.ret v) _; rw [wp_ret]; refine h.trans ?_; iintro H; imodintro; iexact H

theorem body_end {I : Inp F} {c : Dev nD} {pt : PP} : Go I c pt (pure ⟨⟩ : PG F PUnit) fun _ => S I c pt := by
  unfold Go
  show _ ⊢ wp _ _ _ (Prog.ret _) _; rw [wp_ret]; iintro H; imodintro; iexact H

end Cert.KernelIdealProof
-- ==== Proof.Run.lean ====
/-
# 01_k — the body, from the entry barrier to the last wait

Every operation is one of the steps; a part is entered at its first operation and left at its result.
-/
module

public import proofs.«01_k».proof.Proof.Words

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] S Go Scalar.cmpi
attribute [local irreducible] k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51

set_option maxRecDepth 65536
set_option maxHeartbeats 40000000

variable (I : Inp F) (c : Dev nD)

/-- The body from the first product of the first layer on: whatever the operations before leave untouched stays. -/
theorem body_rest {A R : sProp 𝕄}
    (hfirst : ∀ {α : Type} {k : (Σ' (_ : Dev nD), BitVec 32) → PG F α} {Q : α → sProp 𝕄}, Go I c (.ra 0 0) (k ⟨c, v2w c⟩) Q →
      (A ⊢ WP c (k0_part1 (F := F) aM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) xM (Memref.isWhole_whole _) wiM (Memref.isWhole_whole _) woM (Memref.isWhole_whole _) accM (Memref.isWhole_whole _) prodM (Memref.isWhole_whole _) hM (Memref.isWhole_whole _) rsM (Memref.isWhole_whole _) agM (Memref.isWhole_whole _) sbM (Memref.isWhole_whole _) cc0_scratch9 cc0_scratch10 cc0_scratch11 cc0_scratch12 cc0_scratch13 cc0_scratch14 >>= k) (fun v => iprop(R ∗ Q v)))) :
    A ⊢ WP c (cc0_body (F := F) aM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) xM (Memref.isWhole_whole _) wiM (Memref.isWhole_whole _) woM (Memref.isWhole_whole _) accM (Memref.isWhole_whole _) prodM (Memref.isWhole_whole _) hM (Memref.isWhole_whole _) rsM (Memref.isWhole_whole _) agM (Memref.isWhole_whole _) sbM (Memref.isWhole_whole _) cc0_scratch9 cc0_scratch10 cc0_scratch11 cc0_scratch12 cc0_scratch13 cc0_scratch14) (fun _ => iprop(R ∗ S I c (.wt 2 8))) := by
  have bind {α β : Type} {p : PG F β} {k : β → PG F α} {Q : α → sProp 𝕄} (h : A ⊢ WP c p fun v => iprop(R ∗ WP c (k v) Q)) :
      A ⊢ WP c (p >>= k) (fun v => iprop(R ∗ Q v)) := by
    unfold WP at *; rw [wp_bind]; exact h.trans (wp_mono _ _ _ fun v => wp_frame_l _ _ _)
  rw [cc0_body_eq_skeleton]; unfold cc0_body_skel
  refine bind ?_
  rw [k0_part52_eq_skeleton]; unfold k0_part52_skel
  refine hfirst ?_
  repeat' first
    | exact body_end
    | refine part_end ?_
    | refine u_turn_rv I c (by decide) ?_
    | refine u_turn_ga I c ?_
    | refine u_turn_ra I c (by decide) ?_
    | refine u_ga_last I c ?_
    | refine u_ra7 I c (by decide) rfl rfl rfl ?_
    | refine u_ra I c (by decide) (by decide) rfl rfl rfl ?_
    | refine u_rb I c (by decide) (by decide) rfl rfl ?_
    | refine u_rc I c ?_
    | refine u_rd I c (by decide) rfl ?_
    | refine u_re I c (eq_bit c _ (by decide)) rfl ?_
    | refine u_rf I c (by decide) (by decide) (ne_bit c _ (by decide)) rfl rfl rfl (fun _ => slot_eq rsM (by decide) c.isLt (off4 _ c)) rfl
        (fun _ => sem_rs (by decide) c.isLt (off2 _ c)) ?_
    | refine u_rv8 I c ?_
    | refine u_rv I c (by decide) (by decide) (ne_bit c _ (by decide)) rfl rfl rfl (fun _ _ => rfl) ?_
    | refine u_h1 I c (fun X => ?_)
    | refine u_h2 I c rfl ?_
    | refine u_sd I c (by decide) (by decide) (ne_bit c _ (by decide)) rfl (fun _ => slot_eq agM (by decide) c.isLt (off4 _ c)) rfl
        (fun _ => sem_ag (by decide) c.isLt (off2 _ c)) ?_
    | refine u_n0 I c ?_
    | refine u_ga7 I c (by decide) rfl rfl rfl ?_
    | refine u_ga I c (by decide) (by decide) rfl rfl rfl ?_
    | refine u_gb I c (by decide) (by decide) rfl rfl ?_
    | refine u_gc I c (by decide) (by decide) (ne_bit c _ (by decide)) rfl rfl ?_
    | refine u_gd I c ?_
    | refine u_ge I c (by decide) (by decide) rfl (fun G hG => ?_)
    | refine u_gf I c (by decide) rfl ?_
    | refine u_gg0 I c (fun X => ?_)
    | refine u_gg I c ?_
    | refine u_gh I c (fun X => ?_)
    | refine u_gi I c (by decide) (w_first I c _ _ _ (sel_bit c 0 (by decide)) rfl hG) ?_
    | refine u_gi I c (by decide) (w_step I c (by decide) _ _ _ (sel_bit c _ (by decide)) rfl hG) ?_
    | refine u_n1o I c (fun X => ?_)
    | refine u_n1x I c (fun X => ?_)
    | refine u_n2x I c (by decide) rfl ?_
    | refine u_n2o I c rfl ?_
    | refine u_wt I c (by decide) (by decide) (ne_bit c _ (by decide)) rfl rfl rfl rfl ?_
    | (refine part ?_
       first
      | rw [k0_part2_eq_skeleton]; unfold k0_part2_skel | rw [k0_part3_eq_skeleton]; unfold k0_part3_skel | rw [k0_part4_eq_skeleton]; unfold k0_part4_skel
      | rw [k0_part5_eq_skeleton]; unfold k0_part5_skel | rw [k0_part6_eq_skeleton]; unfold k0_part6_skel | rw [k0_part7_eq_skeleton]; unfold k0_part7_skel
      | rw [k0_part8_eq_skeleton]; unfold k0_part8_skel | rw [k0_part9_eq_skeleton]; unfold k0_part9_skel | rw [k0_part10_eq_skeleton]; unfold k0_part10_skel
      | rw [k0_part11_eq_skeleton]; unfold k0_part11_skel | rw [k0_part12_eq_skeleton]; unfold k0_part12_skel | rw [k0_part13_eq_skeleton]; unfold k0_part13_skel
      | rw [k0_part14_eq_skeleton]; unfold k0_part14_skel | rw [k0_part15_eq_skeleton]; unfold k0_part15_skel | rw [k0_part16_eq_skeleton]; unfold k0_part16_skel
      | rw [k0_part17_eq_skeleton]; unfold k0_part17_skel | rw [k0_part18_eq_skeleton]; unfold k0_part18_skel | rw [k0_part19_eq_skeleton]; unfold k0_part19_skel
      | rw [k0_part20_eq_skeleton]; unfold k0_part20_skel | rw [k0_part21_eq_skeleton]; unfold k0_part21_skel | rw [k0_part22_eq_skeleton]; unfold k0_part22_skel
      | rw [k0_part23_eq_skeleton]; unfold k0_part23_skel | rw [k0_part24_eq_skeleton]; unfold k0_part24_skel | rw [k0_part25_eq_skeleton]; unfold k0_part25_skel
      | rw [k0_part26_eq_skeleton]; unfold k0_part26_skel | rw [k0_part27_eq_skeleton]; unfold k0_part27_skel | rw [k0_part28_eq_skeleton]; unfold k0_part28_skel
      | rw [k0_part29_eq_skeleton]; unfold k0_part29_skel | rw [k0_part30_eq_skeleton]; unfold k0_part30_skel | rw [k0_part31_eq_skeleton]; unfold k0_part31_skel
      | rw [k0_part32_eq_skeleton]; unfold k0_part32_skel | rw [k0_part33_eq_skeleton]; unfold k0_part33_skel | rw [k0_part34_eq_skeleton]; unfold k0_part34_skel
      | rw [k0_part35_eq_skeleton]; unfold k0_part35_skel | rw [k0_part36_eq_skeleton]; unfold k0_part36_skel | rw [k0_part37_eq_skeleton]; unfold k0_part37_skel
      | rw [k0_part38_eq_skeleton]; unfold k0_part38_skel | rw [k0_part39_eq_skeleton]; unfold k0_part39_skel | rw [k0_part40_eq_skeleton]; unfold k0_part40_skel
      | rw [k0_part41_eq_skeleton]; unfold k0_part41_skel | rw [k0_part42_eq_skeleton]; unfold k0_part42_skel | rw [k0_part43_eq_skeleton]; unfold k0_part43_skel
      | rw [k0_part44_eq_skeleton]; unfold k0_part44_skel | rw [k0_part45_eq_skeleton]; unfold k0_part45_skel | rw [k0_part46_eq_skeleton]; unfold k0_part46_skel
      | rw [k0_part47_eq_skeleton]; unfold k0_part47_skel | rw [k0_part48_eq_skeleton]; unfold k0_part48_skel | rw [k0_part49_eq_skeleton]; unfold k0_part49_skel
      | rw [k0_part50_eq_skeleton]; unfold k0_part50_skel
      | rw [k0_part51_eq_skeleton]; unfold k0_part51_skel)

end Cert.KernelIdealProof
-- ==== Proof.Split.lean ====
/-
# 01_k — buffers cut into their slots and tiles, and joined again
-/
module

public import proofs.«01_k».proof.Proof.State

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One index counted as several -/

theorem bigSep_two (a b : ℕ) (f : ℕ → sProp 𝕄) :
    (bigSep Finset.univ fun i : Fin (a * b) => f i.val) = bigSep Finset.univ fun j : Fin a => bigSep Finset.univ fun k : Fin b => f (k.val + b * j.val) := by
  rw [bigSep_univ_equiv finProdFinEquiv (fun i : Fin (a * b) => f i.val), bigSep_univ_prod]; rfl

/-- The four families of 24 cells. -/
theorem bigSep_96 (f : ℕ → sProp 𝕄) :
    (bigSep Finset.univ fun i : Fin 96 => f i.val) = iprop((bigSep Finset.univ fun i : Fin 24 => f i.val) ∗ (bigSep Finset.univ fun i : Fin 24 => f (i.val + 24))
      ∗ (bigSep Finset.univ fun i : Fin 24 => f (i.val + 48)) ∗ bigSep Finset.univ fun i : Fin 24 => f (i.val + 72)) :=
  (bigSep_two 4 24 f).trans (bigSep_univ_eq_bigSepL [0, 1, 2, 3] (by decide) (by decide) _)

/-- Twenty-four as three layers of eight devices. -/
theorem bigSep_24 (f : ℕ → ℕ → sProp 𝕄) :
    (bigSep Finset.univ fun i : Fin 24 => f (i.val / 8) (i.val % 8)) = bigSep Finset.univ fun j : Fin 8 => bigSep Finset.univ fun l : Fin 3 => f l.val j.val := by
  refine (bigSep_two 3 8 fun i => f (i / 8) (i % 8)).trans ?_
  rw [BI.bigSep_univ_comm]
  refine bigSep_congr fun j _ => bigSep_congr fun l _ => ?_
  have := j.isLt
  rw [show (j.val + 8 * l.val) / 8 = l.val by omega, show (j.val + 8 * l.val) % 8 = j.val by omega]

/-- By device, then phase and layer: two families of 24. -/
theorem bigSep_pays (f : ℕ → ℕ → ℕ → sProp 𝕄) :
    (bigSep Finset.univ fun d : Fin 8 => bigSep Finset.univ fun pl : Fin 2 × Fin 3 => f pl.1.val pl.2.val d.val)
      = iprop((bigSep Finset.univ fun i : Fin 24 => f 0 (i.val / 8) (i.val % 8)) ∗ bigSep Finset.univ fun i : Fin 24 => f 1 (i.val / 8) (i.val % 8)) := by
  rw [bigSep_24 (f 0), bigSep_24 (f 1), ← bigSep_sep']
  refine bigSep_congr fun d _ => ?_
  rw [bigSep_univ_prod, bigSep_univ_two]
  rfl

/-! ## A buffer and its squeezed slices -/

section Cut
variable (c : Dev nD) {sp : CoreSpace} {s s' : Shape} {e : EltTy} (M : Memref sig .tc sp s e) {T : Type} [Fintype T] [DecidableEq T] (r : T → Rect s)
  (hr : ∀ t a, (r t).stride a = 1) (hs : ∀ t, (r t).shape.Squeezes s') (hd : ∀ t t', t ≠ t' → Disjoint (r t).set (r t').set)
  (hcov : (Finset.univ : Finset T).biUnion (fun t => (r t).set) = Finset.univ)
include hd hcov

theorem cut_any : iprop(∃ X, owns (c : Thread nD τ) M fullShare X) ⊢
    (bigSep Finset.univ fun t => iprop(∃ Z, owns (c : Thread nD τ) ((M.slice (r t) (hr t)).squeeze s' (hs t)) fullShare Z) : sProp 𝕄) := by
  iintro ⟨%X, H⟩
  ihave H := (owns_rects (c : Thread nD τ) M fullShare r hr hd hcov X) $$ H
  have hany (t : T) (Y) : owns (c : Thread nD τ) ((M.slice (r t) (hr t)).squeeze s' (hs t)) fullShare Y
      ⊢ (iprop(∃ Z, owns (c : Thread nD τ) ((M.slice (r t) (hr t)).squeeze s' (hs t)) fullShare Z) : sProp 𝕄) := by
    iintro H; iexists Y; iexact H
  iapply (show (bigSep Finset.univ fun t => owns (c : Thread nD τ) (M.slice (r t) (hr t)) fullShare (fun j => X ((r t).emb j))) ⊢
    (bigSep Finset.univ fun t => iprop(∃ Z, owns (c : Thread nD τ) ((M.slice (r t) (hr t)).squeeze s' (hs t)) fullShare Z) : sProp 𝕄) from
    bigSep_mono fun t _ => ?_) $$ H
  have e : (fun j => X ((r t).emb j)) = up (hs t).numel_eq.symm (fun y => X ((r t).emb (Shape.reshapeEquiv (hs t).numel_eq y))) := by
    funext j; unfold up; dsimp only
    rw [Shape.reshapeEquiv_reshapeEquiv, Shape.reshapeEquiv_self]
  rw [e, ← owns_squeeze (c : Thread nD τ) (M.slice (r t) (hr t)) (hs t)]
  exact hany t _

theorem join_any : (bigSep Finset.univ fun t => iprop(∃ Z, owns (c : Thread nD τ) ((M.slice (r t) (hr t)).squeeze s' (hs t)) fullShare Z) : sProp 𝕄)
    ⊢ iprop(∃ X, owns (c : Thread nD τ) M fullShare X) := by
  classical
  refine BIBase.Entails.trans (BI.bigSep_exists_pi Finset.univ
    (fun t Z => owns (c : Thread nD τ) ((M.slice (r t) (hr t)).squeeze s' (hs t)) fullShare Z)) ?_
  iintro ⟨%Z, H⟩
  have hin (y : s.Idx) : ∃ tj : (Σ t : T, (r t).shape.Idx), (r tj.1).emb tj.2 = y := by
    have hy : y ∈ (Finset.univ : Finset T).biUnion (fun t => (r t).set) := by rw [hcov]; exact Finset.mem_univ y
    obtain ⟨t, -, ht⟩ := Finset.mem_biUnion.mp hy
    rw [← Rect.map_emb_univ, Finset.mem_map] at ht
    obtain ⟨j, -, hj⟩ := ht
    exact ⟨⟨t, j⟩, hj⟩
  choose w hw using hin
  have huniq (t : T) (j : (r t).shape.Idx) : w ((r t).emb j) = ⟨t, j⟩ := by
    have h := hw ((r t).emb j)
    generalize w ((r t).emb j) = tj at h
    obtain ⟨t', j'⟩ := tj
    have ht : t' = t := by
      by_contra hne
      refine Finset.disjoint_left.mp (hd t' t hne) (?_ : (r t).emb j ∈ _) ?_
      · rw [← h, ← Rect.map_emb_univ]; exact Finset.mem_map_of_mem _ (Finset.mem_univ _)
      · rw [← Rect.map_emb_univ]; exact Finset.mem_map_of_mem _ (Finset.mem_univ _)
    subst ht
    have hj : j' = j := (r t').emb.injective h
    rw [hj]
  iexists (fun y => up (hs (w y).1).numel_eq.symm (Z (w y).1) (w y).2)
  iapply (owns_of_rects (c : Thread nD τ) M fullShare r hr hd hcov _)
  iapply (show (bigSep Finset.univ fun t => owns (c : Thread nD τ) ((M.slice (r t) (hr t)).squeeze s' (hs t)) fullShare (Z t) : sProp 𝕄) ⊢ _ from
    bigSep_mono fun t _ => ?_) $$ H
  rw [owns_squeeze]
  have e : up (hs t).numel_eq.symm (Z t) = fun j => up (hs (w ((r t).emb j)).1).numel_eq.symm (Z (w ((r t).emb j)).1) (w ((r t).emb j)).2 := by
    funext j; rw [huniq]
  rw [e]
  exact BI.Entails.refl _

end Cut

/-! ## The slots of a landing or send buffer -/

theorem rectSlot_mem {l j : ℕ} (hl : l < 3) (hj : j < 8) {y : S3x8x64x512.Idx} : y ∈ (rectSlot l j).set ↔ (y 0).val = l ∧ (y 1).val = j := by
  rw [Rect.mem_set_unit]
  have h₂ : (y 2).val < 64 := (y 2).isLt
  have h₃ : (y 3).val < 512 := (y 3).isLt
  constructor
  · intro h
    have h₀ : l % 3 ≤ (y 0).val ∧ (y 0).val < l % 3 + 1 := h 0
    have h₁ : j % 8 ≤ (y 1).val ∧ (y 1).val < j % 8 + 1 := h 1
    omega
  · rintro ⟨h₀, h₁⟩ a
    fin_cases a
    · show l % 3 ≤ (y 0).val ∧ (y 0).val < l % 3 + 1; omega
    · show j % 8 ≤ (y 1).val ∧ (y 1).val < j % 8 + 1; omega
    · show 0 ≤ (y 2).val ∧ (y 2).val < 0 + 64; omega
    · show 0 ≤ (y 3).val ∧ (y 3).val < 0 + 512; omega

abbrev slotRect (i : Fin 24) : Rect S3x8x64x512 := rectSlot (i.val / 8) (i.val % 8)

theorem slots_disjoint (t t' : Fin 24) (h : t ≠ t') : Disjoint (slotRect t).set (slotRect t').set := by
  refine Finset.disjoint_left.mpr fun y h₁ h₂ => h (Fin.ext ?_)
  rw [rectSlot_mem (by omega) (by omega)] at h₁ h₂
  omega

theorem slots_cover : (Finset.univ : Finset (Fin 24)).biUnion (fun t => (slotRect t).set) = Finset.univ := by
  refine Finset.eq_univ_of_forall fun y => Finset.mem_biUnion.mpr ?_
  have h₀ : (y 0).val < 3 := (y 0).isLt
  have h₁ : (y 1).val < 8 := (y 1).isLt
  refine ⟨⟨8 * (y 0).val + (y 1).val, by omega⟩, Finset.mem_univ _, ?_⟩
  rw [rectSlot_mem (by omega) (by omega)]
  constructor
  · show (y 0).val = (8 * (y 0).val + (y 1).val) / 8; omega
  · show (y 1).val = (8 * (y 0).val + (y 1).val) % 8; omega

variable (c : Dev nD)

theorem slots_cut (M : Memref sig .tc .vmem S3x8x64x512 .bf16) :
    iprop(∃ X, owns (c : Thread nD τ) M fullShare X) ⊢ (bigSep Finset.univ fun i : Fin 24 => anySlot (F := F) c M (i.val / 8) (i.val % 8) : sProp 𝕄) :=
  cut_any c M slotRect (fun _ _ => rfl) (fun _ => squeezes_S1x1x64x512_S64x512) slots_disjoint slots_cover

theorem slots_join (M : Memref sig .tc .vmem S3x8x64x512 .bf16) :
    (bigSep Finset.univ fun i : Fin 24 => anySlot (F := F) c M (i.val / 8) (i.val % 8) : sProp 𝕄) ⊢ iprop(∃ X, owns (c : Thread nD τ) M fullShare X) :=
  join_any c M slotRect (fun _ _ => rfl) (fun _ => squeezes_S1x1x64x512_S64x512) slots_disjoint slots_cover

/-! ## The two slots of a tile buffer -/

theorem slotI_eq (k : Fin 2) : slotI k.val = slotI₂ k := congrArg slotI₂ (Fin.ext (Nat.mod_eq_of_lt k.isLt))
theorem slotO_eq (k : Fin 2) : slotO k.val = slotO₂ k := congrArg slotO₂ (Fin.ext (Nat.mod_eq_of_lt k.isLt))

abbrev tileRectI (k : Fin 2) : Rect S2x2048x512 := Rect.unit ![k.val, 0, 0] S1x2048x512.size (inbSi k)
abbrev tileRectO (k : Fin 2) : Rect S2x512x2048 := Rect.unit ![k.val, 0, 0] S1x512x2048.size (inbSo k)

theorem tileRectI_mem {k : Fin 2} {y : S2x2048x512.Idx} : y ∈ (tileRectI k).set ↔ (y 0).val = k.val := by
  rw [Rect.mem_set_unit]
  have h₁ : (y 1).val < 2048 := (y 1).isLt
  have h₂ : (y 2).val < 512 := (y 2).isLt
  constructor
  · intro h
    have h₀ : k.val ≤ (y 0).val ∧ (y 0).val < k.val + 1 := h 0
    omega
  · intro h₀ a
    fin_cases a
    · show k.val ≤ (y 0).val ∧ (y 0).val < k.val + 1; omega
    · show 0 ≤ (y 1).val ∧ (y 1).val < 0 + 2048; omega
    · show 0 ≤ (y 2).val ∧ (y 2).val < 0 + 512; omega

theorem tileRectO_mem {k : Fin 2} {y : S2x512x2048.Idx} : y ∈ (tileRectO k).set ↔ (y 0).val = k.val := by
  rw [Rect.mem_set_unit]
  have h₁ : (y 1).val < 512 := (y 1).isLt
  have h₂ : (y 2).val < 2048 := (y 2).isLt
  constructor
  · intro h
    have h₀ : k.val ≤ (y 0).val ∧ (y 0).val < k.val + 1 := h 0
    omega
  · intro h₀ a
    fin_cases a
    · show k.val ≤ (y 0).val ∧ (y 0).val < k.val + 1; omega
    · show 0 ≤ (y 1).val ∧ (y 1).val < 0 + 512; omega
    · show 0 ≤ (y 2).val ∧ (y 2).val < 0 + 2048; omega

/-- Rectangles told apart by the first coordinate. -/
theorem first_disjoint {s : Shape} {n : ℕ} {f : s.Idx → ℕ} {r : Fin n → Rect s} (h : ∀ {k y}, y ∈ (r k).set ↔ f y = k.val) (t t' : Fin n) (ht : t ≠ t') :
    Disjoint (r t).set (r t').set :=
  Finset.disjoint_left.mpr fun y h₁ h₂ => ht (Fin.ext ((h.1 h₁).symm.trans (h.1 h₂)))

theorem first_cover {s : Shape} {n : ℕ} {f : s.Idx → ℕ} {r : Fin n → Rect s} (h : ∀ {k y}, y ∈ (r k).set ↔ f y = k.val) (hf : ∀ y, f y < n) :
    (Finset.univ : Finset (Fin n)).biUnion (fun t => (r t).set) = Finset.univ :=
  Finset.eq_univ_of_forall fun y => Finset.mem_biUnion.mpr ⟨⟨f y, hf y⟩, Finset.mem_univ _, h.2 rfl⟩

theorem slotsI_cut : iprop(∃ X, owns (c : Thread nD τ) wiM fullShare X)
    ⊢ (bigSep Finset.univ fun k : Fin 2 => iprop(∃ Z, owns (c : Thread nD τ) (slotI k.val) fullShare Z) : sProp 𝕄) := by
  simp only [slotI_eq]
  exact cut_any c wiM tileRectI (fun _ _ => rfl) (fun _ => squeezes_S1x2048x512_S2048x512) (first_disjoint tileRectI_mem)
    (first_cover tileRectI_mem fun y => (y 0).isLt)
theorem slotsI_join : (bigSep Finset.univ fun k : Fin 2 => iprop(∃ Z, owns (c : Thread nD τ) (slotI k.val) fullShare Z) : sProp 𝕄)
    ⊢ iprop(∃ X, owns (c : Thread nD τ) wiM fullShare X) := by
  simp only [slotI_eq]
  exact join_any c wiM tileRectI (fun _ _ => rfl) (fun _ => squeezes_S1x2048x512_S2048x512) (first_disjoint tileRectI_mem)
    (first_cover tileRectI_mem fun y => (y 0).isLt)
theorem slotsO_cut : iprop(∃ X, owns (c : Thread nD τ) woM fullShare X)
    ⊢ (bigSep Finset.univ fun k : Fin 2 => iprop(∃ Z, owns (c : Thread nD τ) (slotO k.val) fullShare Z) : sProp 𝕄) := by
  simp only [slotO_eq]
  exact cut_any c woM tileRectO (fun _ _ => rfl) (fun _ => squeezes_S1x512x2048_S512x2048) (first_disjoint tileRectO_mem)
    (first_cover tileRectO_mem fun y => (y 0).isLt)
theorem slotsO_join : (bigSep Finset.univ fun k : Fin 2 => iprop(∃ Z, owns (c : Thread nD τ) (slotO k.val) fullShare Z) : sProp 𝕄)
    ⊢ iprop(∃ X, owns (c : Thread nD τ) woM fullShare X) := by
  simp only [slotO_eq]
  exact join_any c woM tileRectO (fun _ _ => rfl) (fun _ => squeezes_S1x512x2048_S512x2048) (first_disjoint tileRectO_mem)
    (first_cover tileRectO_mem fun y => (y 0).isLt)

/-! ## The tiles of a weight -/

variable (j : ℕ)

theorem rectWi_mem {k : Fin 8} {y : S2048x4096.Idx} : y ∈ (rectWi (k.val + 8 * j)).set ↔ (y 1).val / 512 = k.val := by
  rw [Rect.mem_set_unit]
  have hk := k.isLt
  have h₀ : (y 0).val < 2048 := (y 0).isLt
  constructor
  · intro h
    have h₁ : 512 * ((k.val + 8 * j) % 8) ≤ (y 1).val ∧ (y 1).val < 512 * ((k.val + 8 * j) % 8) + 512 := h 1
    omega
  · intro h₁ a
    fin_cases a
    · show 0 ≤ (y 0).val ∧ (y 0).val < 0 + 2048; omega
    · show 512 * ((k.val + 8 * j) % 8) ≤ (y 1).val ∧ (y 1).val < 512 * ((k.val + 8 * j) % 8) + 512; omega

theorem rectWo_mem {k : Fin 8} {y : S4096x2048.Idx} : y ∈ (rectWo (k.val + 8 * j)).set ↔ (y 0).val / 512 = k.val := by
  rw [Rect.mem_set_unit]
  have hk := k.isLt
  have h₀ : (y 1).val < 2048 := (y 1).isLt
  constructor
  · intro h
    have h₁ : 512 * ((k.val + 8 * j) % 8) ≤ (y 0).val ∧ (y 0).val < 512 * ((k.val + 8 * j) % 8) + 512 := h 0
    omega
  · intro h₁ a
    fin_cases a
    · show 512 * ((k.val + 8 * j) % 8) ≤ (y 0).val ∧ (y 0).val < 512 * ((k.val + 8 * j) % 8) + 512; omega
    · show 0 ≤ (y 1).val ∧ (y 1).val < 0 + 2048; omega

theorem wi_tiles (I : Inp F) : (bigSep Finset.univ fun i : Fin 24 => owns (c : Thread nD τ) ((wiP I c).T i.val) fullShare ((wiP I c).X i.val) : sProp 𝕄)
    = bigSep Finset.univ fun l : Fin 3 => owns (c : Thread nD τ) (wiMem l.val) fullShare (I.wi l.val c) := by
  refine (bigSep_two 3 8 fun i => owns (c : Thread nD τ) ((wiP I c).T i) fullShare ((wiP I c).X i)).trans (bigSep_congr fun l _ => ?_)
  have e (k : Fin 8) : owns (c : Thread nD τ) ((wiP I c).T (k.val + 8 * l.val)) fullShare ((wiP I c).X (k.val + 8 * l.val))
      = (owns (c : Thread nD τ) ((wiMem l.val).slice (rectWi (k.val + 8 * l.val)) (fun _ => rfl)) fullShare
          (fun y => I.wi l.val c ((rectWi (k.val + 8 * l.val)).emb y)) : sProp 𝕄) := by
    have hl : (k.val + 8 * l.val) / 8 = l.val := by have := k.isLt; omega
    show owns (c : Thread nD τ) ((wiMem ((k.val + 8 * l.val) / 8)).slice (rectWi (k.val + 8 * l.val)) (fun _ => rfl)) fullShare
      (fun y => I.wi ((k.val + 8 * l.val) / 8) c ((rectWi (k.val + 8 * l.val)).emb y)) = _
    rw [hl]
  rw [bigSep_congr fun k _ => e k]
  have hd := first_disjoint (r := fun k : Fin 8 => rectWi (k.val + 8 * l.val)) (rectWi_mem l.val)
  have hc := first_cover (r := fun k : Fin 8 => rectWi (k.val + 8 * l.val)) (rectWi_mem l.val) fun y => by have : (y 1).val < 4096 := (y 1).isLt; omega
  exact BI.equiv_iff.mp ⟨owns_of_rects (c : Thread nD τ) (wiMem l.val) fullShare _ _ hd hc _, owns_rects (c : Thread nD τ) (wiMem l.val) fullShare _ _ hd hc _⟩

theorem wo_tiles (I : Inp F) : (bigSep Finset.univ fun i : Fin 24 => owns (c : Thread nD τ) ((woP I c).T i.val) fullShare ((woP I c).X i.val) : sProp 𝕄)
    = bigSep Finset.univ fun l : Fin 3 => owns (c : Thread nD τ) (woMem l.val) fullShare (I.wo l.val c) := by
  refine (bigSep_two 3 8 fun i => owns (c : Thread nD τ) ((woP I c).T i) fullShare ((woP I c).X i)).trans (bigSep_congr fun l _ => ?_)
  have e (k : Fin 8) : owns (c : Thread nD τ) ((woP I c).T (k.val + 8 * l.val)) fullShare ((woP I c).X (k.val + 8 * l.val))
      = (owns (c : Thread nD τ) ((woMem l.val).slice (rectWo (k.val + 8 * l.val)) (fun _ => rfl)) fullShare
          (fun y => I.wo l.val c ((rectWo (k.val + 8 * l.val)).emb y)) : sProp 𝕄) := by
    have hl : (k.val + 8 * l.val) / 8 = l.val := by have := k.isLt; omega
    show owns (c : Thread nD τ) ((woMem ((k.val + 8 * l.val) / 8)).slice (rectWo (k.val + 8 * l.val)) (fun _ => rfl)) fullShare
      (fun y => I.wo ((k.val + 8 * l.val) / 8) c ((rectWo (k.val + 8 * l.val)).emb y)) = _
    rw [hl]
  rw [bigSep_congr fun k _ => e k]
  have hd := first_disjoint (r := fun k : Fin 8 => rectWo (k.val + 8 * l.val)) (rectWo_mem l.val)
  have hc := first_cover (r := fun k : Fin 8 => rectWo (k.val + 8 * l.val)) (rectWo_mem l.val) fun y => by have : (y 0).val < 4096 := (y 0).isLt; omega
  exact BI.equiv_iff.mp ⟨owns_of_rects (c : Thread nD τ) (woMem l.val) fullShare _ _ hd hc _, owns_rects (c : Thread nD τ) (woMem l.val) fullShare _ _ hd hc _⟩

/-! ## The tiles before the first copy and after the last -/

/-- No copy in flight: the tiles in their arrays, and the two slots at rest. -/
theorem tiles_still (P : Pipe F) (n : ℕ) : P.tiles c n n
    = iprop((bigSep Finset.univ fun i : Fin 24 => owns (c : Thread nD τ) (P.T i.val) fullShare (P.X i.val)) ∗ bigSep Finset.univ fun k : Fin 2 => P.rest c n k.val) := by
  unfold Pipe.tiles
  have ht (i : Fin 24) : P.tile c n n i.val = owns (c : Thread nD τ) (P.T i.val) fullShare (P.X i.val) := if_neg (by omega)
  have hs (k : Fin 2) : P.slot c n n k.val = P.rest c n k.val := if_neg (by rintro ⟨i, hi⟩; omega)
  rw [bigSep_congr fun i _ => ht i, bigSep_congr fun k _ => hs k]

theorem tiles_begin (P : Pipe F) :
    iprop((bigSep Finset.univ fun i : Fin 24 => owns (c : Thread nD τ) (P.T i.val) fullShare (P.X i.val))
      ∗ (bigSep Finset.univ fun k : Fin 2 => semVal ((c : Thread nD τ), .dma (P.q k.val)) 0)
      ∗ bigSep Finset.univ fun k : Fin 2 => iprop(∃ Z, owns (c : Thread nD τ) (P.S k.val) fullShare Z)) ⊢ P.tiles c 0 0 := by
  have h (k : Fin 2) : iprop(semVal ((c : Thread nD τ), .dma (P.q k.val)) 0 ∗ ∃ Z, owns (c : Thread nD τ) (P.S k.val) fullShare Z) ⊢ P.rest c 0 k.val := by
    unfold Pipe.rest
    iintro ⟨Hv, %Z, H⟩
    isplitl [Hv]; · iexact Hv
    iexists Z; isplitr; · ipureintro; intro h; omega
    iexact H
  rw [tiles_still, ← bigSep_sep']
  exact sep_mono_right (bigSep_mono fun k _ => h k)

theorem tiles_end (P : Pipe F) (n : ℕ) : P.tiles c n n ⊢
    iprop((bigSep Finset.univ fun i : Fin 24 => owns (c : Thread nD τ) (P.T i.val) fullShare (P.X i.val))
      ∗ (bigSep Finset.univ fun k : Fin 2 => semVal ((c : Thread nD τ), .dma (P.q k.val)) 0)
      ∗ bigSep Finset.univ fun k : Fin 2 => iprop(∃ Z, owns (c : Thread nD τ) (P.S k.val) fullShare Z)) := by
  have h (k : Fin 2) : P.rest c n k.val ⊢ iprop(semVal ((c : Thread nD τ), .dma (P.q k.val)) 0 ∗ ∃ Z, owns (c : Thread nD τ) (P.S k.val) fullShare Z) := by
    unfold Pipe.rest
    iintro ⟨Hv, %Z, -, H⟩
    isplitl [Hv]; · iexact Hv
    iexists Z; iexact H
  rw [tiles_still, ← bigSep_sep']
  exact sep_mono_right (bigSep_mono fun k _ => h k)

end Cert.KernelIdealProof
-- ==== Proof.Start.lean ====
/-
# 01_k — the entry barrier and the operations before the first product

A device signals every device, handing each the slots it is to send into, and waits for eight signals; then it stores its
activations and fetches the first weight tile.
-/
module

public import proofs.«01_k».proof.Proof.Run
public import proofs.«01_k».proof.Proof.Split

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (c : Dev nD)

/-! ## The entry barrier -/

/-- What the signal to device `d` takes: its duty, and the slots handed over. -/
def sigDuty (d : ℕ) : sProp 𝕄 := iprop(dutyTok ER (barCell (dv d)) 0 c ∗ barPay (F := F) c (dv d))

/-- The signals to the devices from `n` on still to be made. -/
def sigs (n : ℕ) : sProp 𝕄 := fam (m := 8) (fun _ => iprop(emp)) (fun _ => iprop(emp)) (sigDuty (F := F) c) n 0

theorem Ow_intro (n : ℕ) (W : Waits sig Unit) : (owes (c : Thread nD τ) (owedFrom c n) W : sProp 𝕄) ⊢ Ow c n := by
  unfold Ow; iintro H; iexists W; iexact H

theorem Ow_elim (n : ℕ) : Ow c n ⊢ (iprop(∃ W, owes (c : Thread nD τ) (owedFrom c n) W) : sProp 𝕄) := by
  unfold Ow; iintro H; iexact H

theorem signal_step {α : Type} {R : sProp 𝕄} {Q : α → sProp 𝕄} {n : ℕ} (hn : n < 8) {d : Dev nD} (hd : d = dv n) {k : PUnit → PG F α}
    (h : iprop(ctx I ∗ Ow c (n + 1) ∗ sigs c (n + 1) ∗ R) ⊢ WP c (k ⟨⟩) Q) :
    iprop(ctx I ∗ Ow c n ∗ sigs c n ∗ R) ⊢ WP c ((semSignalWord d barS 1#32 : PG F PUnit) >>= k) Q := by
  subst hd
  have ht : sigs (F := F) c n ⊢ iprop(sigDuty c n ∗ (emp -∗ sigs (F := F) c (n + 1))) := fam_issue hn (Nat.zero_le n)
  have hc := ctx_bar I (dv n)
  have hO : owedFrom c n = owedFrom c (n + 1) + tallyAt (barCell (dv n)) () 1 := by
    rw [owedFrom_step c (show n < 56 by omega)]; unfold contrib; rw [if_pos hn]
  have hm : c ∈ (sched I).duties (barCell (dv n)) 0 := by rw [duties_bar]; exact Finset.mem_univ _
  have ha : (sched I).amount (barCell (dv n)) 0 c = 1 := amount_bar I (dv n) c
  unfold cellAt at hc
  unfold sigDuty at ht
  show _ ⊢ WP c (.op (.semSignal ((dv n : Dev nD), .tc) barS 1) k) Q
  iintro ⟨#Hc, HO, Hs, HR⟩
  ihave HO := (Ow_elim c n) $$ HO
  icases HO with ⟨%W, HO⟩
  ihave Hs := ht $$ Hs
  icases Hs with ⟨⟨Htok, Hpay⟩, Hs⟩
  ihave Hpay := (Entails.of_eq (payload_bar I (dv n) c).symm) $$ Hpay
  ihave Hi := hc $$ Hc
  icases Hi with ⟨%κ, #Hi, #Hr⟩
  iapply (Rounds.wp_signal 𝒱₀ ER (sched I) (c : Thread nD τ) none (dst := (dv n : Thread nD τ)) (κ := κ) (d := c)
    (r := 0) hm ha () (owedFrom c (n + 1)) hO (W := W)) $$ [HO Htok Hpay]
  · isplitr; · iexact Hi
    isplitl [HO]; · iexact HO
    isplitl [Htok]; · iexact Htok
    isplitl [Hpay]; · iexact Hpay
    iexact Hr
  iintro HO
  iapply h
  isplitr; · iexact Hc
  isplitl [HO]; · iapply (Ow_intro c); iexact HO
  isplitl [Hs]; · iapply Hs; iempintro
  iexact HR

theorem wait_step {α : Type} {R : sProp 𝕄} {Q : α → sProp 𝕄} {k : PUnit → PG F α}
    (h : iprop(ctx I ∗ Ow c 8 ∗ semVal (barCell c) 0 ∗ (bigSep Finset.univ fun d : Dev nD => barPay (F := F) d c) ∗ R) ⊢ WP c (k ⟨⟩) Q) :
    iprop(ctx I ∗ Ow c 8 ∗ sigs c 8 ∗ (cred (tallyAt (barCell c) () 8) ∗ atPos ER (barCell c) 0 ∅ 0) ∗ R)
      ⊢ WP c ((semWaitWord barS 8#32 : PG F PUnit) >>= k) Q := by
  have hc := ctx_bar I c
  have hmw := mayWait_bar (F := F) c
  have he : 0 + 8 = (sched I).expect (barCell c) 0 := by rw [expect_bar]
  unfold cellAt at hc
  show _ ⊢ WP c (.op (.semWait barS 8) k) Q
  iintro ⟨#Hc, HO, -, ⟨Hcr, Hat⟩, HR⟩
  ihave HO := (Ow_elim c 8) $$ HO
  icases HO with ⟨%W, HO⟩
  ihave Hi := hc $$ Hc
  icases Hi with ⟨%κ, #Hi, -⟩
  ihave Hm := hmw $$ []
  · iapply (ctx_lev I); iexact Hc
  iapply (Rounds.wp_wait_rest_token 𝒱₀ ER (sched I) (c : Thread nD τ) none (κ := κ) (wpE_semWait_eq 𝒱₀ (c : Thread nD τ) none Set.univ) (Set.mem_univ _) ()
    (O := owedFrom c 8) (W := W) (R := 0) (m := 0) (T := ∅) he) $$ [Hcr HO Hm Hat]
  · isplitr; · iexact Hi
    isplitl [Hcr]; · iexact Hcr
    isplitl [HO]; · iexact HO
    isplitl [Hm] <;> iassumption
  iintro ⟨HO, Hat, -, Hp⟩
  ihave Hp := (Entails.of_eq (rest_bar I c)) $$ Hp
  iapply fupd_wp
  imod (Rounds.cell_close ER (sched I) (Set.mem_univ κ) (fun h => h) (R := 0 + 1) (duties_later I (barCell c))) $$ [Hat] with Hv
  · isplitr; · iexact Hi
    iexact Hat
  imodintro
  iapply h
  isplitr; · iexact Hc
  isplitl [HO]; · iapply (Ow_intro c); iexact HO
  isplitl [Hv]; · iexact Hv
  isplitl [Hp] <;> iassumption

/-! ## What a device holds of its sends and receives at the start -/

def sendSeed (p i : ℕ) : sProp 𝕄 :=
  iprop(atPos ER (sCell c p i) 0 ∅ 0 ∗ dutyTok ER (sCell c p i) 0 0 ∗ dutyTok ER (dCell (dv (i % 8)) (recvS p (i / 8) c.val)) 0 0
    ∗ back (F := F) c p (i / 8) (i % 8))

/-- The credit for the block to be received: none from itself. -/
def recvCred (p i : ℕ) : sProp 𝕄 := if c.val = i % 8 then iprop(emp) else cred (tallyAt (rCell c p i) () N)

def seeds (p : ℕ) : sProp 𝕄 :=
  iprop((bigSep Finset.univ fun i : Fin 24 => sendSeed (F := F) c p i.val)
    ∗ (bigSep Finset.univ fun i : Fin 24 => iprop(atPos ER (rCell c p i.val) 0 ∅ 0 ∗ recvCred (F := F) c p i.val)))

theorem seed_index (p i : ℕ) :
    iprop(sendSeed (F := F) c p i ∗ (atPos ER (rCell c p i) 0 ∅ 0 ∗ recvCred c p i) ∗ anySlot (dv (i % 8)) (landM p) (i / 8) c.val) ⊢ iprop(sendC c p i ∗ recvB c p i) := by
  unfold sendSeed recvCred sendC recvB
  by_cases h : c.val = i % 8
  · have e : dv (i % 8) = c := Fin.ext (by rw [← h]; exact Nat.mod_eq_of_lt c.isLt)
    rw [if_pos h, if_pos h, if_pos h, e, h]
    iintro ⟨⟨Ha, -, -, Hb⟩, ⟨Hr, -⟩, Hs⟩
    isplitl [Ha Hb]; · isplitl [Ha] <;> iassumption
    isplitl [Hr] <;> iassumption
  · rw [if_neg h, if_neg h, if_neg h]
    iintro ⟨⟨Ha, Ht, Hu, Hb⟩, ⟨Hr, Hc⟩, Hs⟩
    isplitr [Hr Hc]
    · isplitl [Ha]; · iexact Ha
      isplitl [Ht]; · iexact Ht
      isplitl [Hu]; · iexact Hu
      isplitl [Hs] <;> iassumption
    isplitl [Hr] <;> iassumption

theorem seeds_open (p : ℕ) :
    iprop(seeds (F := F) c p ∗ (bigSep Finset.univ fun i : Fin 24 => anySlot (dv (i.val % 8)) (landM p) (i.val / 8) c.val))
      ⊢ iprop(sends c p 0 0 ∗ recvs I c p 0) := by
  have h : (bigSep Finset.univ fun i : Fin 24 => iprop(sendSeed (F := F) c p i.val ∗ (atPos ER (rCell c p i.val) 0 ∅ 0 ∗ recvCred c p i.val)
        ∗ anySlot (dv (i.val % 8)) (landM p) (i.val / 8) c.val))
      ⊢ bigSep Finset.univ fun i : Fin 24 => iprop(sendC (F := F) c p i.val ∗ recvB c p i.val) := bigSep_mono fun i _ => seed_index c p i.val
  simp only [bigSep_sep'] at h
  have hs : sends (F := F) c p 0 0 = bigSep Finset.univ fun i : Fin 24 => sendC (F := F) c p i.val := by
    unfold sends fam; refine bigSep_congr fun i _ => ?_; rw [if_neg (Nat.not_lt_zero _), if_neg (Nat.not_lt_zero _)]
  have hr : recvs I c p 0 = bigSep Finset.univ fun i : Fin 24 => recvB (F := F) c p i.val := by
    unfold recvs fam; refine bigSep_congr fun i _ => ?_; rw [if_neg (Nat.not_lt_zero _), if_pos i.isLt]
  rw [hs, hr]
  refine .trans ?_ h
  unfold seeds
  rw [bigSep_sep']
  iintro ⟨⟨H1, H2⟩, H3⟩
  isplitl [H1]; · iexact H1
  isplitl [H2] <;> iassumption

theorem pays_split : (bigSep Finset.univ fun d : Dev nD => barPay (F := F) d c)
    = iprop((bigSep Finset.univ fun i : Fin 24 => anySlot (F := F) (dv (i.val % 8)) (landM 0) (i.val / 8) c.val)
      ∗ bigSep Finset.univ fun i : Fin 24 => anySlot (dv (i.val % 8)) (landM 1) (i.val / 8) c.val) := by
  rw [← bigSep_pays fun p l d => anySlot (F := F) (dv d) (landM p) l c.val]
  refine bigSep_congr fun d _ => ?_
  have e : dv d.val = d := Fin.ext (Nat.mod_eq_of_lt d.isLt)
  unfold barPay; rw [e]

/-! ## The start of the body -/

/-- What the operations before the first product leave for later. -/
def keep : sProp 𝕄 :=
  iprop(seeds (F := F) c 0 ∗ seeds (F := F) c 1 ∗ (wiP I c).tiles c 0 0 ∗ (woP I c).tiles c 0 0
    ∗ owns (c : Thread nD τ) aM fullShare (I.x c) ∗ holds c xM (fun _ => True) ∗ holds c accM (fun _ => True) ∗ holds c prodM (fun _ => True)
    ∗ holds c oM (fun _ => True) ∗ hFree c)

/-- What a device owns when its body starts. -/
def start : sProp 𝕄 :=
  iprop(ctx I ∗ Ow c 0 ∗ sigs c 0 ∗ (cred (tallyAt (barCell c) () 8) ∗ atPos ER (barCell c) 0 ∅ 0) ∗ keep I c)

/-- After the barrier: nothing sent, nothing fetched. -/
def pt₀ (p : Vec F S64x2048 .bf16 → Prop) : Pt F := { ptR I c 0 0 0 0 0 0 with x := p }

theorem state₀ : iprop((bigSep Finset.univ fun d : Dev nD => barPay (F := F) d c) ∗ ctx I ∗ Ow c 8 ∗ keep I c) ⊢ St I c (pt₀ I c fun _ => True) := by
  have h0 := seeds_open I c 0
  have h1 := seeds_open I c 1
  rw [pays_split]
  unfold keep
  show _ ⊢ iprop(ctx I ∗ Ow c 8 ∗ sends c 0 0 0 ∗ sends c 1 0 0 ∗ recvs I c 0 0 ∗ recvs I c 1 0
    ∗ (wiP I c).tiles c 0 0 ∗ (woP I c).tiles c 0 0 ∗ owns (c : Thread nD τ) aM fullShare (I.x c)
    ∗ holds c xM (fun _ => True) ∗ holds c accM (fun A => c.val < 0 → A = ownChunk I (xV I 0) 0 c) ∗ holds c prodM (fun _ => True) ∗ holds c oM (fun _ => True) ∗ hFree c)
  have ha : holds c accM (fun _ => True) ⊢ holds c accM (fun A => c.val < 0 → A = ownChunk I (xV I 0) 0 c) := by
    unfold holds; iintro ⟨%X, -, H⟩
    iexists X; isplitr; · ipureintro; intro h; exact absurd h (Nat.not_lt_zero _)
    iexact H
  iintro ⟨⟨Hp0, Hp1⟩, #Hc, HO, Hs0, Hs1, Hwi, Hwo, Ha, Hx, Hacc, Hprod, Ho, Hh⟩
  ihave H0 := h0 $$ [Hs0 Hp0]; · isplitl [Hs0] <;> iassumption
  icases H0 with ⟨H0, Hr0⟩
  ihave H1 := h1 $$ [Hs1 Hp1]; · isplitl [Hs1] <;> iassumption
  icases H1 with ⟨H1, Hr1⟩
  ihave Hacc := ha $$ Hacc
  isplitr; · iexact Hc
  isplitl [HO]; · iexact HO
  isplitl [H0]; · iexact H0
  isplitl [H1]; · iexact H1
  isplitl [Hr0]; · iexact Hr0
  isplitl [Hr1]; · iexact Hr1
  isplitl [Hwi]; · iexact Hwi
  isplitl [Hwo]; · iexact Hwo
  isplitl [Ha]; · iexact Ha
  isplitl [Hx]; · iexact Hx
  isplitl [Hacc]; · iexact Hacc
  isplitl [Hprod]; · iexact Hprod
  isplitl [Ho] <;> iassumption

theorem lens_a {P : Pt F} : St I c P ⊢ iprop(owns (c : Thread nD τ) aM fullShare (I.x c) ∗ (owns (c : Thread nD τ) aM fullShare (I.x c) -∗ St I c P)) :=
  pick_skip (pick_skip (pick_skip (pick_skip (pick_skip (pick_skip (pick_skip (pick_skip pick_last)))))))

/-- A load of the activations passed in. -/
theorem load_a {α : Type} {Q : α → sProp 𝕄} {P : Pt F} {off : Fin 2 → ℕ} {inb : ∀ a, off a + S64x2048.size a ≤ S64x2048.size a}
    {hl : (aM.view).LoadsAt (Rect.unit (s := S64x2048) off S64x2048.size inb).toLoadRect} {k : (S64x2048.Idx → Elt F .f32) → PG F α} (hk : St I c P ⊢ WP c (k (I.x c)) Q) :
    St I c P ⊢ WP c ((Prog.lift (.load aM (Rect.unit off S64x2048.size inb).toLoadRect hl) : PG F _) >>= k) Q := by
  refine (lens_a I c).trans ?_
  show _ ⊢ WP c (.op _ k) Q
  iintro ⟨H, Hb⟩
  iapply (load_all c) $$ H
  iintro H
  iapply hk; iapply Hb; iexact H

theorem dev_step {α : Type} {A : sProp 𝕄} {Q : α → sProp 𝕄} {k : Dev nD → PG F α} (h : A ⊢ WP c (k c) Q) :
    A ⊢ WP c ((Prog.lift .deviceId : PG F (Dev nD)) >>= k) Q := by
  show _ ⊢ wp _ _ _ (Prog.op .deviceId k) _
  rw [wp_deviceId]; exact h

set_option maxRecDepth 65536 in
/-- The operations up to the first weight tile's fetch: the barrier's counter is left at zero. -/
theorem first {α : Type} {k : (Σ' (_ : Dev nD), BitVec 32) → PG F α} {Q : α → sProp 𝕄} (hk : Go I c (.ra 0 0) (k ⟨c, v2w c⟩) Q) :
    start I c ⊢ WP c (k0_part1 (F := F) aM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) xM (Memref.isWhole_whole _) wiM (Memref.isWhole_whole _) woM (Memref.isWhole_whole _) accM (Memref.isWhole_whole _) prodM (Memref.isWhole_whole _) hM (Memref.isWhole_whole _) rsM (Memref.isWhole_whole _) agM (Memref.isWhole_whole _) sbM (Memref.isWhole_whole _) cc0_scratch9 cc0_scratch10 cc0_scratch11 cc0_scratch12 cc0_scratch13 cc0_scratch14 >>= k) (fun v => iprop(semVal (barCell c) 0 ∗ Q v)) := by
  have bind {β : Type} {A R : sProp 𝕄} {p : PG F β} {k : β → PG F α} (h : A ⊢ WP c p fun v => iprop(R ∗ WP c (k v) Q)) :
      A ⊢ WP c (p >>= k) (fun v => iprop(R ∗ Q v)) := by
    unfold WP at *; rw [wp_bind]; exact h.trans (wp_mono _ _ _ fun v => wp_frame_l _ _ _)
  refine bind ?_
  rw [k0_part1_eq_skeleton]; unfold k0_part1_skel start
  refine dev_step c ?_
  refine signal_step I c (n := 0) (by decide) rfl ?_
  refine signal_step I c (n := 1) (by decide) rfl ?_
  refine signal_step I c (n := 2) (by decide) rfl ?_
  refine signal_step I c (n := 3) (by decide) rfl ?_
  refine signal_step I c (n := 4) (by decide) rfl ?_
  refine signal_step I c (n := 5) (by decide) rfl ?_
  refine signal_step I c (n := 6) (by decide) rfl ?_
  refine signal_step I c (n := 7) (by decide) rfl ?_
  refine wait_step I c ?_
  refine BIBase.Entails.trans (Q := iprop(semVal (barCell c) 0 ∗ St I c (pt₀ I c fun _ => True))) ?_ ?_
  · have h := state₀ I c
    iintro ⟨Hc, HO, Hv, Hp, HR⟩
    isplitl [Hv]; · iexact Hv
    iapply h
    isplitl [Hp]; · iexact Hp
    isplitl [Hc]; · iexact Hc
    isplitl [HO] <;> iassumption
  refine BIBase.Entails.trans (sep_mono_right ?_) (wp_frame_l _ _ _)
  refine load_a I c ?_
  refine load_holds c (lens_x I c (p := fun _ => True) rfl) (fun X _ => ?_)
  refine store_holds c (lens_x I c (P := pt₀ I c fun _ => True) (P' := pt₀ I c fun X => X = xV I 0 c) rfl) rfl ?_
  exact fetch_wi I c (P := pt₀ I c fun X => X = xV I 0 c) (P' := pt I c (.ra 0 0)) (i := 0) rfl rfl (by decide) (Nat.le_refl _) (Nat.zero_le _) rfl rfl rfl (part_end hk)

end Cert.KernelIdealProof
-- ==== Proof.End.lean ====
/-
# 01_k — the end of the body

Every cell closed and its counter back at zero; every buffer whole again.
-/
module

public import proofs.«01_k».proof.Proof.Split

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (c : Dev nD)

/-! ## What a device holds between bodies -/

/-- The counters of its DMA semaphores, at zero; -/
def counters : sProp 𝕄 :=
  iprop((bigSep Finset.univ fun k : Fin 2 => semVal (dCell c (dsem (2 + k.val % 2))) 0)
    ∗ (bigSep Finset.univ fun k : Fin 2 => semVal (dCell c (dsem (4 + k.val % 2))) 0)
    ∗ bigSep Finset.univ fun i : Fin 96 => semVal (dCell c (dsem (6 + i.val))) 0)

/-- the weights; -/
def weights : sProp 𝕄 :=
  iprop((bigSep Finset.univ fun l : Fin 3 => owns (c : Thread nD τ) (wiMem l.val) fullShare (I.wi l.val c))
    ∗ bigSep Finset.univ fun l : Fin 3 => owns (c : Thread nD τ) (woMem l.val) fullShare (I.wo l.val c))

/-- a buffer, at any contents; -/
def free {s : Shape} {e : EltTy} (m : Memref sig .tc .vmem s e) : sProp 𝕄 := iprop(∃ X : Vec F s e, owns (c : Thread nD τ) m fullShare X)

/-- its scratch buffers. -/
def scratch : sProp 𝕄 :=
  iprop(free (F := F) c xM ∗ free (F := F) c wiM ∗ free (F := F) c woM ∗ free (F := F) c accM ∗ free (F := F) c prodM ∗ free (F := F) c hM ∗ free (F := F) c rsM ∗ free (F := F) c agM ∗ free (F := F) c sbM)

theorem holds_free {s : Shape} {e : EltTy} {m : Memref sig .tc .vmem s e} {P : Vec F s e → Prop} : holds c m P ⊢ free c m := by
  unfold holds free; iintro ⟨%X, -, H⟩; iexists X; iexact H

theorem free_holds {s : Shape} {e : EltTy} {m : Memref sig .tc .vmem s e} : free (F := F) c m ⊢ holds c m (fun _ => True) := by
  unfold holds free; iintro ⟨%X, H⟩; iexists X; isplitr; · ipureintro; trivial
  iexact H

/-! ## Closing the cells -/

theorem close_dma {n R : ℕ} (h₁ : 6 ≤ n) (h₂ : n < 102) (hR : ∀ r, R ≤ r → (sched I).duties (dCell c (dsem n)) r = ∅) :
    iprop(ctx I ∗ atPos ER (dCell c (dsem n)) R ∅ 0) ⊢ iprop(|={Set.univ}=> semVal (dCell c (dsem n)) 0) := by
  have hc := ctx_dma I c h₁ h₂
  unfold cellAt at hc
  iintro ⟨Hc, Hat⟩
  ihave Hi := hc $$ Hc
  icases Hi with ⟨%κ, #Hi, -⟩
  iapply (Rounds.cell_close ER (sched I) (Set.mem_univ κ) (fun h => h) (R := R) hR)
  isplitr; · iexact Hi
  iexact Hat

/-- No duty on a cell for the device's own block. -/
theorem duties_own {n : ℕ} (h₂ : n < 102) (h : (n - 6) % 8 = c.val) (r : ℕ) (_ : 0 ≤ r) : (sched I).duties (dCell c (dsem n)) r = ∅ := by
  rcases Nat.eq_zero_or_pos r with rfl | hr
  · rw [duties_dma, if_neg]; rw [dsem_val h₂]; exact fun h' => h'.2 h
  · exact duties_later I _ r hr

theorem close_send {p i : ℕ} (hp : p < 2) (hi : i < 24) :
    iprop(ctx I ∗ sendA c p i) ⊢ iprop(|={Set.univ}=> (semVal (sCell c p i) 0 ∗ back (F := F) c p (i / 8) (i % 8))) := by
  unfold sendA
  split
  · rename_i h
    have hcl := close_dma I c (n := 6 + 48 * p + 8 * (i / 8) + i % 8) (R := 0) (by omega) (by omega) (duties_own I c (by omega) (by omega))
    iintro ⟨Hc, Ha, Hb⟩
    imod hcl $$ [Hc Ha] with Hv; · isplitl [Hc] <;> iassumption
    imodintro; isplitl [Hv] <;> iassumption
  · have hcl := close_dma I c (n := 6 + 48 * p + 8 * (i / 8) + i % 8) (R := 1) (by omega) (by omega) (duties_later I _)
    iintro ⟨Hc, Ha, Hb⟩
    imod hcl $$ [Hc Ha] with Hv; · isplitl [Hc] <;> iassumption
    imodintro; isplitl [Hv] <;> iassumption

theorem close_recv {p i : ℕ} (hp : p < 2) (hi : i < 24) :
    iprop(ctx I ∗ recvA I c p i) ⊢ iprop(|={Set.univ}=> (semVal (rCell c p i) 0 ∗ anySlot (F := F) c (landM p) (i / 8) (i % 8))) := by
  unfold recvA
  split
  · rename_i h
    have hcl := close_dma I c (n := 30 + 48 * p + 8 * (i / 8) + i % 8) (R := 0) (by omega) (by omega) (duties_own I c (by omega) (by omega))
    iintro ⟨Hc, Ha, Hb⟩
    imod hcl $$ [Hc Ha] with Hv; · isplitl [Hc] <;> iassumption
    imodintro; isplitl [Hv] <;> iassumption
  · have hcl := close_dma I c (n := 30 + 48 * p + 8 * (i / 8) + i % 8) (R := 1) (by omega) (by omega) (duties_later I _)
    unfold landPay anySlot
    iintro ⟨Hc, Ha, Hb⟩
    imod hcl $$ [Hc Ha] with Hv; · isplitl [Hc] <;> iassumption
    imodintro; isplitl [Hv]; · iexact Hv
    iexists _; iexact Hb

theorem close_all {A B C : ℕ → sProp 𝕄} {V : ℕ → GSem nD τ sig} {D : ℕ → sProp 𝕄} {n : ℕ}
    (h : ∀ i, i < 24 → iprop(ctx I ∗ A i) ⊢ iprop(|={Set.univ}=> (semVal (V i) 0 ∗ D i))) :
    iprop(ctx I ∗ fam (m := 24) A B C n 24)
      ⊢ iprop(|={Set.univ}=> ((bigSep Finset.univ fun i : Fin 24 => semVal (V i.val) 0) ∗ bigSep Finset.univ fun i : Fin 24 => D i.val)) := by
  have hf : fam (m := 24) A B C n 24 = bigSep Finset.univ fun i : Fin 24 => A i.val := by
    unfold fam; refine bigSep_congr fun i _ => ?_; rw [if_pos i.isLt]
  rw [hf, ← bigSep_sep']
  exact (bigSep_with_persistent fun i _ => h i.val i.isLt).trans (bigSep_fupd _ _)

/-- The 96 cells, phase by phase. -/
theorem cells_96 (Φ : DmaSem sig → sProp 𝕄) : (bigSep Finset.univ fun i : Fin 96 => Φ (dsem (6 + i.val)))
    = iprop((bigSep Finset.univ fun i : Fin 24 => Φ (sendS 0 (i.val / 8) (i.val % 8))) ∗ (bigSep Finset.univ fun i : Fin 24 => Φ (recvS 0 (i.val / 8) (i.val % 8)))
      ∗ (bigSep Finset.univ fun i : Fin 24 => Φ (sendS 1 (i.val / 8) (i.val % 8))) ∗ bigSep Finset.univ fun i : Fin 24 => Φ (recvS 1 (i.val / 8) (i.val % 8))) := by
  have e (a : ℕ) (b : ℕ) (h : ∀ i : ℕ, a + 8 * (i / 8) + i % 8 = 6 + (i + b)) : (bigSep Finset.univ fun i : Fin 24 => Φ (dsem (6 + (i.val + b))))
      = bigSep Finset.univ fun i : Fin 24 => Φ (dsem (a + 8 * (i.val / 8) + i.val % 8)) :=
    bigSep_congr fun i _ => by rw [h]
  rw [bigSep_96 fun n => Φ (dsem (6 + n))]
  exact congrArg₂ _ (e (6 + 48 * 0) 0 fun i => by omega) (congrArg₂ _ (e (30 + 48 * 0) 24 fun i => by omega)
    (congrArg₂ _ (e (6 + 48 * 1) 48 fun i => by omega) (e (30 + 48 * 1) 72 fun i => by omega)))

/-! ## The end -/

/-- What a device owns when its body ends. -/
def finish : sProp 𝕄 :=
  iprop((∃ W, owes (c : Thread nD τ) 0 W) ∗ weights I c ∗ counters c ∗ semVal (barCell c) 0 ∗ owns (c : Thread nD τ) aM fullShare (I.x c)
    ∗ owns (c : Thread nD τ) oM fullShare (outV I c) ∗ scratch (F := F) c)

theorem state_end : iprop(semVal (barCell c) 0 ∗ S I c (.wt 2 8)) ⊢ iprop(|={Set.univ}=> finish I c) := by
  have hs0 := close_all I (B := sendB c 0) (C := sendC c 0) (n := 24) fun i => close_send I c (p := 0) (i := i) (by decide)
  have hs1 := close_all I (B := sendB c 1) (C := sendC c 1) (n := 24) fun i => close_send I c (p := 1) (i := i) (by decide)
  have hr0 := close_all I (B := recvB c 0) (C := fun _ => iprop(emp)) (n := 24) fun i => close_recv I c (p := 0) (i := i) (by decide)
  have hr1 := close_all I (B := recvB c 1) (C := fun _ => iprop(emp)) (n := 24) fun i => close_recv I c (p := 1) (i := i) (by decide)
  have hj0 := slots_join (F := F) c rsM
  have hj1 := slots_join (F := F) c agM
  have hj2 := slots_join (F := F) c sbM
  have hwi := tiles_end c (wiP I c) 24
  have hwo := tiles_end c (woP I c) 24
  rw [wi_tiles c I] at hwi
  rw [wo_tiles c I] at hwo
  have hji := slotsI_join (F := F) c
  have hjo := slotsO_join (F := F) c
  have hh := hShare_close I c 2 8
  unfold hFree at hh
  have ho : Ow c 56 ⊢ (iprop(∃ W, owes (c : Thread nD τ) 0 W) : sProp 𝕄) := by unfold Ow; rw [owedFrom_end]
  have hout : holds c oM (fun A => (2 : ℕ) = 2 → A = outV I c) ⊢ owns (c : Thread nD τ) oM fullShare (outV I c) := by
    unfold holds; iintro ⟨%X, %hX, H⟩; rw [hX rfl]; iexact H
  have hx := holds_free c (m := xM) (P := fun X : Vec F S64x2048 .bf16 => 2 < 2 → X = xV I (2 + 1) c)
  have hacc := holds_free c (m := accM) (P := fun _ : Vec F S64x512 .f32 => True)
  have hprod := holds_free c (m := prodM) (P := fun _ : Vec F S64x2048 .f32 => True)
  unfold free at hx hacc hprod
  show iprop(semVal (barCell c) 0 ∗ ctx I ∗ Ow c 56 ∗ sends c 0 24 24 ∗ sends c 1 24 24 ∗ recvs I c 0 24 ∗ recvs I c 1 24
    ∗ (wiP I c).tiles c 24 24 ∗ (woP I c).tiles c 24 24 ∗ owns (c : Thread nD τ) aM fullShare (I.x c)
    ∗ holds c xM (fun X => 2 < 2 → X = xV I (2 + 1) c) ∗ holds c accM (fun _ => True) ∗ holds c prodM (fun _ => True)
    ∗ holds c oM (fun A => (2 : ℕ) = 2 → A = outV I c) ∗ hShare I c 2 8 8) ⊢ _
  unfold sends recvs finish counters weights scratch free
  rw [cells_96 fun q => (semVal (dCell c q) 0 : sProp 𝕄)]
  iintro ⟨Hbar, #Hc, HO, Hs0, Hs1, Hr0, Hr1, Hwi, Hwo, Ha, Hx, Hacc, Hprod, Hout, Hh⟩
  imod hs0 $$ [Hs0] with ⟨Hs0, Hb⟩; · isplitr; · iexact Hc
                                      iexact Hs0
  imod hs1 $$ [Hs1] with ⟨Hs1, -⟩; · isplitr; · iexact Hc
                                     iexact Hs1
  imod hr0 $$ [Hr0] with ⟨Hr0, Hl0⟩; · isplitr; · iexact Hc
                                       iexact Hr0
  imod hr1 $$ [Hr1] with ⟨Hr1, Hl1⟩; · isplitr; · iexact Hc
                                       iexact Hr1
  imodintro
  ihave Hwi := hwi $$ Hwi
  icases Hwi with ⟨Hwi, Hvi, Hti⟩
  ihave Hwo := hwo $$ Hwo
  icases Hwo with ⟨Hwo, Hvo, Hto⟩
  isplitl [HO]; · iapply ho; iexact HO
  isplitl [Hwi Hwo]; · isplitl [Hwi] <;> iassumption
  isplitl [Hvi Hvo Hs0 Hs1 Hr0 Hr1]
  · isplitl [Hvi]; · iexact Hvi
    isplitl [Hvo]; · iexact Hvo
    isplitl [Hs0]; · iexact Hs0
    isplitl [Hr0]; · iexact Hr0
    isplitl [Hs1] <;> iassumption
  isplitl [Hbar]; · iexact Hbar
  isplitl [Ha]; · iexact Ha
  isplitl [Hout]; · iapply hout; iexact Hout
  isplitl [Hx]; · iapply hx; iexact Hx
  isplitl [Hti]; · iapply hji; iexact Hti
  isplitl [Hto]; · iapply hjo; iexact Hto
  isplitl [Hacc]; · iapply hacc; iexact Hacc
  isplitl [Hprod]; · iapply hprod; iexact Hprod
  isplitl [Hh]; · iapply hh; iexact Hh
  isplitl [Hl0]; · iapply hj0; iexact Hl0
  isplitl [Hl1]; · iapply hj1; iexact Hl1
  iapply hj2; iexact Hb

end Cert.KernelIdealProof
-- ==== Proof.Credit.lean ====
/-
# 01_k — the credit each cell is launched with

Eight signals on every barrier cell, and a block on every receive cell but those for a device's own.
-/
module

public import proofs.«01_k».proof.Proof.Start
public import proofs.«01_k».proof.Proof.End

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the devices owe a cell -/

theorem dv_eq {c : Dev nD} {i : ℕ} (hi : i < 8) : c = dv i ↔ i = c.val :=
  ⟨fun h => by rw [h]; exact (Nat.mod_eq_of_lt hi).symm, fun h => Fin.ext (by rw [h]; exact (Nat.mod_eq_of_lt c.isLt).symm)⟩

theorem contrib_lo (d : Dev nD) {i : ℕ} (h : i < 8) : contrib d i = tallyAt (barCell (dv i)) () 1 := if_pos h
theorem contrib_own (d : Dev nD) {i : ℕ} (h : ¬ i < 8) (hd : (i - 8) % 8 = d.val) : contrib d i = 0 := (if_neg h).trans (if_pos hd)
theorem contrib_hi (d : Dev nD) {i : ℕ} (h : ¬ i < 8) (hd : ¬ (i - 8) % 8 = d.val) :
    contrib d i = tallyAt (dCell (dv (i - 8)) (recvS ((i - 8) / 8 % 2) ((i - 8) / 16) d.val)) () N := (if_neg h).trans (if_neg hd)

theorem bar_ne_dma (c d : Dev nD) (q : DmaSem sig) : barCell c ≠ dCell d q := fun h => by
  have h' : (SemLoc.reg barS : SemLoc sig) = .dma q := congrArg Prod.snd h
  cases h'

theorem contrib_bar (d c : Dev nD) (i : ℕ) : contrib d i (barCell c) () = if i = c.val then 1 else 0 := by
  have hc : c.val < 8 := c.isLt
  by_cases h : i < 8
  · rw [contrib_lo d h, tallyAt_apply]
    refine if_congr ⟨fun h' => (dv_eq h).mp (Fin.ext (congrArg (fun g : GSem nD τ sig => g.1.1.val) h'.1)), fun h' => ⟨?_, rfl⟩⟩ rfl rfl
    rw [← (dv_eq h).mpr h']
  · rw [if_neg (show ¬ i = c.val by omega)]
    by_cases hd : (i - 8) % 8 = d.val
    · rw [contrib_own d h hd]; rfl
    · rw [contrib_hi d h hd, tallyAt_ne_cell (bar_ne_dma _ _ _)]; rfl

theorem contrib_recv (d c : Dev nD) {p l j : ℕ} (hp : p < 2) (hl : l < 3) (hj : j < 8) (hc : c.val ≠ j) (i : ℕ) (hi : i < 56) :
    contrib d i (dCell c (recvS p l j)) () = if i = 8 + 16 * l + 8 * p + c.val then (if d.val = j then N else 0) else 0 := by
  have hc8 : c.val < 8 := c.isLt
  have hd8 : d.val < 8 := d.isLt
  rw [← ite_and]
  by_cases h : i < 8
  · rw [contrib_lo d h, tallyAt_ne_cell (bar_ne_dma _ _ _).symm, if_neg (show ¬ (i = 8 + 16 * l + 8 * p + c.val ∧ d.val = j) by omega)]; rfl
  by_cases hd : (i - 8) % 8 = d.val
  · rw [contrib_own d h hd, if_neg (show ¬ (i = 8 + 16 * l + 8 * p + c.val ∧ d.val = j) by omega)]; rfl
  rw [contrib_hi d h hd, tallyAt_apply]
  refine if_congr ⟨fun h => ?_, fun h => ⟨?_, rfl⟩⟩ rfl rfl
  · have h1 : c.val = (i - 8) % 8 := congrArg (fun g : GSem nD τ sig => g.1.1.val) h.1
    have h2 : (SemLoc.dma (recvS p l j) : SemLoc sig) = SemLoc.dma (recvS ((i - 8) / 8 % 2) ((i - 8) / 16) d.val) := congrArg Prod.snd h.1
    have h3 := congrArg Fin.val (SemLoc.dma.inj h2)
    rw [recvS_val hp hl hj, recvS_val (by omega) (by omega) hd8] at h3
    have h4 : (i - 8) / 16 = (i - 8) / 8 / 2 := by omega
    have h5 : (i - 8) / 8 < 6 := by omega
    have h6 : i = 8 + 8 * ((i - 8) / 8) + c.val := by omega
    rw [h4] at h3
    generalize (i - 8) / 8 = k at h3 h5 h6
    have h7 : j = d.val := by omega
    have h8 : l = k / 2 := by omega
    omega
  · have e1 : c = dv (i - 8) := Fin.ext (show c.val = (i - 8) % 8 by omega)
    have e2 : (i - 8) / 8 % 2 = p := by omega
    have e3 : (i - 8) / 16 = l := by omega
    rw [← e1, e2, e3, h.2]

theorem owed_at (d : Dev nD) (g : GSem nD τ sig) {a v : ℕ} (ha : a < 56) (h : ∀ i, i < 56 → contrib d i g () = if i = a then v else 0) :
    owedFrom d 0 g () = v := by
  unfold owedFrom
  rw [Finset.sum_apply, Finsupp.finset_sum_apply, Finset.sum_congr rfl fun i hi => h i (Finset.mem_Ico.mp hi).2, Finset.sum_ite_eq',
    if_pos (Finset.mem_Ico.mpr ⟨Nat.zero_le _, ha⟩)]

theorem launch_bar (c : Dev nD) : tallyOn (barCell c) (launchCredit (Pipeline.owing fun d => owedFrom d 0) 0 (barCell c)) = (tallyAt (barCell c) () 8 : CellTallies nD τ sig Unit) := by
  have hc : c.val < 8 := c.isLt
  unfold tallyAt; refine congrArg _ (Finsupp.ext fun u => ?_); cases u
  rw [Pipeline.launchCredit_owing, Finsupp.single_eq_same, Finset.sum_congr rfl fun d _ => owed_at d (barCell c) (a := c.val) (by omega) fun i _ => contrib_bar d c i,
    Finset.sum_const, Finset.card_univ, Fintype.card_fin, smul_eq_mul]; rfl

theorem launch_recv (c : Dev nD) {p l j : ℕ} (hp : p < 2) (hl : l < 3) (hj : j < 8) (hc : c.val ≠ j) :
    tallyOn (dCell c (recvS p l j)) (launchCredit (Pipeline.owing fun d => owedFrom d 0) 0 (dCell c (recvS p l j))) = (tallyAt (dCell c (recvS p l j)) () N : CellTallies nD τ sig Unit) := by
  have hc8 : c.val < 8 := c.isLt
  unfold tallyAt; refine congrArg _ (Finsupp.ext fun u => ?_); cases u
  rw [Pipeline.launchCredit_owing, Finsupp.single_eq_same,
    Finset.sum_congr rfl fun d _ => owed_at d (dCell c (recvS p l j)) (a := 8 + 16 * l + 8 * p + c.val) (by omega) fun i hi => contrib_recv d c hp hl hj hc i hi,
    Finset.sum_eq_single (⟨j, hj⟩ : Dev nD) (fun d _ hd => if_neg fun h => hd (Fin.ext h)) (fun h => absurd (Finset.mem_univ _) h), if_pos rfl]

/-! ## The credit of a device -/

def csem : Option (Fin 96) → SemLoc sig
  | none => .reg barS
  | some i => .dma (dsem (6 + i.val))

theorem csem_injective : Function.Injective csem := by
  intro a b h
  match a, b with
  | none, none => rfl
  | none, some _ => cases h
  | some _, none => cases h
  | some i, some j =>
    have hi := i.isLt
    have hj := j.isLt
    have h' := congrArg Fin.val (SemLoc.dma.inj h)
    rw [dsem_val (by omega), dsem_val (by omega)] at h'
    exact congrArg some (Fin.ext (by omega))

theorem bigSep_option (Φ : Option (Fin 96) → sProp 𝕄) : bigSep Finset.univ Φ = iprop(Φ none ∗ bigSep Finset.univ fun i => Φ (some i)) := by
  rw [bigSep_univ_at Φ none]
  refine congrArg _ ?_
  rw [show (Finset.univ.erase none : Finset (Option (Fin 96))) = Finset.univ.map Function.Embedding.some by
    ext x; rcases x with _ | x <;> simp, bigSep_map]; rfl

theorem creds (c : Dev nD) : (Pipeline.launchCred (fun d => owedFrom d 0) c : sProp 𝕄)
    ⊢ iprop(cred (tallyAt (barCell c) () 8) ∗ (bigSep Finset.univ fun i : Fin 24 => recvCred c 0 i.val) ∗ bigSep Finset.univ fun i : Fin 24 => recvCred c 1 i.val) := by
  have hr (p : ℕ) (hp : p < 2) (i : Fin 24) : (cred (tallyOn (rCell c p i.val) (launchCredit (Pipeline.owing fun d => owedFrom d 0) 0 (rCell c p i.val))) : sProp 𝕄) ⊢ recvCred c p i.val := by
    have := i.isLt
    unfold recvCred
    split
    · iintro -; iempintro
    · rename_i h; rw [launch_recv c hp (by omega) (Nat.mod_lt _ (by decide)) h]
  have hs (p : ℕ) (hp : p < 2) : (bigSep Finset.univ fun i : Fin 24 => cred (tallyOn (rCell c p i.val) (launchCredit (Pipeline.owing fun d => owedFrom d 0) 0 (rCell c p i.val))) : sProp 𝕄)
      ⊢ bigSep Finset.univ fun i : Fin 24 => recvCred c p i.val := bigSep_mono fun i _ => hr p hp i
  have h0 := hs 0 (by decide)
  have h1 := hs 1 (by decide)
  unfold Pipeline.launchCred
  refine (BI.bigSep_subset (Finset.subset_univ (Finset.univ.map ⟨csem, csem_injective⟩))).trans ?_
  rw [bigSep_map, bigSep_option]
  show iprop(cred (tallyOn (barCell c) (launchCredit (Pipeline.owing fun d => owedFrom d 0) 0 (barCell c))) ∗ bigSep Finset.univ fun i : Fin 96 => cred (tallyOn (dCell c (dsem (6 + i.val))) (launchCredit (Pipeline.owing fun d => owedFrom d 0) 0 (dCell c (dsem (6 + i.val)))))) ⊢ _
  rw [launch_bar, cells_96 fun q => (cred (tallyOn (dCell c q) (launchCredit (Pipeline.owing fun d => owedFrom d 0) 0 (dCell c q))) : sProp 𝕄)]
  iintro ⟨Hb, -, H0, -, H1⟩
  isplitl [Hb]; · iexact Hb
  isplitl [H0]; · iapply h0; iexact H0
  iapply h1; iexact H1

end Cert.KernelIdealProof
-- ==== Proof.Ghost.lean ====
/-
# 01_k — what the launch deals out

Every cell's invariant is made at once and shared; the duty tokens go from the device that owns the cell to the device that pays it.
-/
module

public import proofs.«01_k».proof.Proof.Credit

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## The cells and the tokens -/

theorem kcell_injective : Function.Injective kcell := by
  rintro ⟨c, a⟩ ⟨d, b⟩ h
  have h1 (ck : Dev nD × Option (Fin 96)) : kcell ck = ((ck.1 : Thread nD τ), csem ck.2) := by rcases ck with ⟨c, _ | i⟩ <;> rfl
  rw [h1, h1] at h
  have hc : c = d := congrArg (fun g : GSem nD τ sig => g.1.1) h
  have hk : a = b := csem_injective (congrArg Prod.snd h)
  rw [hc, hk]

def ringCells : Finset (GSem nD τ sig) := Finset.univ.map ⟨kcell, kcell_injective⟩

/-- The duty tokens of a device's own cells: a barrier duty for every device, and one for every cell of a remote copy. -/
def tokOf : Dev nD × (Fin 8 ⊕ Fin 96) → GSem nD τ sig × ℕ × Fin 8
  | (c, .inl d) => (barCell c, 0, d)
  | (c, .inr i) => (kcell (c, some i), 0, 0)

theorem tokOf_injective : Function.Injective tokOf := by
  rintro ⟨c, a⟩ ⟨d, b⟩ h
  match a, b with
  | .inl x, .inl y =>
    have hc : c = d := congrArg (fun t : GSem nD τ sig × ℕ × Fin 8 => t.1.1.1) h
    have hx : x = y := congrArg (fun t : GSem nD τ sig × ℕ × Fin 8 => t.2.2) h
    rw [hc, hx]
  | .inl x, .inr i => exact absurd (congrArg Prod.fst h) (bar_ne_dma _ _ _)
  | .inr i, .inl y => exact absurd (congrArg Prod.fst h).symm (bar_ne_dma _ _ _)
  | .inr i, .inr j =>
    have h' : (c, some i) = (d, some j) := kcell_injective (congrArg Prod.fst h)
    have hc : c = d := congrArg Prod.fst h'
    have hi : i = j := Option.some.inj (congrArg Prod.snd h')
    rw [hc, hi]

def ringToks : Finset (GSem nD τ sig × ℕ × Fin 8) := Finset.univ.map ⟨tokOf, tokOf_injective⟩

variable (c : Dev nD)

def toks : sProp 𝕄 :=
  iprop((bigSep Finset.univ fun d : Fin 8 => dutyTok ER (barCell c) 0 d) ∗ bigSep Finset.univ fun i : Fin 96 => dutyTok ER (dCell c (dsem (6 + i.val))) 0 0)

/-- What the launch deals a device. -/
def G : sProp 𝕄 :=
  iprop((bigSep Finset.univ fun k => roundState ER (sched I) (kcell (c, k)) 0)
    ∗ (bigSep Finset.univ fun k => reached ER (kcell (c, k)) 0) ∗ (bigSep Finset.univ fun k => atPos ER (kcell (c, k)) 0 ∅ 0) ∗ toks c)

theorem fund_all : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum]; rfl
  iintro HX
  imod (Rounds.fund ER (sched I) ringCells ringToks) $$ HX with ⟨Hst, Hr, Hat, Htok⟩
  imodintro
  ihave Hst := (Entails.of_eq (hX fun g => roundState ER (sched I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat]; · iexact Hat
  iexact Htok

/-! ## The semaphores -/

/-- The kernel's own DMA semaphores: two and two for the weight tiles, 96 for the remote copies. -/
def osem : (Fin 2 ⊕ Fin 2) ⊕ Fin 96 → SemLoc sig
  | .inl (.inl k) => .dma (dsem (2 + k.val % 2))
  | .inl (.inr k) => .dma (dsem (4 + k.val % 2))
  | .inr i => .dma (dsem (6 + i.val))

theorem ownSems0_eq : (Pipeline.ownSems0 (Ix := Unit) (Name := ℕ) (U := UU) (Lvl := ℕ) (Val := Elt F) (τ := τ) osem c : sProp 𝕄) = counters c := by
  unfold Pipeline.ownSems0 counters
  rw [bigSep_univ_sum, bigSep_univ_sum]
  exact equiv_iff.mp ⟨BI.sep_assoc, BI.sep_assoc'⟩

theorem unscopedSems0_eq : (unscopedSems0 c : sProp 𝕄) = semVal (barCell c) 0 := by
  unfold unscopedSems0; rw [bigSep_eq_bigSepL_of_eq [SemLoc.reg barS] (by decide) (by decide)]; rfl

/-- The counters of the weight tiles' semaphores. -/
def low : sProp 𝕄 :=
  iprop((bigSep Finset.univ fun k : Fin 2 => semVal (dCell c (dsem (2 + k.val % 2))) 0) ∗ bigSep Finset.univ fun k : Fin 2 => semVal (dCell c (dsem (4 + k.val % 2))) 0)

theorem core_alloc :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => cellAt I (kcell (c, k))) ∗ (bigSep Finset.univ fun k => atPos ER (kcell (c, k)) 0 ∅ 0) ∗ toks c ∗ low c) := by
  have h (k : Option (Fin 96)) : iprop(semVal (kcell (c, k)) 0 ∗ roundState ER (sched I) (kcell (c, k)) 0 ∗ reached ER (kcell (c, k)) 0)
      ⊢ (|={Set.univ}=> cellAt I (kcell (c, k)) : sProp 𝕄) := by
    have hb : iprop(semVal (kcell (c, k)) 0 ∗ roundState ER (sched I) (kcell (c, k)) 0) ⊢ (|={Set.univ}=> iprop(∃ κ : ℕ, cellInv ER (sched I) κ (kcell (c, k))) : sProp 𝕄) :=
      (Rounds.body_intro ER (sched I) (kcell (c, k))).trans inv_alloc
    unfold cellAt
    iintro ⟨Hv, Hs, Hr⟩
    imod hb $$ [Hv Hs] with ⟨%κ, Hi⟩; · isplitl [Hv] <;> iassumption
    imodintro
    iexists κ
    isplitl [Hi] <;> iassumption
  have hall : iprop((bigSep Finset.univ fun k => semVal (kcell (c, k)) 0) ∗ (bigSep Finset.univ fun k => roundState ER (sched I) (kcell (c, k)) 0) ∗ bigSep Finset.univ fun k => reached ER (kcell (c, k)) 0)
      ⊢ (|={Set.univ}=> bigSep Finset.univ fun k => cellAt I (kcell (c, k)) : sProp 𝕄) := by
    rw [← bigSep_sep', ← bigSep_sep']
    exact (bigSep_mono fun k _ => h k).trans (bigSep_fupd _ _)
  rw [bigSep_option fun k => semVal (kcell (c, k)) 0] at hall
  rw [ownSems0_eq, unscopedSems0_eq]
  unfold counters G low
  iintro ⟨⟨Hi, Ho, Hd⟩, Hb, Hst, Hr, Hat, Htok⟩
  imod hall $$ [Hb Hd Hst Hr] with Hc
  · isplitl [Hb Hd]
    · isplitl [Hb]; · iexact Hb
      iexact Hd
    isplitl [Hst] <;> iassumption
  imodintro
  isplitl [Hc]; · iexact Hc
  isplitl [Hat]; · iexact Hat
  isplitl [Htok]; · iexact Htok
  isplitl [Hi] <;> iassumption

/-! ## The tokens handed round -/

/-- A device's positions at its cells of phase `p`, and the tokens of the duties it pays. -/
def linear (p : ℕ) : sProp 𝕄 :=
  iprop((bigSep Finset.univ fun i : Fin 24 => atPos ER (sCell c p i.val) 0 ∅ 0) ∗ (bigSep Finset.univ fun i : Fin 24 => atPos ER (rCell c p i.val) 0 ∅ 0)
    ∗ (bigSep Finset.univ fun i : Fin 24 => dutyTok ER (sCell c p i.val) 0 0)
    ∗ bigSep Finset.univ fun i : Fin 24 => dutyTok ER (dCell (dv (i.val % 8)) (recvS p (i.val / 8) c.val)) 0 0)

/-- What the exchange of tokens leaves a device with. -/
def G' : sProp 𝕄 :=
  iprop((bigSep Finset.univ fun ck => cellAt I (kcell ck)) ∗ atPos ER (barCell c) 0 ∅ 0 ∗ (bigSep Finset.univ fun d : Fin 8 => dutyTok ER (barCell (dv d.val)) 0 c)
    ∗ linear c 0 ∗ linear c 1 ∗ low c)

theorem dv_self (d : Fin 8) : dv d.val = (d : Dev nD) := Fin.ext (Nat.mod_eq_of_lt d.isLt)

theorem bar_around : (bigSep Finset.univ fun c : Dev nD => bigSep Finset.univ fun d : Fin 8 => dutyTok ER (barCell c) 0 d : sProp 𝕄)
    = bigSep Finset.univ fun c : Dev nD => bigSep Finset.univ fun d : Fin 8 => dutyTok ER (barCell (dv d.val)) 0 c := by
  refine (BI.bigSep_univ_comm (fun (c : Dev nD) (d : Fin 8) => (dutyTok ER (barCell c) 0 d : sProp 𝕄))).trans ?_
  refine bigSep_congr fun c _ => bigSep_congr fun d _ => ?_
  rw [dv_self]

theorem recv_around (p : ℕ) : (bigSep Finset.univ fun c : Dev nD => bigSep Finset.univ fun i : Fin 24 => dutyTok ER (rCell c p i.val) 0 0 : sProp 𝕄)
    = bigSep Finset.univ fun c : Dev nD => bigSep Finset.univ fun i : Fin 24 => dutyTok ER (dCell (dv (i.val % 8)) (recvS p (i.val / 8) c.val)) 0 0 := by
  refine (bigSep_congr fun c _ => bigSep_24 fun l j => (dutyTok ER (dCell c (recvS p l j)) 0 0 : sProp 𝕄)).trans ?_
  refine (BI.bigSep_univ_comm (fun (c : Dev nD) (j : Fin 8) => bigSep Finset.univ fun l : Fin 3 => (dutyTok ER (dCell c (recvS p l.val j.val)) 0 0 : sProp 𝕄))).trans ?_
  refine bigSep_congr fun c _ => ?_
  rw [bigSep_24 fun l j => (dutyTok ER (dCell (dv j) (recvS p l c.val)) 0 0 : sProp 𝕄)]
  refine bigSep_congr fun d _ => ?_
  rw [dv_self]

theorem toks_split : (bigSep Finset.univ fun c : Dev nD => (toks c : sProp 𝕄))
    = iprop((bigSep Finset.univ fun c : Dev nD => bigSep Finset.univ fun d : Fin 8 => dutyTok ER (barCell (dv d.val)) 0 c)
      ∗ (bigSep Finset.univ fun c : Dev nD => bigSep Finset.univ fun i : Fin 24 => dutyTok ER (sCell c 0 i.val) 0 0)
      ∗ (bigSep Finset.univ fun c : Dev nD => bigSep Finset.univ fun i : Fin 24 => dutyTok ER (dCell (dv (i.val % 8)) (recvS 0 (i.val / 8) c.val)) 0 0)
      ∗ (bigSep Finset.univ fun c : Dev nD => bigSep Finset.univ fun i : Fin 24 => dutyTok ER (sCell c 1 i.val) 0 0)
      ∗ bigSep Finset.univ fun c : Dev nD => bigSep Finset.univ fun i : Fin 24 => dutyTok ER (dCell (dv (i.val % 8)) (recvS 1 (i.val / 8) c.val)) 0 0) := by
  have h (c : Dev nD) : (toks c : sProp 𝕄) = _ := congrArg₂ _ rfl (cells_96 fun q => (dutyTok ER (dCell c q) 0 0 : sProp 𝕄))
  rw [← bar_around, ← recv_around, ← recv_around, bigSep_congr fun c _ => h c, bigSep_sep', bigSep_sep', bigSep_sep', bigSep_sep']

theorem atPos_split (c : Dev nD) : (bigSep Finset.univ fun k => (atPos ER (kcell (c, k)) 0 ∅ 0 : sProp 𝕄))
    = iprop(atPos ER (barCell c) 0 ∅ 0 ∗ (bigSep Finset.univ fun i : Fin 24 => atPos ER (sCell c 0 i.val) 0 ∅ 0) ∗ (bigSep Finset.univ fun i : Fin 24 => atPos ER (rCell c 0 i.val) 0 ∅ 0)
      ∗ (bigSep Finset.univ fun i : Fin 24 => atPos ER (sCell c 1 i.val) 0 ∅ 0) ∗ bigSep Finset.univ fun i : Fin 24 => atPos ER (rCell c 1 i.val) 0 ∅ 0) :=
  (bigSep_option _).trans (congrArg₂ _ rfl (cells_96 fun q => (atPos ER (dCell c q) 0 ∅ 0 : sProp 𝕄)))

theorem regroup :
    (bigSep Finset.univ fun c : Dev nD => iprop((bigSep Finset.univ fun k => cellAt I (kcell (c, k))) ∗ (bigSep Finset.univ fun k => atPos ER (kcell (c, k)) 0 ∅ 0) ∗ toks c ∗ low c) : sProp 𝕄)
      ⊢ bigSep Finset.univ (G' I) := by
  have h (c : Dev nD) : iprop((bigSep Finset.univ fun ck => cellAt I (kcell ck)) ∗ (bigSep Finset.univ fun k => atPos ER (kcell (c, k)) 0 ∅ 0)
        ∗ (bigSep Finset.univ fun d : Fin 8 => dutyTok ER (barCell (dv d.val)) 0 c)
        ∗ (bigSep Finset.univ fun i : Fin 24 => dutyTok ER (sCell c 0 i.val) 0 0)
        ∗ (bigSep Finset.univ fun i : Fin 24 => dutyTok ER (dCell (dv (i.val % 8)) (recvS 0 (i.val / 8) c.val)) 0 0)
        ∗ (bigSep Finset.univ fun i : Fin 24 => dutyTok ER (sCell c 1 i.val) 0 0)
        ∗ (bigSep Finset.univ fun i : Fin 24 => dutyTok ER (dCell (dv (i.val % 8)) (recvS 1 (i.val / 8) c.val)) 0 0) ∗ low c) ⊢ (G' I c : sProp 𝕄) := by
    rw [atPos_split]
    unfold G' linear
    iintro ⟨Hc, ⟨Hb, Hs0, Hr0, Hs1, Hr1⟩, Htb, Ht0, Hu0, Ht1, Hu1, Hl⟩
    isplitl [Hc]; · iexact Hc
    isplitl [Hb]; · iexact Hb
    isplitl [Htb]; · iexact Htb
    isplitl [Hs0 Hr0 Ht0 Hu0]
    · isplitl [Hs0]; · iexact Hs0
      isplitl [Hr0]; · iexact Hr0
      isplitl [Ht0] <;> iassumption
    isplitl [Hs1 Hr1 Ht1 Hu1]
    · isplitl [Hs1]; · iexact Hs1
      isplitl [Hr1]; · iexact Hr1
      isplitl [Ht1] <;> iassumption
    iexact Hl
  have hall := bigSep_with_persistent (S := (Finset.univ : Finset (Dev nD))) (R := bigSep Finset.univ fun ck => cellAt I (kcell ck)) fun c _ => h c
  rw [bigSep_sep', bigSep_sep', bigSep_sep', bigSep_sep', bigSep_sep', bigSep_sep'] at hall
  rw [bigSep_sep', bigSep_sep', bigSep_sep', ← bigSep_univ_prod (fun ck : Dev nD × Option (Fin 96) => cellAt I (kcell ck)), toks_split]
  refine .trans ?_ hall
  iintro ⟨Hc, Hat, ⟨Hb, Ht0, Hu0, Ht1, Hu1⟩, Hl⟩
  isplitl [Hc]; · iexact Hc
  isplitl [Hat]; · iexact Hat
  isplitl [Hb]; · iexact Hb
  isplitl [Ht0]; · iexact Ht0
  isplitl [Hu0]; · iexact Hu0
  isplitl [Ht1]; · iexact Ht1
  isplitl [Hu1] <;> iassumption

/-- Every device at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## From there to the start of the body -/

/-- What a device holds before its body but for the scratch buffers. -/
def ready : sProp 𝕄 :=
  iprop(ctx I ∗ atPos ER (barCell c) 0 ∅ 0 ∗ (bigSep Finset.univ fun d : Fin 8 => dutyTok ER (barCell (dv d.val)) 0 c) ∗ linear c 0 ∗ linear c 1 ∗ low c
    ∗ (cred (tallyAt (barCell c) () 8) ∗ (bigSep Finset.univ fun i : Fin 24 => recvCred c 0 i.val) ∗ bigSep Finset.univ fun i : Fin 24 => recvCred c 1 i.val)
    ∗ weights I c)

theorem ready_intro : iprop(levAts L lv ∗ Pipeline.launchCred (fun d => owedFrom d 0) c ∗ G' I c ∗ weights I c) ⊢ ready I c := by
  have hc := creds (F := F) c
  unfold ready G' ctx
  iintro ⟨Hl, Hcr, ⟨Hc, Hb, Ht, H0, H1, Hlow⟩, Hw⟩
  ihave Hcr := hc $$ Hcr
  isplitl [Hc Hl]; · isplitl [Hc] <;> iassumption
  isplitl [Hb]; · iexact Hb
  isplitl [Ht]; · iexact Ht
  isplitl [H0]; · iexact H0
  isplitl [H1]; · iexact H1
  isplitl [Hlow]; · iexact Hlow
  isplitl [Hcr] <;> iassumption

/-- The slots a device hands the others at the barrier. -/
theorem pays_out : iprop(free (F := F) c rsM ∗ free (F := F) c agM) ⊢ bigSep Finset.univ fun d : Fin 8 => barPay (F := F) c (dv d.val) := by
  have h : (bigSep Finset.univ fun d : Fin 8 => barPay (F := F) c (dv d.val)) = _ :=
    (bigSep_congr fun d _ => by rw [dv_self]; rfl).trans (bigSep_pays fun p l d => anySlot (F := F) c (landM p) l d)
  rw [h]
  unfold free
  exact BI.sep_mono (slots_cut c rsM) (slots_cut c agM)

theorem seeds_intro (p : ℕ) : iprop(linear (F := F) c p ∗ (bigSep Finset.univ fun i : Fin 24 => recvCred c p i.val) ∗ bigSep Finset.univ fun i : Fin 24 => back c p (i.val / 8) (i.val % 8)) ⊢ seeds c p := by
  unfold seeds linear sendSeed
  rw [bigSep_sep', bigSep_sep', bigSep_sep', bigSep_sep']
  iintro ⟨⟨Hs, Hr, Ht, Hu⟩, Hc, Hb⟩
  isplitl [Hs Ht Hu Hb]
  · isplitl [Hs]; · iexact Hs
    isplitl [Ht]; · iexact Ht
    isplitl [Hu] <;> iassumption
  isplitl [Hr] <;> iassumption

theorem sigs_intro : iprop((bigSep Finset.univ fun d : Fin 8 => dutyTok ER (barCell (dv d.val)) 0 c) ∗ bigSep Finset.univ fun d : Fin 8 => barPay (F := F) c (dv d.val)) ⊢ sigs c 0 := by
  have h : sigs (F := F) c 0 = bigSep Finset.univ fun d : Fin 8 => sigDuty c d.val := by
    unfold sigs fam; refine bigSep_congr fun i _ => ?_; rw [if_neg (Nat.not_lt_zero _), if_neg (Nat.not_lt_zero _)]
  rw [h]; unfold sigDuty; rw [bigSep_sep']

theorem start_intro : iprop(ready I c ∗ scratch (F := F) c ∗ Ow c 0 ∗ owns (c : Thread nD τ) aM fullShare (I.x c) ∗ free (F := F) c oM) ⊢ start I c := by
  have hb0 : free (F := F) c sbM ⊢ bigSep Finset.univ fun i : Fin 24 => back (F := F) c 0 (i.val / 8) (i.val % 8) := by unfold free; exact slots_cut c sbM
  have hb1 : (iprop(emp) : sProp 𝕄) ⊢ bigSep Finset.univ fun i : Fin 24 => back (F := F) c 1 (i.val / 8) (i.val % 8) :=
    (BI.bigSep_of_persistent Finset.univ iprop(emp))
  have hp := pays_out (F := F) c
  have hs := sigs_intro (F := F) c
  have h0 := seeds_intro (F := F) c 0
  have h1 := seeds_intro (F := F) c 1
  have hi : free (F := F) c wiM ⊢ _ := slotsI_cut c
  have ho : free (F := F) c woM ⊢ _ := slotsO_cut c
  have hti := tiles_begin c (wiP I c)
  have hto := tiles_begin c (woP I c)
  rw [wi_tiles c I] at hti
  rw [wo_tiles c I] at hto
  have hh : free (F := F) c hM ⊢ hFree (F := F) c := by unfold free hFree; exact BI.Entails.refl _
  have hx := free_holds (F := F) c (m := xM)
  have hacc := free_holds (F := F) c (m := accM)
  have hprod := free_holds (F := F) c (m := prodM)
  have hout := free_holds (F := F) c (m := oM)
  unfold ready scratch start keep low weights
  iintro ⟨⟨Hc, Hb, Ht, Hl0, Hl1, ⟨Hvi, Hvo⟩, ⟨Hcb, Hc0, Hc1⟩, ⟨Hwi, Hwo⟩⟩, ⟨Hx, Hsi, Hso, Hacc, Hprod, Hh, Hrs, Hag, Hsb⟩, HO, Ha, Hout⟩
  isplitl [Hc]; · iexact Hc
  isplitl [HO]; · iexact HO
  isplitl [Ht Hrs Hag]
  · iapply hs
    isplitl [Ht]; · iexact Ht
    iapply hp
    isplitl [Hrs] <;> iassumption
  isplitl [Hcb Hb]; · isplitl [Hcb] <;> iassumption
  isplitl [Hl0 Hc0 Hsb]
  · iapply h0
    isplitl [Hl0]; · iexact Hl0
    isplitl [Hc0]; · iexact Hc0
    iapply hb0; iexact Hsb
  isplitl [Hl1 Hc1]
  · iapply h1
    isplitl [Hl1]; · iexact Hl1
    isplitl [Hc1]; · iexact Hc1
    iapply hb1; iempintro
  isplitl [Hwi Hvi Hsi]
  · iapply hti
    isplitl [Hwi]; · iexact Hwi
    isplitl [Hvi]; · iexact Hvi
    iapply hi; iexact Hsi
  isplitl [Hwo Hvo Hso]
  · iapply hto
    isplitl [Hwo]; · iexact Hwo
    isplitl [Hvo]; · iexact Hvo
    iapply ho; iexact Hso
  isplitl [Ha]; · iexact Ha
  isplitl [Hx]; · iapply hx; iexact Hx
  isplitl [Hacc]; · iapply hacc; iexact Hacc
  isplitl [Hprod]; · iapply hprod; iexact Hprod
  isplitl [Hout]; · iapply hout; iexact Hout
  iapply hh; iexact Hh

end Cert.KernelIdealProof
-- ==== Proof.Launch.lean ====
/-
# 01_k — the run of the whole program

The launch: the one region's proof data, its body, and what every final state holds.
-/
module

public import proofs.«01_k».proof.Proof.Ghost
public import proofs.«01_k».proof.Proof.Gen.KernelIdeal.Points
public import Idealize.ShloMosaic.Lib.Pipeline.Launch
public import Idealize.ShloMosaic.Lib.Pipeline.Kit
public import Idealize.ShloMosaic.Lib.Pipeline.Quiescent
public import Idealize.ShloMosaic.Lib.StableHlo.RunHlo

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The arguments read off the memory. -/
def inp : Inp F where
  x c := m ((c : Thread nD τ).loc main_arg0)
  wi | 0 => fun c => m ((c : Thread nD τ).loc main_arg1) | 1 => fun c => m ((c : Thread nD τ).loc main_arg3) | _ => fun c => m ((c : Thread nD τ).loc main_arg5)
  wo | 0 => fun c => m ((c : Thread nD τ).loc main_arg2) | 1 => fun c => m ((c : Thread nD τ).loc main_arg4) | _ => fun c => m ((c : Thread nD τ).loc main_arg6)

/-! ## The windows -/

theorem emb_x (t : Fin cfg0.N) (y : S64x2048.Idx) : ((cfg0.win 0).blk t).view.emb y = y := by
  rcases fin_N0 t with rfl
  have h0 : 0 * 64 + 1 * (y 0).val = (y 0).val := by omega
  have h1 : 0 * 2048 + 1 * (y 1).val = (y 1).val := by omega
  refine funext fun a => Fin.ext ?_
  fin_cases a
  · exact h0
  · exact h1

theorem emb_out (t : Fin cfg0.N) (y : S64x2048.Idx) : ((cfg0.win 1).blk t).view.emb y = y := by
  rcases fin_N0 t with rfl
  have h0 : 0 * 64 + 1 * (y 0).val = (y 0).val := by omega
  have h1 : 0 * 2048 + 1 * (y 1).val = (y 1).val := by omega
  refine funext fun a => Fin.ext ?_
  fin_cases a
  · exact h0
  · exact h1

theorem blk_x (t : Fin cfg0.N) (f : Vec F S64x2048 .f32) : ((cfg0.win 0).blk t).view.read (Elt F) f = f :=
  funext fun y => congrArg f (emb_x t y)

theorem blk_out (t : Fin cfg0.N) (f : Vec F S64x2048 .f32) : ((cfg0.win 1).blk t).view.read (Elt F) f = f :=
  funext fun y => congrArg f (emb_out t y)

/-! ## The region's proof data -/

def Φ₀ (c : Dev nD) : sProp 𝕄 := iprop(ready (inp m) c ∗ scratch (F := F) c)
def Φ₁ (c : Dev nD) : sProp 𝕄 := iprop(weights (inp m) c ∗ counters (F := F) c ∗ semVal (barCell c) 0 ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => outV (inp m) c
  Φ t := match t with
    | ⟨0, _⟩ => Φ₀ m c
    | ⟨_ + 1, _⟩ => Φ₁ m c
  q _ := fullShare
  owed t := match t with
    | ⟨0, _⟩ => owedFrom c 0
    | ⟨_ + 1, _⟩ => 0

/-! ## The body -/

theorem wp_end {α : Type} (c : Dev nD) {p : PG F α} {A P R : sProp 𝕄} (h : A ⊢ WP c p fun _ => P) (hp : P ⊢ |={Set.univ}=> R) : A ⊢ WP c p fun _ => R := by
  unfold WP at *
  exact (h.trans (wp_mono _ _ _ fun _ => hp)).trans (wp_fupd _ _ _ _ _)

/-- The body from its start to its end. -/
theorem body_run (I : Inp F) (c : Dev nD) : start I c ⊢ WP c (bodyAt0 (F := F) t0_0) (fun _ => iprop(semVal (barCell c) 0 ∗ S I c (.wt 2 8))) :=
  body_rest I c fun hk => first I c hk

def bodyPre (c : Dev nD) : sProp 𝕄 :=
  iprop(Φ₀ m c ∗ (dats m ρ 0 c).owesAt () t0_0.castSucc
    ∗ (∃ d, owns (c : Thread nD τ) aM fullShare ((dats m ρ 0 c).before (0 : Fin 2) t0_0 d))
    ∗ (∃ d, owns (c : Thread nD τ) oM fullShare ((dats m ρ 0 c).before (1 : Fin 2) t0_0 d)))

def bodyPost (c : Dev nD) : sProp 𝕄 :=
  iprop(Φ₁ m c ∗ (dats m ρ 0 c).owesAt () t0_0.succ ∗ owns (c : Thread nD τ) aM fullShare ((inp m).x c) ∗ owns (c : Thread nD τ) oM fullShare (outV (inp m) c))

theorem before_x (c : Dev nD) (d) : (dats m ρ 0 c).before (0 : Fin 2) t0_0 d = (inp m).x c := by
  unfold Dat.before; rw [if_pos (fetch0_0 t0_0)]
  exact blk_x t0_0 ((inp m).x c)

theorem pre_start (c : Dev nD) : bodyPre m ρ c ⊢ start (inp m) c := by
  have hs := start_intro (inp m) c
  have hO (W) := Ow_intro (F := F) c 0 W
  unfold bodyPre Φ₀ Dat.owesAt Pipeline.owesWithin
  rw [show (dats m ρ 0 c).owed t0_0.castSucc = owedFrom c 0 from rfl]
  simp only [before_x]
  iintro ⟨⟨Hr, Hs⟩, ⟨%W, %hW, HO⟩, ⟨%d0, Ha⟩, ⟨%d1, Ho⟩⟩
  iapply hs
  isplitl [Hr]; · iexact Hr
  isplitl [Hs]; · iexact Hs
  isplitl [HO]; · iapply (hO W); iexact HO
  isplitl [Ha]; · iexact Ha
  unfold free
  iexists _; iexact Ho

theorem finish_post (c : Dev nD) : finish (inp m) c ⊢ bodyPost m ρ c := by
  unfold bodyPost Φ₁ finish Dat.owesAt Pipeline.owesWithin
  rw [show (dats m ρ 0 c).owed t0_0.succ = 0 from rfl]
  iintro ⟨⟨%W, HO⟩, Hw, Hc, Hb, Ha, Ho, Hs⟩
  isplitl [Hw Hc Hb Hs]
  · isplitl [Hw]; · iexact Hw
    isplitl [Hc]; · iexact Hc
    isplitl [Hb] <;> iassumption
  isplitl [HO]
  · iexists W
    isplitr; · ipureintro; exact fun _ _ => Or.inl trivial
    iexact HO
  isplitl [Ha] <;> iassumption

theorem body_obligation (c : Dev nD) : BodyObligation (dats (F := F) m ρ 0 c) (defs₀ (F := F)) 𝒱₀ () Set.univ := fun t => by
  rcases fin_N0 t with rfl
  rw [bigSep_W0, bigSep_W0]
  show bodyPre m ρ c ⊢ WP c (bodyAt0 (F := F) t0_0) (fun _ => bodyPost m ρ c)
  exact (pre_start m ρ c).trans (wp_end c (body_run (inp m) c) ((state_end (inp m) c).trans (BI.fupd_mono (finish_post m ρ c))))

/-! ## The launch -/

/-- The arrays of the weights. -/
def argW : Fin 6 → Ref sig .tc
  | 0 => main_arg1 | 1 => main_arg2 | 2 => main_arg3 | 3 => main_arg4 | 4 => main_arg5 | 5 => main_arg6

/-- The weights at what the memory holds. -/
def args (c : Dev nD) : sProp 𝕄 := bigSep Finset.univ fun k : Fin 6 => ((c : Thread nD τ).loc (argW k)) ↦{fullShare} m ((c : Thread nD τ).loc (argW k))

theorem args_chain (c : Dev nD) : args m c = Pipeline.unscopedRest cfg0.spec c (fun b => m ((c : Thread nD τ).loc b)) := by
  rw [unscopedRest0_eq]
  exact bigSep_univ_eq_bigSepL [(0 : Fin 6), 1, 2, 3, 4, 5] (by decide) (by decide) _

theorem weights_eq (c : Dev nD) : weights (inp m) c
    = iprop(((((c : Thread nD τ).loc main_arg1) ↦{fullShare} m ((c : Thread nD τ).loc main_arg1)) ∗ (((c : Thread nD τ).loc main_arg3) ↦{fullShare} m ((c : Thread nD τ).loc main_arg3)) ∗ (((c : Thread nD τ).loc main_arg5) ↦{fullShare} m ((c : Thread nD τ).loc main_arg5)))
      ∗ (((c : Thread nD τ).loc main_arg2) ↦{fullShare} m ((c : Thread nD τ).loc main_arg2)) ∗ (((c : Thread nD τ).loc main_arg4) ↦{fullShare} m ((c : Thread nD τ).loc main_arg4)) ∗ (((c : Thread nD τ).loc main_arg6) ↦{fullShare} m ((c : Thread nD τ).loc main_arg6))) := by
  unfold weights
  rw [bigSep_univ_eq_bigSepL [(0 : Fin 3), 1, 2] (by decide) (by decide), bigSep_univ_eq_bigSepL [(0 : Fin 3), 1, 2] (by decide) (by decide)]
  have h1 : wiMem (((0 : Fin 3) : Fin 3).val) = Memref.whole main_arg1 := rfl
  have h3 : wiMem (((1 : Fin 3) : Fin 3).val) = Memref.whole main_arg3 := rfl
  have h5 : wiMem (((2 : Fin 3) : Fin 3).val) = Memref.whole main_arg5 := rfl
  have h2 : woMem (((0 : Fin 3) : Fin 3).val) = Memref.whole main_arg2 := rfl
  have h4 : woMem (((1 : Fin 3) : Fin 3).val) = Memref.whole main_arg4 := rfl
  have h6 : woMem (((2 : Fin 3) : Fin 3).val) = Memref.whole main_arg6 := rfl
  simp only [bigSepL_cons_cons, bigSepL_singleton, h1, h2, h3, h4, h5, h6, owns_whole]
  rfl

theorem args_weights (c : Dev nD) : args m c ⊢ weights (inp m) c := by
  rw [args_chain, unscopedRest0_eq, weights_eq]
  iintro ⟨H1, H2, H3, H4, H5, H6⟩
  isplitl [H1 H3 H5]
  · isplitl [H1]; · iexact H1
    isplitl [H3] <;> iassumption
  isplitl [H2]; · iexact H2
  isplitl [H4] <;> iassumption

theorem weights_args (c : Dev nD) : weights (inp m) c ⊢ args m c := by
  rw [args_chain, unscopedRest0_eq, weights_eq]
  iintro ⟨⟨H1, H3, H5⟩, H2, H4, H6⟩
  isplitl [H1]; · iexact H1
  isplitl [H2]; · iexact H2
  isplitl [H3]; · iexact H3
  isplitl [H4]; · iexact H4
  isplitl [H5] <;> iassumption

theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), (initOf ringCells ringToks, 1))

theorem launch_fund : BI.own ((embR : Emb (UB × Counters) 𝕄) (initOf ringCells ringToks, 1)) ⊢ (|==> bigSep Finset.univ (G (inp m)) : sProp 𝕄) := fund_all (inp m)

theorem ready_begin (c : Dev nD) :
    iprop(Pipeline.unscopedRestP Pipeline.Prefetch.none cfg0.spec c (fun b => m ((c : Thread nD τ).loc b)) ∗ levAts L lv
        ∗ Pipeline.launchCred (fun d => owedFrom d 0) c ∗ prngReg c (ρ c) ∗ G' (inp m) c)
      ⊢ |={Set.univ}=> iprop(ready (inp m) c ∗ emp) := by
  have hr := ready_intro (inp m) c
  have hw := args_weights m c
  rw [args_chain, ← Pipeline.unscopedRestP_none] at hw
  iintro ⟨Hm, Hlev, Hcr, -, HG⟩
  imodintro
  isplitl
  · iapply hr
    isplitl [Hlev]; · iexact Hlev
    isplitl [Hcr]; · iexact Hcr
    isplitl [HG]; · iexact HG
    iapply hw; iexact Hm
  · iempintro

theorem scratch_eq (c : Dev nD) : scratch (F := F) c = Pipeline.scopedRest cfg0.spec c := by
  rw [scopedRest0_eq]; unfold scratch free; simp only [owns_whole]; rfl

theorem phi0_intro (c : Dev nD) :
    iprop(ready (inp m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  isplitl [Hs] <;> iassumption

theorem phi1_exit (c : Dev nD) :
    (dats m ρ 0 c).Φ (Fin.last cfg0.N) ⊢ iprop((unscopedSems0 c ∗ args m c) ∗ Pipeline.ownSems0 osem c ∗ Pipeline.scopedRest cfg0.spec c) := by
  have hw := weights_args m c
  rw [show (dats m ρ 0 c).Φ (Fin.last cfg0.N) = Φ₁ m c from rfl, ← scratch_eq, ownSems0_eq, unscopedSems0_eq]
  unfold Φ₁
  iintro ⟨Hw, Hc, Hb, Hs⟩
  isplitl [Hb Hw]
  · isplitl [Hb]; · iexact Hb
    iapply hw; iexact Hw
  isplitl [Hc] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ 0 (by fin_cases w <;> fin_cases s <;> decide)
    · show (levAts L lv : sProp 𝕄) ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ ∀ k : Fin 6, r.2.mem ((c : Thread nD τ).loc (argW k)) = m ((c : Thread nD τ).loc (argW k))

theorem read_end (c : Dev nD) (s' : Phys nD τ sig (Elt F)) :
    iprop((unscopedSems0 c ∗ args m c) ∗ iprop(emp) ∗ SI s')
      ⊢ |={Set.univ}=> iprop(⌜(∀ k : Fin 6, s'.mem.mem ((c : Thread nD τ).loc (argW k)) = m ((c : Thread nD τ).loc (argW k)))
          ∧ ∀ sm : SemLoc sig, sm.isScoped .tc = false → s'.mem.sem ((c.tc : Thread nD τ), sm) = 0⌝ ∗ SI s') := by
  have ha : iprop(args m c ∗ SI s') ⊢ _ := pointsTo_read_all Finset.univ (fun k => (c : Thread nD τ).loc (argW k)) (fun k => m ((c : Thread nD τ).loc (argW k))) s'
  iintro ⟨⟨Hu, Ha⟩, -, HSI⟩
  ihave H := ha $$ [Ha HSI]; · isplitl [Ha] <;> iassumption
  icases H with ⟨%h1, HSI⟩
  ihave %h2 := (tcUnscoped_read c s') $$ [Hu HSI]; · isplitl [Hu] <;> iassumption
  imodintro
  isplitr; · ipureintro; exact ⟨fun k => h1 k (Finset.mem_univ k), h2⟩
  iexact HSI

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owedFrom c 0) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (launch_fund m) $$ HX with HG
      imodintro
      isplitl [HP] <;> iassumption)
    (hglob := glob (inp m))
    (hA := fun _ _ => rfl) (hpf := fun _ k => k.elim0)
    (X := ready (inp m)) (Y := fun c => iprop(unscopedSems0 c ∗ args m c)) (Z := fun _ => iprop(emp))
    (hX := ready_begin m ρ) (hin := phi0_intro m ρ) (hout := phi1_exit m ρ)
    (QY := fun c s => (∀ k : Fin 6, s.mem ((c : Thread nD τ).loc (argW k)) = m ((c : Thread nD τ).loc (argW k)))
      ∧ ∀ sm : SemLoc sig, sm.isScoped .tc = false → s.sem ((c.tc : Thread nD τ), sm) = 0)
    (hY := read_end m)
    (hQ := fun _ h hs => ⟨fun c => ⟨(h c).1, (h c).2.2.1⟩, sem_eq_zero hs fun c => (h c).2.2.2⟩)

theorem finalA_x (c : Dev nD) : finalA m ρ c (0 : Fin 2) = m ((c : Thread nD τ).loc main_arg0) :=
  (dats (F := F) m ρ 0 c).arrAt_in (0 : Fin 2) rfl _

theorem finalA_out (c : Dev nD) : finalA m ρ c (1 : Fin 2) = outV (inp m) c := by
  refine (dats (F := F) m ρ 0 c).arrAt_eq_of_cover 1 (outV (inp m) c) (fun t _ => ?_) (fun i => ⟨t0_0, flush0_1 _, ?_⟩)
  · have ha : (dats m ρ 0 c).after 1 t = outV (inp m) c := rfl
    rw [blk_out]
    unfold Pipeline.Dat.flushed
    rw [ha]
    rfl
  · exact Finset.mem_map.mpr ⟨i, Finset.mem_univ _, emb_out t0_0 i⟩

/-- Every final state: the arguments as they were, every counter at zero, the result computed. -/
theorem run_values : θ_run defs (onTc (τ := τ) (main (F := F))) (s₀ m ρ) (fun r =>
    (∀ c : Dev nD, r.2.mem ((c : Thread nD τ).loc main_v1) = outV (inp m) c ∧ r.2.mem ((c : Thread nD τ).loc main_arg0) = m ((c : Thread nD τ).loc main_arg0)
      ∧ ∀ k : Fin 6, r.2.mem ((c : Thread nD τ).loc (argW k)) = m ((c : Thread nD τ).loc (argW k))) ∧ r.2.sem = fun _ => 0) :=
  θ_run_mono (run_main m ρ) (fun r h => ⟨fun c => ⟨((h.1 c).1 1).trans (finalA_out m ρ c), ((h.1 c).1 0).trans (finalA_x m ρ c), (h.1 c).2⟩, h.2⟩)

end Cert.KernelIdealProof
-- ==== Proof.Frames.lean ====
/-
# 01_k — the programs keep their arguments

The three frame claims. The kernel at `Ideal` is the run of Launch.lean; the kernel at `Bits` is the same run, its
text being the same (`defs_same`); the reference is a straight line of host operations on a machine with no semaphore.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

set_option maxRecDepth 65536

noncomputable section

namespace Cert.KernelIdealProof

open Idealize.ShloMosaic Idealize.ShloMosaic.TcCoe Idealize.SL.Sem

/-- The kernel's regions as printed for `Bits` and for `Ideal` are one text; -/
theorem defs0_same : Cert.Kernel.defs₀ (F := Bits) = Cert.KernelIdeal.defs₀ (F := Bits) := by
  refine congrArg Defs.onTc (funext fun ℓ => funext fun a => ?_)
  match ℓ, a with
  | 0, (t, s) => rfl

/-- so are the programs. -/
theorem defs_same : Cert.Kernel.defs (F := Bits) = Cert.KernelIdeal.defs (F := Bits) :=
  congrArg (Pipeline.defs (Cert.KernelIdeal.pcfgs (F := Bits))) defs0_same

section Args
open Cert.KernelIdeal
variable {F : FTy → Type} [FloatOps F]

/-- The kernel's run, argument by argument. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  θ_run_mono (run_values (m := m) (ρ := ρ)) fun _ h =>
    ⟨fun c => ⟨(h.1 c).2.1, (h.1 c).2.2 0, (h.1 c).2.2 1, (h.1 c).2.2 2, (h.1 c).2.2 3, (h.1 c).2.2 4, (h.1 c).2.2 5⟩, h.2⟩

end Args

theorem frame_kernelIdeal : Cert.quiescent_KernelIdeal := fun m ρ _ => run_frame m ρ

theorem frame_kernel : Cert.quiescent_Kernel := fun m ρ _ => by
  rw [defs_same]
  exact run_frame (F := Bits) m ρ

theorem frame_reference : Cert.quiescent_ReferenceIdeal := fun m ρ _ =>
  θ_run_mono (Cert.ReferenceIdeal.Value.run (F := Ideal) m ρ) fun r h =>
    ⟨fun c => (h c).2, sem_eq_zero_of_no_sems (by decide) r.2⟩

end Cert.KernelIdealProof

end
-- ==== Proof.Algebra.lean ====
/-
# 01_k — one layer over the real numbers

What a device's arrays hold, read at an index over the reals: the sum of the chunks a device has received is a column
block of the whole product with the first weight, the sum of the products with the tiles of the second weight a column
block of the whole product with it. So a layer takes the blocks of the activations to the blocks of the next ones
(`layer_block`). Casts between float formats are the identity here, and sums may be taken in any order.
-/
module

public import proofs.«01_k».proof.Proof.Contents
public import proofs.«01_k».proof.Proof.Gen.ReferenceIdeal
public import Idealize.ShloMosaic.Lib.MatmulPlain
public import Idealize.ShloMosaic.Lib.StackMember
public import Idealize.ShloMosaic.Lib.Layout
public import Idealize.ShloMosaic.Lib.Pipeline.ValueKit.Acc

@[expose] public section

set_option maxRecDepth 65536

noncomputable section

namespace Cert.KernelIdealProof

open Cert.KernelIdeal Cert.KernelIdeal.Gen
open Idealize.ShloMosaic Idealize.ShloMosaic.ValueIdx
open scoped BigOperators

/-! ## The kernel's blocks, at an index -/

/-- A product of a block of activations with a tile of the first weight. -/
theorem pay2_at (X : FVec Ideal S64x2048 .bf16) (Z : FVec Ideal S2048x512 .f32) (r : Fin 64) (q : Fin 512) :
    k0_pay2 (F := Ideal) X (up numelI Z) (ix2 r q) = ∑ k : Fin 2048, (X (ix2 r k) * Z (ix2 k q) : EReal) := by
  have e : shapeCast S2048x512 (up numelI Z) shapeCasts_S1x2048x512_S2048x512 = Z :=
    shapeCast_shapeCast Z numelI shapeCasts_S1x2048x512_S2048x512
  unfold k0_pay2
  simp only [e]
  refine (Ideal.matmul_plain_apply none X (truncf .bf16 Z bitsLt_bf16_f32) _ r q).trans ?_
  show Ideal.ofBits .f32 0x00000000#32 + _ = _
  rw [Ideal.ofBits_zero_f32, zero_add]
  rfl

/-- The chunk a device keeps is that product; -/
theorem pay3_at (X : FVec Ideal S64x2048 .bf16) (Z : FVec Ideal S2048x512 .f32) (r : Fin 64) (q : Fin 512) :
    k0_pay3 (F := Ideal) X (up numelI Z) (ix2 r q) = ∑ k : Fin 2048, (X (ix2 r k) * Z (ix2 k q) : EReal) := by
  unfold k0_pay3
  simp only [shapeCast_self]
  exact pay2_at X Z r q

/-- so is the one it sends. -/
theorem pay4_at (X : FVec Ideal S64x2048 .bf16) (Z : FVec Ideal S2048x512 .f32) (r : Fin 64) (q : Fin 512) :
    k0_pay4 (F := Ideal) X (up numelI Z) ((Shape.reshapeEquiv numelA).symm (ix2 r q)) = ∑ k : Fin 2048, (X (ix2 r k) * Z (ix2 k q) : EReal) := by
  refine Eq.trans ?_ (pay2_at X Z r q)
  unfold k0_pay4
  show k0_pay2 (F := Ideal) X (up numelI Z) (Shape.reshapeEquiv _ ((Shape.reshapeEquiv numelA).symm (ix2 r q))) = _
  exact congrArg _ (Equiv.apply_symm_apply _ _)

/-- A landed chunk is added. -/
theorem pay27_at (A : FVec Ideal S64x512 .f32) (G : FVec Ideal S64x512 .bf16) (y : S64x512.Idx) :
    k0_pay27 (F := Ideal) A (up numelA G) y = (A y + G y : EReal) := by
  have e : shapeCast S64x512 (up numelA G) shapeCasts_S1x1x64x512_S64x512 = G :=
    shapeCast_shapeCast G numelA shapeCasts_S1x1x64x512_S64x512
  unfold k0_pay27
  simp only [e, shapeCast_self]
  rfl

/-- The hidden activations: the positive part. -/
theorem pay35_at (A : FVec Ideal S64x512 .f32) (y : S64x512.Idx) : k0_pay35 (F := Ideal) A y = max (A y : EReal) 0 := by
  unfold k0_pay35
  simp only [shapeCast_self]
  show max (A y) (Ideal.ofBits .f32 0x00000000#32) = _
  rw [Ideal.ofBits_zero_f32]

/-- A product of a block of hidden activations with a tile of the second weight. -/
theorem mul_at (H : FVec Ideal S64x512 .bf16) (Z : FVec Ideal S512x2048 .f32) (r : Fin 64) (k : Fin 2048) :
    matmul dot_S64x512_S512x2048_S64x2048_1_0_0_1_n_n none (Scalar.select 1#1 H (shapeCast S64x512 (up numelA H) shapeCasts_S1x1x64x512_S64x512))
      (truncf .bf16 (shapeCast S512x2048 (up numelO Z) shapeCasts_S1x512x2048_S512x2048) bitsLt_bf16_f32)
      (constant (F := Ideal) S64x2048 .f32 0x00000000#32) (ix2 r k) = ∑ q : Fin 512, (H (ix2 r q) * Z (ix2 q k) : EReal) := by
  have e : shapeCast S512x2048 (up numelO Z) shapeCasts_S1x512x2048_S512x2048 = Z :=
    shapeCast_shapeCast Z numelO shapeCasts_S1x512x2048_S512x2048
  rw [e]
  refine (Ideal.matmul_plain_apply none H (truncf .bf16 Z bitsLt_bf16_f32) _ r k).trans ?_
  show Ideal.ofBits .f32 0x00000000#32 + _ = _
  rw [Ideal.ofBits_zero_f32, zero_add]
  rfl

theorem pay36_at (H : FVec Ideal S64x512 .bf16) (Z : FVec Ideal S512x2048 .f32) (r : Fin 64) (k : Fin 2048) :
    k0_pay36 (F := Ideal) 0#32 H (up numelA H) (up numelO Z) (ix2 r k) = ∑ q : Fin 512, (H (ix2 r q) * Z (ix2 q k) : EReal) := by
  have e : k0_pay36 (F := Ideal) 0#32 H (up numelA H) (up numelO Z) = firstG (F := Ideal) 1#1 H (up numelA H) (up numelO Z) :=
    (firstG_eq (F := Ideal) 1#1 H (up numelA H) (up numelO Z) H (fun _ => rfl) fun h => absurd rfl h).symm
  rw [e]; unfold firstG
  rw [shapeCast_self]
  exact mul_at H Z r k

theorem pay37_at (H : FVec Ideal S64x512 .bf16) (Z : FVec Ideal S512x2048 .f32) (A : FVec Ideal S64x2048 .f32) (r : Fin 64) (k : Fin 2048) :
    k0_pay37 (F := Ideal) 1#32 H (up numelA H) (up numelO Z) A (ix2 r k) = A (ix2 r k) + ∑ q : Fin 512, (H (ix2 r q) * Z (ix2 q k) : EReal) := by
  have e : k0_pay37 (F := Ideal) 1#32 H (up numelA H) (up numelO Z) A = stepG (F := Ideal) 1#1 H (up numelA H) (up numelO Z) A :=
    (stepG_eq (F := Ideal) 1#1 H (up numelA H) (up numelO Z) A H (fun _ => rfl) fun h => absurd rfl h).symm
  rw [e]; unfold stepG
  rw [shapeCast_self]
  exact congrArg (A (ix2 r k) + · : EReal → EReal) (mul_at H Z r k)

/-! ## One device's layer -/

section Layer
variable (I : Inp Ideal) (X : Dev nD → FVec Ideal S64x2048 .bf16) (l : ℕ)

theorem wiT_at (c : Dev nD) (j : Fin 8) (k : Fin 2048) (q : Fin 512) :
    wiT I c (8 * l + j.val) (ix2 k q) = I.wi l c (ix2 k ⟨j.val * 512 + q.val, by omega⟩) := by
  have h1 : (8 * l + j.val) / 8 = l := by omega
  have h2 : (8 * l + j.val) % 8 = j.val := by omega
  unfold wiT
  rw [h1]
  refine congrArg (I.wi l c) (funext fun a => Fin.ext ?_)
  match a with
  | ⟨0, _⟩ => show 0 + 1 * k.val = k.val; omega
  | ⟨1, _⟩ => show 512 * ((8 * l + j.val) % 8) + 1 * q.val = j.val * 512 + q.val; omega

theorem woT_at (c : Dev nD) (j : Fin 8) (q : Fin 512) (k : Fin 2048) :
    woT I c (8 * l + j.val) (ix2 q k) = I.wo l c (ix2 ⟨j.val * 512 + q.val, by omega⟩ k) := by
  have h1 : (8 * l + j.val) / 8 = l := by omega
  unfold woT
  rw [h1]
  refine congrArg (I.wo l c) (funext fun a => Fin.ext ?_)
  match a with
  | ⟨0, _⟩ => show 512 * ((8 * l + j.val) % 8) + 1 * q.val = j.val * 512 + q.val; omega
  | ⟨1, _⟩ => show 0 + 1 * k.val = k.val; omega

/-- What device `d` contributes to entry `(r, q)` of device `c`'s share. -/
def give (c d : Fin 8) (r : Fin 64) (q : Fin 512) : EReal :=
  ∑ k : Fin 2048, (X d (ix2 r k) * I.wi l d (ix2 k ⟨c.val * 512 + q.val, by omega⟩) : EReal)

theorem own_at (c : Dev nD) (r : Fin 64) (q : Fin 512) : ownChunk I X l c (ix2 r q) = give I X l c c r q :=
  (pay3_at (X c) _ r q).trans (Finset.sum_congr rfl fun k _ => congrArg (X c (ix2 r k) * · : EReal → EReal) (wiT_at I l c c k q))

theorem sent_at (d c : Dev nD) (r : Fin 64) (q : Fin 512) : sent I X l d c (ix2 r q) = give I X l c d r q :=
  (pay4_at (X d) _ r q).trans (Finset.sum_congr rfl fun k _ => congrArg (X d (ix2 r k) * · : EReal → EReal) (wiT_at I l d c k q))

/-- The running sum after the devices before `n`: theirs, and the device's own if it is not among them. -/
theorem acc_at (c : Dev nD) (r : Fin 64) (q : Fin 512) (n : ℕ) : accV I X l c n (ix2 r q)
    = (if c.val < n then 0 else give I X l c c r q) + ∑ j ∈ Finset.range n, give I X l c (dv j) r q := by
  induction n with
  | zero => simpa [accV] using own_at I X l c r q
  | succ n ih =>
    rw [Finset.sum_range_succ]
    by_cases h : c.val = n
    · have e : accV I X l c (n + 1) = accV I X l c n := if_pos h
      have ed : dv n = c := h ▸ dv_val c
      rw [e, ih, ed, if_neg (by omega), if_pos (by omega), zero_add, add_comm]
    · have e : accV I X l c (n + 1) = k0_pay27 (accV I X l c n) (up numelA (sent I X l (dv n) c)) := if_neg h
      rw [e]
      refine (pay27_at _ _ _).trans ?_
      rw [sent_at, ih, add_assoc]
      by_cases h' : c.val < n
      · rw [if_pos h', if_pos (by omega)]
      · rw [if_neg h', if_neg (by omega)]

/-- A device's share of the hidden activations: the positive part of what all devices contribute. -/
theorem hid_at (c : Dev nD) (r : Fin 64) (q : Fin 512) :
    hid I X l c (ix2 r q) = max (∑ d : Fin 8, give I X l c d r q) 0 := by
  refine (pay35_at _ _).trans (congrArg (max · (0 : EReal)) ?_)
  rw [acc_at, if_pos c.isLt, zero_add, Finset.sum_range]
  exact Finset.sum_congr rfl fun d _ => by rw [dv_val d]

/-- What device `j`'s hidden activations contribute to entry `(r, k)` of device `c`'s result. -/
def give2 (c j : Fin 8) (r : Fin 64) (k : Fin 2048) : EReal :=
  ∑ q : Fin 512, (hid I X l j (ix2 r q) * I.wo l c (ix2 ⟨j.val * 512 + q.val, by omega⟩ k) : EReal)

theorem prod_at (c : Dev nD) (r : Fin 64) (k : Fin 2048) (n : ℕ) (hn : n < 8) :
    prodV I X l c n (ix2 r k) = ∑ j ∈ Finset.range (n + 1), give2 I X l c (dv j) r k := by
  have step (j : ℕ) (hj : j < 8) : ∑ q : Fin 512, (hid I X l (dv j) (ix2 r q) * woT I c (8 * l + j) (ix2 q k) : EReal) = give2 I X l c (dv j) r k := by
    have ej : (dv j).val = j := Nat.mod_eq_of_lt hj
    refine Finset.sum_congr rfl fun q _ => congrArg (hid I X l (dv j) (ix2 r q) * · : EReal → EReal) ?_
    rw [show 8 * l + j = 8 * l + (dv j).val by rw [ej]]
    exact woT_at I l c (dv j) q k
  induction n with
  | zero => rw [Finset.sum_range_one]; exact (pay36_at _ _ r k).trans (step 0 hn)
  | succ n ih =>
    rw [Finset.sum_range_succ, ← ih (by omega)]
    exact (pay37_at _ _ _ r k).trans (congrArg (prodV I X l c n (ix2 r k) + · : EReal → EReal) (step (n + 1) hn))

theorem prod_last (c : Dev nD) (r : Fin 64) (k : Fin 2048) : prodV I X l c 7 (ix2 r k) = ∑ j : Fin 8, give2 I X l c j r k := by
  rw [prod_at I X l c r k 7 (by omega), Finset.sum_range]
  exact Finset.sum_congr rfl fun d _ => by rw [dv_val d]

end Layer

/-! ## The reference's layer -/

/-- A layer of the reference before the second product: the positive part of the first. -/
def refHid (X : FVec Ideal Cert.ReferenceIdeal.S64x16384 .f32) (Wi : FVec Ideal Cert.ReferenceIdeal.S16384x4096 .f32) : FVec Ideal Cert.ReferenceIdeal.S64x4096 .f32 :=
  maximumf (Host.dotGeneral Cert.ReferenceIdeal.dot_S64x16384_S16384x4096_S64x4096_1_0_0_1_n_n none X Wi)
    (broadcastInDim Cert.ReferenceIdeal.S64x4096 ![] Cert.ReferenceIdeal.Facts₀.bcast_S_S64x4096 (constant Cert.ReferenceIdeal.S_ .f32 0x00000000#32))

/-- A layer of the reference. -/
def refLayer (X : FVec Ideal Cert.ReferenceIdeal.S64x16384 .f32) (Wi : FVec Ideal Cert.ReferenceIdeal.S16384x4096 .f32)
    (Wo : FVec Ideal Cert.ReferenceIdeal.S4096x16384 .f32) : FVec Ideal Cert.ReferenceIdeal.S64x16384 .f32 :=
  Host.dotGeneral Cert.ReferenceIdeal.dot_S64x4096_S4096x16384_S64x16384_1_0_0_1_n_n none (refHid X Wi) Wo

theorem refHid_at (X : FVec Ideal Cert.ReferenceIdeal.S64x16384 .f32) (Wi : FVec Ideal Cert.ReferenceIdeal.S16384x4096 .f32) (r : Fin 64) (n : Fin 4096) :
    refHid X Wi (ix2 r n) = max (∑ K : Fin 16384, (X (ix2 r K) * Wi (ix2 K n) : EReal)) 0 := by
  have e := StackMember.dotGeneral_plain_apply none X Wi r n
  show max (Host.dotGeneral Cert.ReferenceIdeal.dot_S64x16384_S16384x4096_S64x4096_1_0_0_1_n_n none X Wi (ix2 r n)) (Ideal.ofBits .f32 0x00000000#32) = _
  rw [Ideal.ofBits_zero_f32]
  exact congrArg (max · (0 : EReal)) e

theorem refLayer_at (X : FVec Ideal Cert.ReferenceIdeal.S64x16384 .f32) (Wi : FVec Ideal Cert.ReferenceIdeal.S16384x4096 .f32)
    (Wo : FVec Ideal Cert.ReferenceIdeal.S4096x16384 .f32) (r : Fin 64) (n : Fin 16384) :
    refLayer X Wi Wo (ix2 r n) = ∑ K : Fin 4096, (refHid X Wi (ix2 r K) * Wo (ix2 K n) : EReal) :=
  StackMember.dotGeneral_plain_apply none (refHid X Wi) Wo r n

/-! ## Blocks -/

/-- Column block `c` of eight, at an index; -/
theorem colBlock_at {R : ℕ} (c : Fin 8) (V : (⟨2, ![R, 16384]⟩ : Shape).Idx → EReal) (h : Layout.Tiles ⟨2, ![R, 2048]⟩ ⟨2, ![R, 16384]⟩ 1 8)
    (r : Fin R) (k : Fin 2048) :
    Layout.block ⟨2, ![R, 2048]⟩ ⟨2, ![R, 16384]⟩ 1 8 c V h (ix2 r k) = V (ix2 r ⟨c.val * 2048 + k.val, by omega⟩) := by
  refine congrArg V (funext fun a => Fin.ext ?_)
  rw [Layout.Tiles.idx_val]
  match a with
  | ⟨0, _⟩ => rfl
  | ⟨1, _⟩ => rfl

/-- row block `c` of eight. -/
theorem rowBlock_at {N : ℕ} (c : Fin 8) (V : (⟨2, ![16384, N]⟩ : Shape).Idx → EReal) (h : Layout.Tiles ⟨2, ![2048, N]⟩ ⟨2, ![16384, N]⟩ 0 8)
    (k : Fin 2048) (n : Fin N) :
    Layout.block ⟨2, ![2048, N]⟩ ⟨2, ![16384, N]⟩ 0 8 c V h (ix2 k n) = V (ix2 ⟨c.val * 2048 + k.val, by omega⟩ n) := by
  refine congrArg V (funext fun a => Fin.ext ?_)
  rw [Layout.Tiles.idx_val]
  match a with
  | ⟨0, _⟩ => rfl
  | ⟨1, _⟩ => rfl

/-! ## A layer takes blocks to blocks -/

/-- If the devices start layer `l` with the column blocks of `Y` and hold the row blocks of `Wi` and the column blocks of `Wo`, they end it with
    the column blocks of the reference's layer. -/
theorem layer_block (I : Inp Ideal) (X : Dev nD → FVec Ideal S64x2048 .bf16) (l : ℕ) (Y : FVec Ideal Cert.ReferenceIdeal.S64x16384 .f32)
    (Wi : FVec Ideal Cert.ReferenceIdeal.S16384x4096 .f32) (Wo : FVec Ideal Cert.ReferenceIdeal.S4096x16384 .f32)
    (hX : ∀ c, X c = Layout.block ⟨2, ![64, 2048]⟩ ⟨2, ![64, 16384]⟩ 1 8 c Y)
    (hi : ∀ c, I.wi l c = Layout.block ⟨2, ![2048, 4096]⟩ ⟨2, ![16384, 4096]⟩ 0 8 c Wi)
    (ho : ∀ c, I.wo l c = Layout.block ⟨2, ![4096, 2048]⟩ ⟨2, ![4096, 16384]⟩ 1 8 c Wo) (c : Dev nD) :
    prodV I X l c 7 = Layout.block ⟨2, ![64, 2048]⟩ ⟨2, ![64, 16384]⟩ 1 8 c (refLayer Y Wi Wo) := by
  have hh (j : Fin 8) (r : Fin 64) (q : Fin 512) : hid I X l j (ix2 r q) = refHid Y Wi (ix2 r ⟨j.val * 512 + q.val, by omega⟩) := by
    rw [hid_at, refHid_at]
    refine congrArg (max · (0 : EReal)) ?_
    refine Fin.sum_mul_add_congr (S := 8) (n := 2048) fun d k hl => ?_
    rw [hX d, hi d]
    exact congrArg₂ (· * · : EReal → EReal → EReal) (colBlock_at d Y _ r k) (rowBlock_at d Wi _ k _)
  funext y
  obtain ⟨r, k, rfl⟩ : ∃ (r : Fin 64) (k : Fin 2048), y = ix2 r k := ⟨y 0, y 1, eq_ix2 y⟩
  refine (prod_last I X l c r k).trans (Eq.trans ?_ (colBlock_at c (refLayer Y Wi Wo) _ r k).symm)
  rw [refLayer_at]
  refine Fin.sum_mul_add_congr (S := 8) (n := 512) fun j q hl => ?_
  rw [ho c]
  exact congrArg₂ (· * · : EReal → EReal → EReal) (hh j r q) (colBlock_at c Wo _ _ k)

end Cert.KernelIdealProof

end
-- ==== Proof.Equation.lean ====
/-
# 01_k — the kernel over the reals computes the reference

Three layers of `layer_block`: from the blocks of the reference's arguments, device `c` ends with column block `c` of the
reference's result (`out_block`); with the two runs this is the algebraic claim.
-/
module

public import proofs.«01_k».proof.Defs
public import proofs.«01_k».proof.Proof.Algebra
public import proofs.«01_k».proof.Proof.Launch
public import proofs.«01_k».proof.Proof.Gen.ReferenceIdeal.Run

@[expose] public section

set_option maxRecDepth 65536

noncomputable section

namespace Cert.KernelIdealProof

open Cert.KernelIdeal Cert.KernelIdeal.Gen
open Idealize.ShloMosaic Idealize.ShloMosaic.TcCoe Idealize.SL.Sem

/-- A cast to the narrower format changes nothing over the reals: at the start, -/
theorem pay1_id (A : FVec Ideal S64x2048 .f32) : k0_pay1 (F := Ideal) A = A := by
  unfold k0_pay1
  simp only [shapeCast_self]
  rfl

/-- and between layers. -/
theorem pay44_id (A : FVec Ideal S64x2048 .f32) : k0_pay44 (F := Ideal) A = A := by
  unfold k0_pay44
  simp only [shapeCast_self]
  rfl

section Chain
variable (I : Inp Ideal) (x : FVec Ideal Cert.ReferenceIdeal.S64x16384 .f32)
  (Wi : ℕ → FVec Ideal Cert.ReferenceIdeal.S16384x4096 .f32) (Wo : ℕ → FVec Ideal Cert.ReferenceIdeal.S4096x16384 .f32)

/-- The reference's activations before layer `l`. -/
def refX : ℕ → FVec Ideal Cert.ReferenceIdeal.S64x16384 .f32
  | 0 => x
  | l + 1 => refLayer (refX l) (Wi l) (Wo l)

variable (hx : ∀ c, I.x c = Layout.block ⟨2, ![64, 2048]⟩ ⟨2, ![64, 16384]⟩ 1 8 c x)
  (hi : ∀ l c, I.wi l c = Layout.block ⟨2, ![2048, 4096]⟩ ⟨2, ![16384, 4096]⟩ 0 8 c (Wi l))
  (ho : ∀ l c, I.wo l c = Layout.block ⟨2, ![4096, 2048]⟩ ⟨2, ![4096, 16384]⟩ 1 8 c (Wo l))

include hx hi ho

/-- Every device starts every layer with its block of the reference's activations. -/
theorem x_block (l : ℕ) (c : Dev nD) : xV I l c = Layout.block ⟨2, ![64, 2048]⟩ ⟨2, ![64, 16384]⟩ 1 8 c (refX x Wi Wo l) := by
  induction l generalizing c with
  | zero => exact (pay1_id (I.x c)).trans (hx c)
  | succ l ih => exact (pay44_id _).trans (layer_block I (xV I l) l _ (Wi l) (Wo l) ih (hi l) (ho l) c)

/-- The result is the block of the reference's. -/
theorem out_block (c : Dev nD) : outV I c = Layout.block ⟨2, ![64, 2048]⟩ ⟨2, ![64, 16384]⟩ 1 8 c (refX x Wi Wo 3) :=
  layer_block I (xV I 2) 2 _ (Wi 2) (Wo 2) (x_block I x Wi Wo hx hi ho 2) (hi 2) (ho 2) c

end Chain

/-- The kernel over the reals computes the reference, block by block. -/
theorem algebraic : Cert.algebraic_KernelIdeal_ReferenceIdeal := fun m g m' g' _ hag => by
  let at' (b : Ref Cert.ReferenceIdeal.sig .tc) := m' (((0 : Dev Cert.ReferenceIdeal.nD).tc : Thread Cert.ReferenceIdeal.nD Cert.ReferenceIdeal.τ).loc b)
  let Wi : ℕ → FVec Ideal Cert.ReferenceIdeal.S16384x4096 .f32 := fun
    | 0 => at' Cert.ReferenceIdeal.main_arg1
    | 1 => at' Cert.ReferenceIdeal.main_arg3
    | _ => at' Cert.ReferenceIdeal.main_arg5
  let Wo : ℕ → FVec Ideal Cert.ReferenceIdeal.S4096x16384 .f32 := fun
    | 0 => at' Cert.ReferenceIdeal.main_arg2
    | 1 => at' Cert.ReferenceIdeal.main_arg4
    | _ => at' Cert.ReferenceIdeal.main_arg6
  have hx : ∀ c, (inp m).x c = Layout.block ⟨2, ![64, 2048]⟩ ⟨2, ![64, 16384]⟩ 1 8 c (at' Cert.ReferenceIdeal.main_arg0) := fun c => (hag c).1
  have hi : ∀ l c, (inp m).wi l c = Layout.block ⟨2, ![2048, 4096]⟩ ⟨2, ![16384, 4096]⟩ 0 8 c (Wi l) := fun
    | 0, c => (hag c).2.1
    | 1, c => (hag c).2.2.2.1
    | _ + 2, c => (hag c).2.2.2.2.2.1
  have ho : ∀ l c, (inp m).wo l c = Layout.block ⟨2, ![4096, 2048]⟩ ⟨2, ![4096, 16384]⟩ 1 8 c (Wo l) := fun
    | 0, c => (hag c).2.2.1
    | 1, c => (hag c).2.2.2.2.1
    | _ + 2, c => (hag c).2.2.2.2.2.2
  refine ⟨refX (at' Cert.ReferenceIdeal.main_arg0) Wi Wo 3, ?_, ?_⟩
  · refine θ_run_mono (run_values (m := m) (ρ := g)) fun _ h c =>
      ⟨(h.1 c).1.trans (out_block (inp m) _ Wi Wo hx hi ho c), (h.1 c).2.1, (h.1 c).2.2 0, (h.1 c).2.2 1, (h.1 c).2.2 2, (h.1 c).2.2 3,
        (h.1 c).2.2 4, (h.1 c).2.2 5⟩
  · exact θ_run_mono (Cert.ReferenceIdeal.Value.run (F := Ideal) m' g') fun _ h => ⟨(h 0).1, (h 0).2⟩

end Cert.KernelIdealProof

end
-- ==== Proof.lean ====
/-
# 01_k — the certificate

The frames of the kernel and of the reference (Frames.lean) and the equation of the two over the reals (Equation.lean),
put together. No rewriting was used, so there is nothing to prove of `preserves`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdealProof.frame_kernel, Cert.KernelIdealProof.frame_kernelIdeal, Cert.KernelIdealProof.frame_reference, trivial,
  Cert.KernelIdealProof.algebraic⟩

end Cert.Proof

end
